-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x768 : Shape := ⟨2, ![512, 768]⟩
abbrev S768x512 : Shape := ⟨2, ![768, 512]⟩
abbrev S768x128 : Shape := ⟨2, ![768, 128]⟩
abbrev S512x512 : Shape := ⟨2, ![512, 512]⟩
abbrev S256x384 : Shape := ⟨2, ![256, 384]⟩
abbrev S128x384 : Shape := ⟨2, ![128, 384]⟩
abbrev S5 : Shape := ⟨1, ![5]⟩
abbrev S8 : Shape := ⟨1, ![8]⟩
abbrev S1 : Shape := ⟨1, ![1]⟩
abbrev S_ : Shape := ⟨0, ![]⟩
abbrev S256x768 : Shape := ⟨2, ![256, 768]⟩
abbrev S256x512 : Shape := ⟨2, ![256, 512]⟩
abbrev S256x128 : Shape := ⟨2, ![256, 128]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S512x384 : Shape := ⟨2, ![512, 384]⟩

abbrev nBuf : Space → Nat
  | .hbm => 6
  | .vmem => 12
  | .smem => 0
  | _ => 0

abbrev bufTy : (tb : Table) → Fin (tcTables nBuf tb) → BufTy
  | .hbm, ⟨0, _⟩ => ⟨S512x768, .bf16⟩
  | .hbm, ⟨1, _⟩ => ⟨S768x512, .bf16⟩
  | .hbm, ⟨2, _⟩ => ⟨S768x512, .bf16⟩
  | .hbm, ⟨3, _⟩ => ⟨S768x512, .bf16⟩
  | .hbm, ⟨4, _⟩ => ⟨S512x768, .bf16⟩
  | .hbm, ⟨5, _⟩ => ⟨S512x768, .f32⟩
  | .local _ .vmem, ⟨0, _⟩ => ⟨S512x768, .f32⟩
  | .local _ .vmem, ⟨1, _⟩ => ⟨S512x768, .bf16⟩
  | .local _ .vmem, ⟨2, _⟩ => ⟨S768x512, .bf16⟩
  | .local _ .vmem, ⟨3, _⟩ => ⟨S768x128, .bf16⟩
  | .local _ .vmem, ⟨4, _⟩ => ⟨S768x128, .bf16⟩
  | .local _ .vmem, ⟨5, _⟩ => ⟨S512x768, .bf16⟩
  | .local _ .vmem, ⟨6, _⟩ => ⟨S512x768, .bf16⟩
  | .local _ .vmem, ⟨7, _⟩ => ⟨S512x512, .bf16⟩
  | .local _ .vmem, ⟨8, _⟩ => ⟨S256x384, .bf16⟩
  | .local _ .vmem, ⟨9, _⟩ => ⟨S256x384, .bf16⟩
  | .local _ .vmem, ⟨10, _⟩ => ⟨S128x384, .bf16⟩
  | .local _ .vmem, ⟨11, _⟩ => ⟨S128x384, .bf16⟩
  | _, _ => ⟨S512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_33 : BitVec 32 := 2#32
  let v77 : BitVec 32 := Scalar.muli v2 c2_i32_33
  let c64_i32 : BitVec 32 := 64#32
  let v78 : BitVec 32 := Scalar.muli v77 c64_i32
  ![0, v78.toNat]
def k0_dev1 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_44 : BitVec 32 := 1#32
  let v94 : BitVec 32 := Scalar.muli v3 c1_i32_44
  let v95 : BitVec 32 := Scalar.addi c0_i32_45 v94
  v95.toNat
def k0_dev2 (d0 : Dev nD) : Nat :=
  let c0_i32_48 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_47 : BitVec 32 := 1#32
  let v96 : BitVec 32 := Scalar.muli v4 c1_i32_47
  let v97 : BitVec 32 := Scalar.addi c0_i32_48 v96
  v97.toNat
def k0_off2 (d0 : Dev nD) : Fin 2 → Nat :=
  let c1_i32_55 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let v108 : BitVec 32 := Scalar.subi c1_i32_55 v32
  let c256_i32 : BitVec 32 := 256#32
  let v109 : BitVec 32 := Scalar.muli v108 c256_i32
  let v110 : Index := Scalar.indexCast v109
  let c0 : Index := 0#32
  ![v110.toNat, 0]
def k0_off3 (d0 : Dev nD) : Fin 2 → Nat :=
  let c1_i32_55 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let v108 : BitVec 32 := Scalar.subi c1_i32_55 v32
  let c256_i32 : BitVec 32 := 256#32
  let v109 : BitVec 32 := Scalar.muli v108 c256_i32
  let v139 : Index := Scalar.indexCast v109
  let c0_69 : Index := 0#32
  ![v139.toNat, 0]
def k0_off4 (d0 : Dev nD) : Fin 2 → Nat :=
  let c1_i32_55 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let v108 : BitVec 32 := Scalar.subi c1_i32_55 v32
  let c256_i32 : BitVec 32 := 256#32
  let v109 : BitVec 32 := Scalar.muli v108 c256_i32
  let v161 : Index := Scalar.indexCast v109
  let c64 : Index := 64#32
  ![v161.toNat, 64]
def k0_off5 (d0 : Dev nD) : Fin 2 → Nat :=
  let c1_i32_55 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let v108 : BitVec 32 := Scalar.subi c1_i32_55 v32
  let c256_i32 : BitVec 32 := 256#32
  let v109 : BitVec 32 := Scalar.muli v108 c256_i32
  let v183 : Index := Scalar.indexCast v109
  let c128 : Index := 128#32
  ![v183.toNat, 128]
def k0_off6 (d0 : Dev nD) : Fin 2 → Nat :=
  let c1_i32_55 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let v108 : BitVec 32 := Scalar.subi c1_i32_55 v32
  let c256_i32 : BitVec 32 := 256#32
  let v109 : BitVec 32 := Scalar.muli v108 c256_i32
  let v205 : Index := Scalar.indexCast v109
  let c192 : Index := 192#32
  ![v205.toNat, 192]
def k0_off7 (d0 : Dev nD) : Fin 2 → Nat :=
  let c1_i32_55 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let v108 : BitVec 32 := Scalar.subi c1_i32_55 v32
  let c256_i32 : BitVec 32 := 256#32
  let v109 : BitVec 32 := Scalar.muli v108 c256_i32
  let v227 : Index := Scalar.indexCast v109
  let c256 : Index := 256#32
  ![v227.toNat, 256]
def k0_off8 (d0 : Dev nD) : Fin 2 → Nat :=
  let c1_i32_55 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let v108 : BitVec 32 := Scalar.subi c1_i32_55 v32
  let c256_i32 : BitVec 32 := 256#32
  let v109 : BitVec 32 := Scalar.muli v108 c256_i32
  let v249 : Index := Scalar.indexCast v109
  let c320 : Index := 320#32
  ![v249.toNat, 320]
def k0_off9 (d0 : Dev nD) : Fin 2 → Nat :=
  let c1_i32_55 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let v108 : BitVec 32 := Scalar.subi c1_i32_55 v32
  let c256_i32 : BitVec 32 := 256#32
  let v109 : BitVec 32 := Scalar.muli v108 c256_i32
  let v271 : Index := Scalar.indexCast v109
  let c384 : Index := 384#32
  ![v271.toNat, 384]
def k0_off10 (d0 : Dev nD) : Fin 2 → Nat :=
  let c1_i32_55 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let v108 : BitVec 32 := Scalar.subi c1_i32_55 v32
  let c256_i32 : BitVec 32 := 256#32
  let v109 : BitVec 32 := Scalar.muli v108 c256_i32
  let v293 : Index := Scalar.indexCast v109
  let c448 : Index := 448#32
  ![v293.toNat, 448]
def k0_off11 (d0 : Dev nD) : Fin 2 → Nat :=
  let c1_i32_106 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let v299 : BitVec 32 := Scalar.subi c1_i32_106 v32
  let c256_i32_107 : BitVec 32 := 256#32
  let v300 : BitVec 32 := Scalar.muli v299 c256_i32_107
  let v301 : Index := Scalar.indexCast v300
  let c0_108 : Index := 0#32
  ![v301.toNat, 0]
def k0_off12 (d0 : Dev nD) : Fin 2 → Nat :=
  let c1_i32_106 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let v299 : BitVec 32 := Scalar.subi c1_i32_106 v32
  let c256_i32_107 : BitVec 32 := 256#32
  let v300 : BitVec 32 := Scalar.muli v299 c256_i32_107
  let v306 : Index := Scalar.indexCast v300
  let c0_112 : Index := 0#32
  ![v306.toNat, 0]
def k0_off13 (d0 : Dev nD) : Fin 2 → Nat :=
  let c1_i32_114 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let v310 : BitVec 32 := Scalar.subi c1_i32_114 v32
  let c256_i32_115 : BitVec 32 := 256#32
  let v311 : BitVec 32 := Scalar.muli v310 c256_i32_115
  let c0_i32_120 : BitVec 32 := 0#32
  ![v311.toNat, 0]
def k0_dev3 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_118 : BitVec 32 := 1#32
  let v312 : BitVec 32 := Scalar.muli v3 c1_i32_118
  let v313 : BitVec 32 := Scalar.addi c0_i32_119 v312
  v313.toNat
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let c256_i32_121 : BitVec 32 := 256#32
  let v319 : BitVec 32 := Scalar.muli v32 c256_i32_121
  let v320 : Index := Scalar.indexCast v319
  let c0_122 : Index := 0#32
  ![v320.toNat, 0]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let c256_i32_121 : BitVec 32 := 256#32
  let v319 : BitVec 32 := Scalar.muli v32 c256_i32_121
  let v349 : Index := Scalar.indexCast v319
  let c0_137 : Index := 0#32
  ![v349.toNat, 0]
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let c256_i32_121 : BitVec 32 := 256#32
  let v319 : BitVec 32 := Scalar.muli v32 c256_i32_121
  let v371 : Index := Scalar.indexCast v319
  let c64_143 : Index := 64#32
  ![v371.toNat, 64]
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let c256_i32_121 : BitVec 32 := 256#32
  let v319 : BitVec 32 := Scalar.muli v32 c256_i32_121
  let v393 : Index := Scalar.indexCast v319
  let c128_149 : Index := 128#32
  ![v393.toNat, 128]
def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let c256_i32_121 : BitVec 32 := 256#32
  let v319 : BitVec 32 := Scalar.muli v32 c256_i32_121
  let v415 : Index := Scalar.indexCast v319
  let c192_155 : Index := 192#32
  ![v415.toNat, 192]
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let c256_i32_121 : BitVec 32 := 256#32
  let v319 : BitVec 32 := Scalar.muli v32 c256_i32_121
  let v437 : Index := Scalar.indexCast v319
  let c256_161 : Index := 256#32
  ![v437.toNat, 256]
def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let c256_i32_121 : BitVec 32 := 256#32
  let v319 : BitVec 32 := Scalar.muli v32 c256_i32_121
  let v459 : Index := Scalar.indexCast v319
  let c320_167 : Index := 320#32
  ![v459.toNat, 320]
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let c256_i32_121 : BitVec 32 := 256#32
  let v319 : BitVec 32 := Scalar.muli v32 c256_i32_121
  let v481 : Index := Scalar.indexCast v319
  let c384_173 : Index := 384#32
  ![v481.toNat, 384]
def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let c256_i32_121 : BitVec 32 := 256#32
  let v319 : BitVec 32 := Scalar.muli v32 c256_i32_121
  let v503 : Index := Scalar.indexCast v319
  let c448_179 : Index := 448#32
  ![v503.toNat, 448]
def k0_off23 (d0 : Dev nD) : Fin 2 → Nat :=
  let c1_i32_180 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_21 : BitVec 32 := 0#32
  let v51 : BitVec 1 := Scalar.cmpi .sgt v2 c0_i32_21
  let v52 : BitVec 32 := Scalar.extui v51
  let c0_i32_22 : BitVec 32 := 0#32
  let v53 : BitVec 1 := Scalar.cmpi .slt v2 c0_i32_22
  let v54 : BitVec 32 := Scalar.extui v53
  let v55 : BitVec 32 := Scalar.subi v52 v54
  let c2_i32_20 : BitVec 32 := 2#32
  let c0_i32_23 : BitVec 32 := 0#32
  let v56 : BitVec 1 := Scalar.cmpi .sgt c2_i32_20 c0_i32_23
  let v57 : BitVec 32 := Scalar.extui v56
  let c0_i32_24 : BitVec 32 := 0#32
  let v58 : BitVec 1 := Scalar.cmpi .slt c2_i32_20 c0_i32_24
  let v59 : BitVec 32 := Scalar.extui v58
  let v60 : BitVec 32 := Scalar.subi v57 v59
  let v61 : BitVec 1 := Scalar.cmpi .ne v55 v60
  let v62 : BitVec 32 := Scalar.remsi v2 c2_i32_20
  let c0_i32_25 : BitVec 32 := 0#32
  let v63 : BitVec 1 := Scalar.cmpi .ne v62 c0_i32_25
  let v64 : BitVec 1 := Scalar.andi v61 v63
  let v50 : BitVec 32 := Scalar.divsi v2 c2_i32_20
  let c1_i32_26 : BitVec 32 := 1#32
  let v65 : BitVec 32 := Scalar.subi v50 c1_i32_26
  let v66 : BitVec 32 := Scalar.select v64 v65 v50
  let v507 : BitVec 32 := Scalar.subi c1_i32_180 v66
  let c256_i32_181 : BitVec 32 := 256#32
  let v508 : BitVec 32 := Scalar.muli v507 c256_i32_181
  let v509 : Index := Scalar.indexCast v508
  let c0_182 : Index := 0#32
  ![v509.toNat, 0]
def k0_off24 (d0 : Dev nD) : Fin 2 → Nat :=
  let c1_i32_180 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_21 : BitVec 32 := 0#32
  let v51 : BitVec 1 := Scalar.cmpi .sgt v2 c0_i32_21
  let v52 : BitVec 32 := Scalar.extui v51
  let c0_i32_22 : BitVec 32 := 0#32
  let v53 : BitVec 1 := Scalar.cmpi .slt v2 c0_i32_22
  let v54 : BitVec 32 := Scalar.extui v53
  let v55 : BitVec 32 := Scalar.subi v52 v54
  let c2_i32_20 : BitVec 32 := 2#32
  let c0_i32_23 : BitVec 32 := 0#32
  let v56 : BitVec 1 := Scalar.cmpi .sgt c2_i32_20 c0_i32_23
  let v57 : BitVec 32 := Scalar.extui v56
  let c0_i32_24 : BitVec 32 := 0#32
  let v58 : BitVec 1 := Scalar.cmpi .slt c2_i32_20 c0_i32_24
  let v59 : BitVec 32 := Scalar.extui v58
  let v60 : BitVec 32 := Scalar.subi v57 v59
  let v61 : BitVec 1 := Scalar.cmpi .ne v55 v60
  let v62 : BitVec 32 := Scalar.remsi v2 c2_i32_20
  let c0_i32_25 : BitVec 32 := 0#32
  let v63 : BitVec 1 := Scalar.cmpi .ne v62 c0_i32_25
  let v64 : BitVec 1 := Scalar.andi v61 v63
  let v50 : BitVec 32 := Scalar.divsi v2 c2_i32_20
  let c1_i32_26 : BitVec 32 := 1#32
  let v65 : BitVec 32 := Scalar.subi v50 c1_i32_26
  let v66 : BitVec 32 := Scalar.select v64 v65 v50
  let v507 : BitVec 32 := Scalar.subi c1_i32_180 v66
  let c256_i32_181 : BitVec 32 := 256#32
  let v508 : BitVec 32 := Scalar.muli v507 c256_i32_181
  let v514 : Index := Scalar.indexCast v508
  let c384_186 : Index := 384#32
  ![v514.toNat, 384]
def k0_off25 (d0 : Dev nD) : Fin 2 → Nat :=
  let c1_i32_187 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_21 : BitVec 32 := 0#32
  let v51 : BitVec 1 := Scalar.cmpi .sgt v2 c0_i32_21
  let v52 : BitVec 32 := Scalar.extui v51
  let c0_i32_22 : BitVec 32 := 0#32
  let v53 : BitVec 1 := Scalar.cmpi .slt v2 c0_i32_22
  let v54 : BitVec 32 := Scalar.extui v53
  let v55 : BitVec 32 := Scalar.subi v52 v54
  let c2_i32_20 : BitVec 32 := 2#32
  let c0_i32_23 : BitVec 32 := 0#32
  let v56 : BitVec 1 := Scalar.cmpi .sgt c2_i32_20 c0_i32_23
  let v57 : BitVec 32 := Scalar.extui v56
  let c0_i32_24 : BitVec 32 := 0#32
  let v58 : BitVec 1 := Scalar.cmpi .slt c2_i32_20 c0_i32_24
  let v59 : BitVec 32 := Scalar.extui v58
  let v60 : BitVec 32 := Scalar.subi v57 v59
  let v61 : BitVec 1 := Scalar.cmpi .ne v55 v60
  let v62 : BitVec 32 := Scalar.remsi v2 c2_i32_20
  let c0_i32_25 : BitVec 32 := 0#32
  let v63 : BitVec 1 := Scalar.cmpi .ne v62 c0_i32_25
  let v64 : BitVec 1 := Scalar.andi v61 v63
  let v50 : BitVec 32 := Scalar.divsi v2 c2_i32_20
  let c1_i32_26 : BitVec 32 := 1#32
  let v65 : BitVec 32 := Scalar.subi v50 c1_i32_26
  let v66 : BitVec 32 := Scalar.select v64 v65 v50
  let v518 : BitVec 32 := Scalar.subi c1_i32_187 v66
  let c256_i32_188 : BitVec 32 := 256#32
  let v519 : BitVec 32 := Scalar.muli v518 c256_i32_188
  let c384_i32 : BitVec 32 := 384#32
  ![v519.toNat, 384]
def k0_dev4 (d0 : Dev nD) : Nat :=
  let c0_i32_192 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_191 : BitVec 32 := 1#32
  let v520 : BitVec 32 := Scalar.muli v4 c1_i32_191
  let v521 : BitVec 32 := Scalar.addi c0_i32_192 v520
  v521.toNat
def k0_off26 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let c256_i32_193 : BitVec 32 := 256#32
  let v527 : BitVec 32 := Scalar.muli v32 c256_i32_193
  let v528 : Index := Scalar.indexCast v527
  let c0_194 : Index := 0#32
  ![v528.toNat, 0]
def k0_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let c256_i32_193 : BitVec 32 := 256#32
  let v527 : BitVec 32 := Scalar.muli v32 c256_i32_193
  let v533 : Index := Scalar.indexCast v527
  let c0_198 : Index := 0#32
  ![v533.toNat, 0]
def k0_off28 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_21 : BitVec 32 := 0#32
  let v51 : BitVec 1 := Scalar.cmpi .sgt v2 c0_i32_21
  let v52 : BitVec 32 := Scalar.extui v51
  let c0_i32_22 : BitVec 32 := 0#32
  let v53 : BitVec 1 := Scalar.cmpi .slt v2 c0_i32_22
  let v54 : BitVec 32 := Scalar.extui v53
  let v55 : BitVec 32 := Scalar.subi v52 v54
  let c2_i32_20 : BitVec 32 := 2#32
  let c0_i32_23 : BitVec 32 := 0#32
  let v56 : BitVec 1 := Scalar.cmpi .sgt c2_i32_20 c0_i32_23
  let v57 : BitVec 32 := Scalar.extui v56
  let c0_i32_24 : BitVec 32 := 0#32
  let v58 : BitVec 1 := Scalar.cmpi .slt c2_i32_20 c0_i32_24
  let v59 : BitVec 32 := Scalar.extui v58
  let v60 : BitVec 32 := Scalar.subi v57 v59
  let v61 : BitVec 1 := Scalar.cmpi .ne v55 v60
  let v62 : BitVec 32 := Scalar.remsi v2 c2_i32_20
  let c0_i32_25 : BitVec 32 := 0#32
  let v63 : BitVec 1 := Scalar.cmpi .ne v62 c0_i32_25
  let v64 : BitVec 1 := Scalar.andi v61 v63
  let v50 : BitVec 32 := Scalar.divsi v2 c2_i32_20
  let c1_i32_26 : BitVec 32 := 1#32
  let v65 : BitVec 32 := Scalar.subi v50 c1_i32_26
  let v66 : BitVec 32 := Scalar.select v64 v65 v50
  let c256_i32_199 : BitVec 32 := 256#32
  let v537 : BitVec 32 := Scalar.muli v66 c256_i32_199
  let v538 : Index := Scalar.indexCast v537
  let c0_200 : Index := 0#32
  ![v538.toNat, 0]
def k0_off29 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_21 : BitVec 32 := 0#32
  let v51 : BitVec 1 := Scalar.cmpi .sgt v2 c0_i32_21
  let v52 : BitVec 32 := Scalar.extui v51
  let c0_i32_22 : BitVec 32 := 0#32
  let v53 : BitVec 1 := Scalar.cmpi .slt v2 c0_i32_22
  let v54 : BitVec 32 := Scalar.extui v53
  let v55 : BitVec 32 := Scalar.subi v52 v54
  let c2_i32_20 : BitVec 32 := 2#32
  let c0_i32_23 : BitVec 32 := 0#32
  let v56 : BitVec 1 := Scalar.cmpi .sgt c2_i32_20 c0_i32_23
  let v57 : BitVec 32 := Scalar.extui v56
  let c0_i32_24 : BitVec 32 := 0#32
  let v58 : BitVec 1 := Scalar.cmpi .slt c2_i32_20 c0_i32_24
  let v59 : BitVec 32 := Scalar.extui v58
  let v60 : BitVec 32 := Scalar.subi v57 v59
  let v61 : BitVec 1 := Scalar.cmpi .ne v55 v60
  let v62 : BitVec 32 := Scalar.remsi v2 c2_i32_20
  let c0_i32_25 : BitVec 32 := 0#32
  let v63 : BitVec 1 := Scalar.cmpi .ne v62 c0_i32_25
  let v64 : BitVec 1 := Scalar.andi v61 v63
  let v50 : BitVec 32 := Scalar.divsi v2 c2_i32_20
  let c1_i32_26 : BitVec 32 := 1#32
  let v65 : BitVec 32 := Scalar.subi v50 c1_i32_26
  let v66 : BitVec 32 := Scalar.select v64 v65 v50
  let c256_i32_199 : BitVec 32 := 256#32
  let v537 : BitVec 32 := Scalar.muli v66 c256_i32_199
  let v543 : Index := Scalar.indexCast v537
  let c384_204 : Index := 384#32
  ![v543.toNat, 384]
def k0_off30 (d0 : Dev nD) : Fin 2 → Nat :=
  let c2_i32_219 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let v564 : BitVec 32 := Scalar.muli c2_i32_219 v32
  let c1_i32_220 : BitVec 32 := 1#32
  let v565 : BitVec 32 := Scalar.addi v564 c1_i32_220
  let c0_i32_14 : BitVec 32 := 0#32
  let v34 : BitVec 1 := Scalar.cmpi .sgt v2 c0_i32_14
  let v35 : BitVec 32 := Scalar.extui v34
  let c0_i32_15 : BitVec 32 := 0#32
  let v36 : BitVec 1 := Scalar.cmpi .slt v2 c0_i32_15
  let v37 : BitVec 32 := Scalar.extui v36
  let v38 : BitVec 32 := Scalar.subi v35 v37
  let c2_i32_13 : BitVec 32 := 2#32
  let c0_i32_16 : BitVec 32 := 0#32
  let v39 : BitVec 1 := Scalar.cmpi .sgt c2_i32_13 c0_i32_16
  let v40 : BitVec 32 := Scalar.extui v39
  let c0_i32_17 : BitVec 32 := 0#32
  let v41 : BitVec 1 := Scalar.cmpi .slt c2_i32_13 c0_i32_17
  let v42 : BitVec 32 := Scalar.extui v41
  let v43 : BitVec 32 := Scalar.subi v40 v42
  let v44 : BitVec 1 := Scalar.cmpi .ne v38 v43
  let v45 : BitVec 32 := Scalar.remsi v2 c2_i32_13
  let c0_i32_18 : BitVec 32 := 0#32
  let v46 : BitVec 1 := Scalar.cmpi .ne v45 c0_i32_18
  let v47 : BitVec 1 := Scalar.andi v44 v46
  let v33 : BitVec 32 := Scalar.divsi v2 c2_i32_13
  let c1_i32_19 : BitVec 32 := 1#32
  let v48 : BitVec 32 := Scalar.subi v33 c1_i32_19
  let v49 : BitVec 32 := Scalar.select v47 v48 v33
  let v566 : BitVec 32 := Scalar.subi v565 v49
  let c128_i32 : BitVec 32 := 128#32
  let v567 : BitVec 32 := Scalar.muli v566 c128_i32
  let c0_i32_225 : BitVec 32 := 0#32
  ![v567.toNat, 0]
def k0_dev5 (d0 : Dev nD) : Nat :=
  let c0_i32_224 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_223 : BitVec 32 := 1#32
  let v568 : BitVec 32 := Scalar.muli v4 c1_i32_223
  let v569 : BitVec 32 := Scalar.addi c0_i32_224 v568
  v569.toNat
def k0_off31 (d0 : Dev nD) : Fin 2 → Nat :=
  let c2_i32_240 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_21 : BitVec 32 := 0#32
  let v51 : BitVec 1 := Scalar.cmpi .sgt v2 c0_i32_21
  let v52 : BitVec 32 := Scalar.extui v51
  let c0_i32_22 : BitVec 32 := 0#32
  let v53 : BitVec 1 := Scalar.cmpi .slt v2 c0_i32_22
  let v54 : BitVec 32 := Scalar.extui v53
  let v55 : BitVec 32 := Scalar.subi v52 v54
  let c2_i32_20 : BitVec 32 := 2#32
  let c0_i32_23 : BitVec 32 := 0#32
  let v56 : BitVec 1 := Scalar.cmpi .sgt c2_i32_20 c0_i32_23
  let v57 : BitVec 32 := Scalar.extui v56
  let c0_i32_24 : BitVec 32 := 0#32
  let v58 : BitVec 1 := Scalar.cmpi .slt c2_i32_20 c0_i32_24
  let v59 : BitVec 32 := Scalar.extui v58
  let v60 : BitVec 32 := Scalar.subi v57 v59
  let v61 : BitVec 1 := Scalar.cmpi .ne v55 v60
  let v62 : BitVec 32 := Scalar.remsi v2 c2_i32_20
  let c0_i32_25 : BitVec 32 := 0#32
  let v63 : BitVec 1 := Scalar.cmpi .ne v62 c0_i32_25
  let v64 : BitVec 1 := Scalar.andi v61 v63
  let v50 : BitVec 32 := Scalar.divsi v2 c2_i32_20
  let c1_i32_26 : BitVec 32 := 1#32
  let v65 : BitVec 32 := Scalar.subi v50 c1_i32_26
  let v66 : BitVec 32 := Scalar.select v64 v65 v50
  let v592 : BitVec 32 := Scalar.muli c2_i32_240 v66
  let c1_i32_241 : BitVec 32 := 1#32
  let v593 : BitVec 32 := Scalar.addi v592 c1_i32_241
  let c2_i32_27 : BitVec 32 := 2#32
  let c0_i32_28 : BitVec 32 := 0#32
  let v67 : BitVec 1 := Scalar.cmpi .eq c2_i32_27 c0_i32_28
  let c1_i32_29 : BitVec 32 := 1#32
  let v68 : BitVec 32 := Scalar.select v67 c1_i32_29 c2_i32_27
  let v69 : BitVec 32 := Scalar.remsi v2 v68
  let c0_i32_31 : BitVec 32 := 0#32
  let v71 : BitVec 1 := Scalar.cmpi .slt v69 c0_i32_31
  let c0_i32_32 : BitVec 32 := 0#32
  let v72 : BitVec 1 := Scalar.cmpi .slt v68 c0_i32_32
  let v73 : BitVec 1 := Scalar.xori v71 v72
  let c0_i32_30 : BitVec 32 := 0#32
  let v70 : BitVec 1 := Scalar.cmpi .ne v69 c0_i32_30
  let v74 : BitVec 1 := Scalar.andi v73 v70
  let v75 : BitVec 32 := Scalar.addi v69 v68
  let v76 : BitVec 32 := Scalar.select v74 v75 v69
  let v594 : BitVec 32 := Scalar.subi v593 v76
  let c128_i32_242 : BitVec 32 := 128#32
  let v595 : BitVec 32 := Scalar.muli v594 c128_i32_242
  let c384_i32_247 : BitVec 32 := 384#32
  ![v595.toNat, 384]
def k0_dev6 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_245 : BitVec 32 := 1#32
  let v596 : BitVec 32 := Scalar.muli v3 c1_i32_245
  let v597 : BitVec 32 := Scalar.addi c0_i32_246 v596
  v597.toNat
def k0_off32 (d0 : Dev nD) : Fin 2 → Nat :=
  let c2_i32_257 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let v611 : BitVec 32 := Scalar.muli c2_i32_257 v32
  let c0_i32_14 : BitVec 32 := 0#32
  let v34 : BitVec 1 := Scalar.cmpi .sgt v2 c0_i32_14
  let v35 : BitVec 32 := Scalar.extui v34
  let c0_i32_15 : BitVec 32 := 0#32
  let v36 : BitVec 1 := Scalar.cmpi .slt v2 c0_i32_15
  let v37 : BitVec 32 := Scalar.extui v36
  let v38 : BitVec 32 := Scalar.subi v35 v37
  let c2_i32_13 : BitVec 32 := 2#32
  let c0_i32_16 : BitVec 32 := 0#32
  let v39 : BitVec 1 := Scalar.cmpi .sgt c2_i32_13 c0_i32_16
  let v40 : BitVec 32 := Scalar.extui v39
  let c0_i32_17 : BitVec 32 := 0#32
  let v41 : BitVec 1 := Scalar.cmpi .slt c2_i32_13 c0_i32_17
  let v42 : BitVec 32 := Scalar.extui v41
  let v43 : BitVec 32 := Scalar.subi v40 v42
  let v44 : BitVec 1 := Scalar.cmpi .ne v38 v43
  let v45 : BitVec 32 := Scalar.remsi v2 c2_i32_13
  let c0_i32_18 : BitVec 32 := 0#32
  let v46 : BitVec 1 := Scalar.cmpi .ne v45 c0_i32_18
  let v47 : BitVec 1 := Scalar.andi v44 v46
  let v33 : BitVec 32 := Scalar.divsi v2 c2_i32_13
  let c1_i32_19 : BitVec 32 := 1#32
  let v48 : BitVec 32 := Scalar.subi v33 c1_i32_19
  let v49 : BitVec 32 := Scalar.select v47 v48 v33
  let v612 : BitVec 32 := Scalar.addi v611 v49
  let c128_i32_258 : BitVec 32 := 128#32
  let v613 : BitVec 32 := Scalar.muli v612 c128_i32_258
  let v614 : Index := Scalar.indexCast v613
  let c0_259 : Index := 0#32
  ![v614.toNat, 0]
def k0_off33 (d0 : Dev nD) : Fin 2 → Nat :=
  let c2_i32_263 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let v622 : BitVec 32 := Scalar.muli c2_i32_263 v32
  let c0_i32_14 : BitVec 32 := 0#32
  let v34 : BitVec 1 := Scalar.cmpi .sgt v2 c0_i32_14
  let v35 : BitVec 32 := Scalar.extui v34
  let c0_i32_15 : BitVec 32 := 0#32
  let v36 : BitVec 1 := Scalar.cmpi .slt v2 c0_i32_15
  let v37 : BitVec 32 := Scalar.extui v36
  let v38 : BitVec 32 := Scalar.subi v35 v37
  let c2_i32_13 : BitVec 32 := 2#32
  let c0_i32_16 : BitVec 32 := 0#32
  let v39 : BitVec 1 := Scalar.cmpi .sgt c2_i32_13 c0_i32_16
  let v40 : BitVec 32 := Scalar.extui v39
  let c0_i32_17 : BitVec 32 := 0#32
  let v41 : BitVec 1 := Scalar.cmpi .slt c2_i32_13 c0_i32_17
  let v42 : BitVec 32 := Scalar.extui v41
  let v43 : BitVec 32 := Scalar.subi v40 v42
  let v44 : BitVec 1 := Scalar.cmpi .ne v38 v43
  let v45 : BitVec 32 := Scalar.remsi v2 c2_i32_13
  let c0_i32_18 : BitVec 32 := 0#32
  let v46 : BitVec 1 := Scalar.cmpi .ne v45 c0_i32_18
  let v47 : BitVec 1 := Scalar.andi v44 v46
  let v33 : BitVec 32 := Scalar.divsi v2 c2_i32_13
  let c1_i32_19 : BitVec 32 := 1#32
  let v48 : BitVec 32 := Scalar.subi v33 c1_i32_19
  let v49 : BitVec 32 := Scalar.select v47 v48 v33
  let v623 : BitVec 32 := Scalar.addi v622 v49
  let c128_i32_264 : BitVec 32 := 128#32
  let v624 : BitVec 32 := Scalar.muli v623 c128_i32_264
  let c0_i32_269 : BitVec 32 := 0#32
  ![v624.toNat, 0]
def k0_dev7 (d0 : Dev nD) : Nat :=
  let c0_i32_268 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_267 : BitVec 32 := 1#32
  let v625 : BitVec 32 := Scalar.muli v4 c1_i32_267
  let v626 : BitVec 32 := Scalar.addi c0_i32_268 v625
  v626.toNat
def k0_off34 (d0 : Dev nD) : Fin 2 → Nat :=
  let c2_i32_280 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_21 : BitVec 32 := 0#32
  let v51 : BitVec 1 := Scalar.cmpi .sgt v2 c0_i32_21
  let v52 : BitVec 32 := Scalar.extui v51
  let c0_i32_22 : BitVec 32 := 0#32
  let v53 : BitVec 1 := Scalar.cmpi .slt v2 c0_i32_22
  let v54 : BitVec 32 := Scalar.extui v53
  let v55 : BitVec 32 := Scalar.subi v52 v54
  let c2_i32_20 : BitVec 32 := 2#32
  let c0_i32_23 : BitVec 32 := 0#32
  let v56 : BitVec 1 := Scalar.cmpi .sgt c2_i32_20 c0_i32_23
  let v57 : BitVec 32 := Scalar.extui v56
  let c0_i32_24 : BitVec 32 := 0#32
  let v58 : BitVec 1 := Scalar.cmpi .slt c2_i32_20 c0_i32_24
  let v59 : BitVec 32 := Scalar.extui v58
  let v60 : BitVec 32 := Scalar.subi v57 v59
  let v61 : BitVec 1 := Scalar.cmpi .ne v55 v60
  let v62 : BitVec 32 := Scalar.remsi v2 c2_i32_20
  let c0_i32_25 : BitVec 32 := 0#32
  let v63 : BitVec 1 := Scalar.cmpi .ne v62 c0_i32_25
  let v64 : BitVec 1 := Scalar.andi v61 v63
  let v50 : BitVec 32 := Scalar.divsi v2 c2_i32_20
  let c1_i32_26 : BitVec 32 := 1#32
  let v65 : BitVec 32 := Scalar.subi v50 c1_i32_26
  let v66 : BitVec 32 := Scalar.select v64 v65 v50
  let v641 : BitVec 32 := Scalar.muli c2_i32_280 v66
  let c2_i32_27 : BitVec 32 := 2#32
  let c0_i32_28 : BitVec 32 := 0#32
  let v67 : BitVec 1 := Scalar.cmpi .eq c2_i32_27 c0_i32_28
  let c1_i32_29 : BitVec 32 := 1#32
  let v68 : BitVec 32 := Scalar.select v67 c1_i32_29 c2_i32_27
  let v69 : BitVec 32 := Scalar.remsi v2 v68
  let c0_i32_31 : BitVec 32 := 0#32
  let v71 : BitVec 1 := Scalar.cmpi .slt v69 c0_i32_31
  let c0_i32_32 : BitVec 32 := 0#32
  let v72 : BitVec 1 := Scalar.cmpi .slt v68 c0_i32_32
  let v73 : BitVec 1 := Scalar.xori v71 v72
  let c0_i32_30 : BitVec 32 := 0#32
  let v70 : BitVec 1 := Scalar.cmpi .ne v69 c0_i32_30
  let v74 : BitVec 1 := Scalar.andi v73 v70
  let v75 : BitVec 32 := Scalar.addi v69 v68
  let v76 : BitVec 32 := Scalar.select v74 v75 v69
  let v642 : BitVec 32 := Scalar.addi v641 v76
  let c128_i32_281 : BitVec 32 := 128#32
  let v643 : BitVec 32 := Scalar.muli v642 c128_i32_281
  let v644 : Index := Scalar.indexCast v643
  let c384_282 : Index := 384#32
  ![v644.toNat, 384]
def k0_off35 (d0 : Dev nD) : Fin 2 → Nat :=
  let c2_i32_286 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_21 : BitVec 32 := 0#32
  let v51 : BitVec 1 := Scalar.cmpi .sgt v2 c0_i32_21
  let v52 : BitVec 32 := Scalar.extui v51
  let c0_i32_22 : BitVec 32 := 0#32
  let v53 : BitVec 1 := Scalar.cmpi .slt v2 c0_i32_22
  let v54 : BitVec 32 := Scalar.extui v53
  let v55 : BitVec 32 := Scalar.subi v52 v54
  let c2_i32_20 : BitVec 32 := 2#32
  let c0_i32_23 : BitVec 32 := 0#32
  let v56 : BitVec 1 := Scalar.cmpi .sgt c2_i32_20 c0_i32_23
  let v57 : BitVec 32 := Scalar.extui v56
  let c0_i32_24 : BitVec 32 := 0#32
  let v58 : BitVec 1 := Scalar.cmpi .slt c2_i32_20 c0_i32_24
  let v59 : BitVec 32 := Scalar.extui v58
  let v60 : BitVec 32 := Scalar.subi v57 v59
  let v61 : BitVec 1 := Scalar.cmpi .ne v55 v60
  let v62 : BitVec 32 := Scalar.remsi v2 c2_i32_20
  let c0_i32_25 : BitVec 32 := 0#32
  let v63 : BitVec 1 := Scalar.cmpi .ne v62 c0_i32_25
  let v64 : BitVec 1 := Scalar.andi v61 v63
  let v50 : BitVec 32 := Scalar.divsi v2 c2_i32_20
  let c1_i32_26 : BitVec 32 := 1#32
  let v65 : BitVec 32 := Scalar.subi v50 c1_i32_26
  let v66 : BitVec 32 := Scalar.select v64 v65 v50
  let v652 : BitVec 32 := Scalar.muli c2_i32_286 v66
  let c2_i32_27 : BitVec 32 := 2#32
  let c0_i32_28 : BitVec 32 := 0#32
  let v67 : BitVec 1 := Scalar.cmpi .eq c2_i32_27 c0_i32_28
  let c1_i32_29 : BitVec 32 := 1#32
  let v68 : BitVec 32 := Scalar.select v67 c1_i32_29 c2_i32_27
  let v69 : BitVec 32 := Scalar.remsi v2 v68
  let c0_i32_31 : BitVec 32 := 0#32
  let v71 : BitVec 1 := Scalar.cmpi .slt v69 c0_i32_31
  let c0_i32_32 : BitVec 32 := 0#32
  let v72 : BitVec 1 := Scalar.cmpi .slt v68 c0_i32_32
  let v73 : BitVec 1 := Scalar.xori v71 v72
  let c0_i32_30 : BitVec 32 := 0#32
  let v70 : BitVec 1 := Scalar.cmpi .ne v69 c0_i32_30
  let v74 : BitVec 1 := Scalar.andi v73 v70
  let v75 : BitVec 32 := Scalar.addi v69 v68
  let v76 : BitVec 32 := Scalar.select v74 v75 v69
  let v653 : BitVec 32 := Scalar.addi v652 v76
  let c128_i32_287 : BitVec 32 := 128#32
  let v654 : BitVec 32 := Scalar.muli v653 c128_i32_287
  let c384_i32_291 : BitVec 32 := 384#32
  ![v654.toNat, 384]
def k0_dev8 (d0 : Dev nD) : Nat :=
  let c0_i32_290 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_289 : BitVec 32 := 1#32
  let v655 : BitVec 32 := Scalar.muli v3 c1_i32_289
  let v656 : BitVec 32 := Scalar.addi c0_i32_290 v655
  v656.toNat
def k0_off36 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let c256_i32_312 : BitVec 32 := 256#32
  let v689 : BitVec 32 := Scalar.muli v32 c256_i32_312
  let c0_i32_316 : BitVec 32 := 0#32
  ![v689.toNat, 0]
def k0_dev9 (d0 : Dev nD) : Nat :=
  let c0_i32_315 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_314 : BitVec 32 := 1#32
  let v690 : BitVec 32 := Scalar.muli v3 c1_i32_314
  let v691 : BitVec 32 := Scalar.addi c0_i32_315 v690
  v691.toNat
def k0_off37 (d0 : Dev nD) : Fin 2 → Nat :=
  let c2_i32_318 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32 : BitVec 32 := 2#32
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let v6 : BitVec 32 := Scalar.divsi v5 c2_i32
  let c1_i32_6 : BitVec 32 := 1#32
  let v21 : BitVec 32 := Scalar.subi v6 c1_i32_6
  let v22 : BitVec 32 := Scalar.select v20 v21 v6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v22 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let v698 : BitVec 32 := Scalar.muli c2_i32_318 v32
  let c1_i32_319 : BitVec 32 := 1#32
  let v699 : BitVec 32 := Scalar.addi v698 c1_i32_319
  let c0_i32_14 : BitVec 32 := 0#32
  let v34 : BitVec 1 := Scalar.cmpi .sgt v2 c0_i32_14
  let v35 : BitVec 32 := Scalar.extui v34
  let c0_i32_15 : BitVec 32 := 0#32
  let v36 : BitVec 1 := Scalar.cmpi .slt v2 c0_i32_15
  let v37 : BitVec 32 := Scalar.extui v36
  let v38 : BitVec 32 := Scalar.subi v35 v37
  let c2_i32_13 : BitVec 32 := 2#32
  let c0_i32_16 : BitVec 32 := 0#32
  let v39 : BitVec 1 := Scalar.cmpi .sgt c2_i32_13 c0_i32_16
  let v40 : BitVec 32 := Scalar.extui v39
  let c0_i32_17 : BitVec 32 := 0#32
  let v41 : BitVec 1 := Scalar.cmpi .slt c2_i32_13 c0_i32_17
  let v42 : BitVec 32 := Scalar.extui v41
  let v43 : BitVec 32 := Scalar.subi v40 v42
  let v44 : BitVec 1 := Scalar.cmpi .ne v38 v43
  let v45 : BitVec 32 := Scalar.remsi v2 c2_i32_13
  let c0_i32_18 : BitVec 32 := 0#32
  let v46 : BitVec 1 := Scalar.cmpi .ne v45 c0_i32_18
  let v47 : BitVec 1 := Scalar.andi v44 v46
  let v33 : BitVec 32 := Scalar.divsi v2 c2_i32_13
  let c1_i32_19 : BitVec 32 := 1#32
  let v48 : BitVec 32 := Scalar.subi v33 c1_i32_19
  let v49 : BitVec 32 := Scalar.select v47 v48 v33
  let v700 : BitVec 32 := Scalar.subi v699 v49
  let c128_i32_320 : BitVec 32 := 128#32
  let v701 : BitVec 32 := Scalar.muli v700 c128_i32_320
  let v702 : Index := Scalar.indexCast v701
  let c0_321 : Index := 0#32
  ![v702.toNat, 0]
def k0_off38 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_21 : BitVec 32 := 0#32
  let v51 : BitVec 1 := Scalar.cmpi .sgt v2 c0_i32_21
  let v52 : BitVec 32 := Scalar.extui v51
  let c0_i32_22 : BitVec 32 := 0#32
  let v53 : BitVec 1 := Scalar.cmpi .slt v2 c0_i32_22
  let v54 : BitVec 32 := Scalar.extui v53
  let v55 : BitVec 32 := Scalar.subi v52 v54
  let c2_i32_20 : BitVec 32 := 2#32
  let c0_i32_23 : BitVec 32 := 0#32
  let v56 : BitVec 1 := Scalar.cmpi .sgt c2_i32_20 c0_i32_23
  let v57 : BitVec 32 := Scalar.extui v56
  let c0_i32_24 : BitVec 32 := 0#32
  let v58 : BitVec 1 := Scalar.cmpi .slt c2_i32_20 c0_i32_24
  let v59 : BitVec 32 := Scalar.extui v58
  let v60 : BitVec 32 := Scalar.subi v57 v59
  let v61 : BitVec 1 := Scalar.cmpi .ne v55 v60
  let v62 : BitVec 32 := Scalar.remsi v2 c2_i32_20
  let c0_i32_25 : BitVec 32 := 0#32
  let v63 : BitVec 1 := Scalar.cmpi .ne v62 c0_i32_25
  let v64 : BitVec 1 := Scalar.andi v61 v63
  let v50 : BitVec 32 := Scalar.divsi v2 c2_i32_20
  let c1_i32_26 : BitVec 32 := 1#32
  let v65 : BitVec 32 := Scalar.subi v50 c1_i32_26
  let v66 : BitVec 32 := Scalar.select v64 v65 v50
  let c256_i32_334 : BitVec 32 := 256#32
  let v717 : BitVec 32 := Scalar.muli v66 c256_i32_334
  let c384_i32_338 : BitVec 32 := 384#32
  ![v717.toNat, 384]
def k0_dev10 (d0 : Dev nD) : Nat :=
  let c0_i32_337 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_336 : BitVec 32 := 1#32
  let v718 : BitVec 32 := Scalar.muli v4 c1_i32_336
  let v719 : BitVec 32 := Scalar.addi c0_i32_337 v718
  v719.toNat
def k0_off39 (d0 : Dev nD) : Fin 2 → Nat :=
  let c2_i32_340 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_21 : BitVec 32 := 0#32
  let v51 : BitVec 1 := Scalar.cmpi .sgt v2 c0_i32_21
  let v52 : BitVec 32 := Scalar.extui v51
  let c0_i32_22 : BitVec 32 := 0#32
  let v53 : BitVec 1 := Scalar.cmpi .slt v2 c0_i32_22
  let v54 : BitVec 32 := Scalar.extui v53
  let v55 : BitVec 32 := Scalar.subi v52 v54
  let c2_i32_20 : BitVec 32 := 2#32
  let c0_i32_23 : BitVec 32 := 0#32
  let v56 : BitVec 1 := Scalar.cmpi .sgt c2_i32_20 c0_i32_23
  let v57 : BitVec 32 := Scalar.extui v56
  let c0_i32_24 : BitVec 32 := 0#32
  let v58 : BitVec 1 := Scalar.cmpi .slt c2_i32_20 c0_i32_24
  let v59 : BitVec 32 := Scalar.extui v58
  let v60 : BitVec 32 := Scalar.subi v57 v59
  let v61 : BitVec 1 := Scalar.cmpi .ne v55 v60
  let v62 : BitVec 32 := Scalar.remsi v2 c2_i32_20
  let c0_i32_25 : BitVec 32 := 0#32
  let v63 : BitVec 1 := Scalar.cmpi .ne v62 c0_i32_25
  let v64 : BitVec 1 := Scalar.andi v61 v63
  let v50 : BitVec 32 := Scalar.divsi v2 c2_i32_20
  let c1_i32_26 : BitVec 32 := 1#32
  let v65 : BitVec 32 := Scalar.subi v50 c1_i32_26
  let v66 : BitVec 32 := Scalar.select v64 v65 v50
  let v726 : BitVec 32 := Scalar.muli c2_i32_340 v66
  let c1_i32_341 : BitVec 32 := 1#32
  let v727 : BitVec 32 := Scalar.addi v726 c1_i32_341
  let c2_i32_27 : BitVec 32 := 2#32
  let c0_i32_28 : BitVec 32 := 0#32
  let v67 : BitVec 1 := Scalar.cmpi .eq c2_i32_27 c0_i32_28
  let c1_i32_29 : BitVec 32 := 1#32
  let v68 : BitVec 32 := Scalar.select v67 c1_i32_29 c2_i32_27
  let v69 : BitVec 32 := Scalar.remsi v2 v68
  let c0_i32_31 : BitVec 32 := 0#32
  let v71 : BitVec 1 := Scalar.cmpi .slt v69 c0_i32_31
  let c0_i32_32 : BitVec 32 := 0#32
  let v72 : BitVec 1 := Scalar.cmpi .slt v68 c0_i32_32
  let v73 : BitVec 1 := Scalar.xori v71 v72
  let c0_i32_30 : BitVec 32 := 0#32
  let v70 : BitVec 1 := Scalar.cmpi .ne v69 c0_i32_30
  let v74 : BitVec 1 := Scalar.andi v73 v70
  let v75 : BitVec 32 := Scalar.addi v69 v68
  let v76 : BitVec 32 := Scalar.select v74 v75 v69
  let v728 : BitVec 32 := Scalar.subi v727 v76
  let c128_i32_342 : BitVec 32 := 128#32
  let v729 : BitVec 32 := Scalar.muli v728 c128_i32_342
  let v730 : Index := Scalar.indexCast v729
  let c384_343 : Index := 384#32
  ![v730.toNat, 384]
abbrev stage0_0 : Fin 1 → Memref sig .tc .vmem S512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512x768 : Shape := ⟨2, ![512, 768]⟩
abbrev S768x2048 : Shape := ⟨2, ![768, 2048]⟩
abbrev S768x512 : Shape := ⟨2, ![768, 512]⟩
abbrev S2048x768 : Shape := ⟨2, ![2048, 768]⟩
abbrev S2x256x768 : Shape := ⟨3, ![2, 256, 768]⟩
abbrev S2x256x2048 : Shape := ⟨3, ![2, 256, 2048]⟩
abbrev S2x256x32x64 : Shape := ⟨4, ![2, 256, 32, 64]⟩
abbrev S2x256x512 : Shape := ⟨3, ![2, 256, 512]⟩
abbrev S2x256x8x64 : Shape := ⟨4, ![2, 256, 8, 64]⟩
abbrev S2x256x8x4x64 : Shape := ⟨5, ![2, 256, 8, 4, 64]⟩
abbrev S_ : Shape := ⟨0, ![]⟩
abbrev S2x32x256x1 : Shape := ⟨4, ![2, 32, 256, 1]⟩
abbrev S2x32x256x256 : Shape := ⟨4, ![2, 32, 256, 256]⟩
abbrev S2x32x256 : Shape := ⟨3, ![2, 32, 256]⟩
abbrev S2x256x32x1 : Shape := ⟨4, ![2, 256, 32, 1]⟩
abbrev S2x32x64x256 : Shape := ⟨4, ![2, 32, 64, 256]⟩

abbrev nBuf : Space → Nat
  | .hbm => 59
  | .vmem => 0
  | .smem => 0
  | _ => 0

abbrev bufTy : (tb : Table) → Fin (tcTables nBuf tb) → BufTy
  | .hbm, ⟨0, _⟩ => ⟨S512x768, .bf16⟩
  | .hbm, ⟨1, _⟩ => ⟨S768x2048, .bf16⟩
  | .hbm, ⟨2, _⟩ => ⟨S768x512, .bf16⟩
  | .hbm, ⟨3, _⟩ => ⟨S768x512, .bf16⟩
  | .hbm, ⟨4, _⟩ => ⟨S2048x768, .bf16⟩
  | .hbm, ⟨5, _⟩ => ⟨S2x256x768, .bf16⟩
  | .hbm, ⟨6, _⟩ => ⟨S2x256x2048, .f32⟩
  | .hbm, ⟨7, _⟩ => ⟨S2x256x2048, .bf16⟩
  | .hbm, ⟨8, _⟩ => ⟨S2x256x32x64, .bf16⟩
  | .hbm, ⟨9, _⟩ => ⟨S2x256x512, .f32⟩
  | .hbm, ⟨10, _⟩ => ⟨S2x256x512, .bf16⟩
  | .hbm, ⟨11, _⟩ => ⟨S2x256x8x64, .bf16⟩
  | .hbm, ⟨12, _⟩ => ⟨S2x256x512, .f32⟩
  | .hbm, ⟨13, _⟩ => ⟨S2x256x512, .bf16⟩
  | .hbm, ⟨14, _⟩ => ⟨S2x256x8x64, .bf16⟩
  | .hbm, ⟨15, _⟩ => ⟨S2x256x8x4x64, .bf16⟩
  | .hbm, ⟨16, _⟩ => ⟨S2x256x32x64, .bf16⟩
  | .hbm, ⟨17, _⟩ => ⟨S2x256x8x4x64, .bf16⟩
  | .hbm, ⟨18, _⟩ => ⟨S2x256x32x64, .bf16⟩
  | .hbm, ⟨19, _⟩ => ⟨S_, .f32⟩
  | .hbm, ⟨20, _⟩ => ⟨S2x256x32x64, .f32⟩
  | .hbm, ⟨21, _⟩ => ⟨S_, .f32⟩
  | .hbm, ⟨22, _⟩ => ⟨S2x32x256x1, .f32⟩
  | .hbm, ⟨23, _⟩ => ⟨S_, .f32⟩
  | .hbm, ⟨24, _⟩ => ⟨S2x32x256x1, .f32⟩
  | .hbm, ⟨25, _⟩ => ⟨S2x32x256x256, .f32⟩
  | .hbm, ⟨26, _⟩ => ⟨S2x32x256x256, .bf16⟩
  | .hbm, ⟨27, _⟩ => ⟨S2x32x256x256, .f32⟩
  | .hbm, ⟨28, _⟩ => ⟨S_, .f32⟩
  | .hbm, ⟨29, _⟩ => ⟨S2x32x256x256, .f32⟩
  | .hbm, ⟨30, _⟩ => ⟨S2x32x256x256, .f32⟩
  | .hbm, ⟨31, _⟩ => ⟨S_, .f32⟩
  | .hbm, ⟨32, _⟩ => ⟨S2x32x256, .f32⟩
  | .hbm, ⟨33, _⟩ => ⟨S2x32x256x1, .f32⟩
  | .hbm, ⟨34, _⟩ => ⟨S2x32x256x1, .f32⟩
  | .hbm, ⟨35, _⟩ => ⟨S2x32x256x1, .f32⟩
  | .hbm, ⟨36, _⟩ => ⟨S2x32x256x1, .f32⟩
  | .hbm, ⟨37, _⟩ => ⟨S2x32x256x256, .f32⟩
  | .hbm, ⟨38, _⟩ => ⟨S2x32x256x256, .f32⟩
  | .hbm, ⟨39, _⟩ => ⟨S2x32x256x256, .f32⟩
  | .hbm, ⟨40, _⟩ => ⟨S2x32x256x1, .f32⟩
  | .hbm, ⟨41, _⟩ => ⟨S_, .f32⟩
  | .hbm, ⟨42, _⟩ => ⟨S2x32x256, .f32⟩
  | .hbm, ⟨43, _⟩ => ⟨S2x32x256x1, .f32⟩
  | .hbm, ⟨44, _⟩ => ⟨S2x32x256x1, .f32⟩
  | .hbm, ⟨45, _⟩ => ⟨S2x256x32x1, .f32⟩
  | .hbm, ⟨46, _⟩ => ⟨S2x256x32x64, .f32⟩
  | .hbm, ⟨47, _⟩ => ⟨S2x256x32x64, .f32⟩
  | .hbm, ⟨48, _⟩ => ⟨S2x256x32x64, .f32⟩
  | .hbm, ⟨49, _⟩ => ⟨S2x32x64x256, .f32⟩
  | .hbm, ⟨50, _⟩ => ⟨S2x256x32x64, .f32⟩
  | .hbm, ⟨51, _⟩ => ⟨S2x256x32x64, .f32⟩
  | .hbm, ⟨52, _⟩ => ⟨S2x256x32x1, .f32⟩
  | .hbm, ⟨53, _⟩ => ⟨S2x256x32x64, .f32⟩
  | .hbm, ⟨54, _⟩ => ⟨S2x256x32x64, .f32⟩
  | .hbm, ⟨55, _⟩ => ⟨S2x256x2048, .f32⟩
  | .hbm, ⟨56, _⟩ => ⟨S2048x768, .f32⟩
  | .hbm, ⟨57, _⟩ => ⟨S2x256x768, .f32⟩
  | .hbm, ⟨58, _⟩ => ⟨S512x768, .f32⟩
  | _, _ => ⟨S512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩

abbrev nD : Nat := 1
abbrev τ : Topo := Topo.v7x

variable {F : FTy → Type} [FloatOps F]
-- ==== Proof.Geom.lean ====
/-
# The geometry of the exchange

The four devices stand at the corners of a square. Device `d` exchanges with two partners, `pa d` (its neighbour along
the first side) and `pb d` (its mirror image), both involutions. Which half and which quarter of the rows a device keeps
in the two column halves of the product is told by the three bits `k1 d`, `k2 d`, `k3 d`. This file states the partners,
the bits, how the bits move from a device to its partners, and the closed form of every row/column offset and every
destination device the kernel computes.
-/
module

public import proofs.«01_k».proof.Proof.Gen.KernelIdeal

@[expose] public section

namespace Cert.Proof

open Cert.KernelIdeal Cert.KernelIdeal.Gen
open Idealize.ShloMosaic

/-- The partner of device `d` along the first side of the square: 0↔1, 2↔3. -/
def pa (d : Dev nD) : Dev nD := ⟨2 * (d.val / 2) + (1 - d.val % 2), by have := d.isLt; change d.val < 4 at this; show _ < 4; omega⟩
/-- The partner of device `d` along the second side: 0↔3, 1↔2. -/
def pb (d : Dev nD) : Dev nD := ⟨3 - d.val, by show _ < 4; omega⟩

theorem pa_pa (d : Dev nD) : pa (pa d) = d := by revert d; decide +kernel
theorem pb_pb (d : Dev nD) : pb (pb d) = d := by revert d; decide +kernel

/-- The partners as permutations of the devices. -/
def eqA : Dev nD ≃ Dev nD := ⟨pa, pa, pa_pa, pa_pa⟩
def eqB : Dev nD ≃ Dev nD := ⟨pb, pb, pb_pb, pb_pb⟩

/-- The row half of the left columns device `d` keeps after its first exchange. -/
def k1 (d : Dev nD) : ℕ := (d.val + 1) / 2 % 2
/-- The row half of the right columns it keeps after its first exchange; the quarter of the left half it finally owns. -/
def k2 (d : Dev nD) : ℕ := d.val / 2
/-- The quarter of the right half it finally owns. -/
def k3 (d : Dev nD) : ℕ := d.val % 2

theorem k1_le (d : Dev nD) : k1 d ≤ 1 := by revert d; decide +kernel
theorem k2_le (d : Dev nD) : k2 d ≤ 1 := by revert d; decide +kernel
theorem k3_le (d : Dev nD) : k3 d ≤ 1 := by revert d; decide +kernel
theorem k1_pa (d : Dev nD) : k1 (pa d) = 1 - k1 d := by revert d; decide +kernel
theorem k2_pa (d : Dev nD) : k2 (pa d) = k2 d := by revert d; decide +kernel
theorem k3_pa (d : Dev nD) : k3 (pa d) = 1 - k3 d := by revert d; decide +kernel
theorem k1_pb (d : Dev nD) : k1 (pb d) = k1 d := by revert d; decide +kernel
theorem k2_pb (d : Dev nD) : k2 (pb d) = 1 - k2 d := by revert d; decide +kernel
theorem k3_pb (d : Dev nD) : k3 (pb d) = 1 - k3 d := by revert d; decide +kernel

/-! ## The destination devices -/

theorem dev1 (d : Dev nD) : (⟨k0_dev1 d, k0_dev1_lt d⟩ : Dev nD) = pa d := by revert d; decide +kernel
theorem dev2 (d : Dev nD) : (⟨k0_dev2 d, k0_dev2_lt d⟩ : Dev nD) = pb d := by revert d; decide +kernel
theorem dev3 (d : Dev nD) : (⟨k0_dev3 d, k0_dev3_lt d⟩ : Dev nD) = pa d := by revert d; decide +kernel
theorem dev4 (d : Dev nD) : (⟨k0_dev4 d, k0_dev4_lt d⟩ : Dev nD) = pb d := by revert d; decide +kernel
theorem dev5 (d : Dev nD) : (⟨k0_dev5 d, k0_dev5_lt d⟩ : Dev nD) = pb d := by revert d; decide +kernel
theorem dev6 (d : Dev nD) : (⟨k0_dev6 d, k0_dev6_lt d⟩ : Dev nD) = pa d := by revert d; decide +kernel
theorem dev7 (d : Dev nD) : (⟨k0_dev7 d, k0_dev7_lt d⟩ : Dev nD) = pb d := by revert d; decide +kernel
theorem dev8 (d : Dev nD) : (⟨k0_dev8 d, k0_dev8_lt d⟩ : Dev nD) = pa d := by revert d; decide +kernel
theorem dev9 (d : Dev nD) : (⟨k0_dev9 d, k0_dev9_lt d⟩ : Dev nD) = pa d := by revert d; decide +kernel
theorem dev10 (d : Dev nD) : (⟨k0_dev10 d, k0_dev10_lt d⟩ : Dev nD) = pb d := by revert d; decide +kernel

/-! ## The offsets -/

theorem off2 (d : Dev nD) : k0_off2 d = ![(1 - k1 d) * 256, 0] := by revert d; decide +kernel
theorem off3 (d : Dev nD) : k0_off3 d = ![(1 - k1 d) * 256, 0] := by revert d; decide +kernel
theorem off4 (d : Dev nD) : k0_off4 d = ![(1 - k1 d) * 256, 64] := by revert d; decide +kernel
theorem off5 (d : Dev nD) : k0_off5 d = ![(1 - k1 d) * 256, 128] := by revert d; decide +kernel
theorem off6 (d : Dev nD) : k0_off6 d = ![(1 - k1 d) * 256, 192] := by revert d; decide +kernel
theorem off7 (d : Dev nD) : k0_off7 d = ![(1 - k1 d) * 256, 256] := by revert d; decide +kernel
theorem off8 (d : Dev nD) : k0_off8 d = ![(1 - k1 d) * 256, 320] := by revert d; decide +kernel
theorem off9 (d : Dev nD) : k0_off9 d = ![(1 - k1 d) * 256, 384] := by revert d; decide +kernel
theorem off10 (d : Dev nD) : k0_off10 d = ![(1 - k1 d) * 256, 448] := by revert d; decide +kernel
theorem off11 (d : Dev nD) : k0_off11 d = ![(1 - k1 d) * 256, 0] := by revert d; decide +kernel
theorem off12 (d : Dev nD) : k0_off12 d = ![(1 - k1 d) * 256, 0] := by revert d; decide +kernel
theorem off13 (d : Dev nD) : k0_off13 d = ![(1 - k1 d) * 256, 0] := by revert d; decide +kernel
theorem off14 (d : Dev nD) : k0_off14 d = ![k1 d * 256, 0] := by revert d; decide +kernel
theorem off15 (d : Dev nD) : k0_off15 d = ![k1 d * 256, 0] := by revert d; decide +kernel
theorem off16 (d : Dev nD) : k0_off16 d = ![k1 d * 256, 64] := by revert d; decide +kernel
theorem off17 (d : Dev nD) : k0_off17 d = ![k1 d * 256, 128] := by revert d; decide +kernel
theorem off18 (d : Dev nD) : k0_off18 d = ![k1 d * 256, 192] := by revert d; decide +kernel
theorem off19 (d : Dev nD) : k0_off19 d = ![k1 d * 256, 256] := by revert d; decide +kernel
theorem off20 (d : Dev nD) : k0_off20 d = ![k1 d * 256, 320] := by revert d; decide +kernel
theorem off21 (d : Dev nD) : k0_off21 d = ![k1 d * 256, 384] := by revert d; decide +kernel
theorem off22 (d : Dev nD) : k0_off22 d = ![k1 d * 256, 448] := by revert d; decide +kernel
theorem off23 (d : Dev nD) : k0_off23 d = ![(1 - k2 d) * 256, 0] := by revert d; decide +kernel
theorem off24 (d : Dev nD) : k0_off24 d = ![(1 - k2 d) * 256, 384] := by revert d; decide +kernel
theorem off25 (d : Dev nD) : k0_off25 d = ![(1 - k2 d) * 256, 384] := by revert d; decide +kernel
theorem off26 (d : Dev nD) : k0_off26 d = ![k1 d * 256, 0] := by revert d; decide +kernel
theorem off27 (d : Dev nD) : k0_off27 d = ![k1 d * 256, 0] := by revert d; decide +kernel
theorem off28 (d : Dev nD) : k0_off28 d = ![k2 d * 256, 0] := by revert d; decide +kernel
theorem off29 (d : Dev nD) : k0_off29 d = ![k2 d * 256, 384] := by revert d; decide +kernel
theorem off30 (d : Dev nD) : k0_off30 d = ![(2 * k1 d + (1 - k2 d)) * 128, 0] := by revert d; decide +kernel
theorem off31 (d : Dev nD) : k0_off31 d = ![(2 * k2 d + (1 - k3 d)) * 128, 384] := by revert d; decide +kernel
theorem off32 (d : Dev nD) : k0_off32 d = ![(2 * k1 d + k2 d) * 128, 0] := by revert d; decide +kernel
theorem off33 (d : Dev nD) : k0_off33 d = ![(2 * k1 d + k2 d) * 128, 0] := by revert d; decide +kernel
theorem off34 (d : Dev nD) : k0_off34 d = ![(2 * k2 d + k3 d) * 128, 384] := by revert d; decide +kernel
theorem off35 (d : Dev nD) : k0_off35 d = ![(2 * k2 d + k3 d) * 128, 384] := by revert d; decide +kernel
theorem off36 (d : Dev nD) : k0_off36 d = ![k1 d * 256, 0] := by revert d; decide +kernel
theorem off37 (d : Dev nD) : k0_off37 d = ![(2 * k1 d + (1 - k2 d)) * 128, 0] := by revert d; decide +kernel
theorem off38 (d : Dev nD) : k0_off38 d = ![k2 d * 256, 384] := by revert d; decide +kernel
theorem off39 (d : Dev nD) : k0_off39 d = ![(2 * k2 d + (1 - k3 d)) * 128, 384] := by revert d; decide +kernel

end Cert.Proof

end
-- ==== Proof.Contents.lean ====
/-
# What the buffers hold

For any float values: what one attention head computes on one batch half (`hd`), the heads' outputs as one array
(`oAt`), the partial product of a device (`P`), the sums the exchange forms (`T1` after the first step, `T2` after the
second), the array every device ends with (`fin`) and the result it writes (`outFin`). All of them are functions of the
arguments the devices hold at launch.
-/
module

public import proofs.«01_k».proof.Proof.Geom
public import proofs.«01_k».proof.Proof.Gen.KernelIdeal.Skeleton

@[expose] public section

noncomputable section

namespace Cert.Proof

open Cert.KernelIdeal Cert.KernelIdeal.Gen
open Idealize.ShloMosaic Idealize.ShloMosaic.TcCoe

variable {F : FTy → Type} [FloatOps F]

/-- The index of row `a`, column `b` in a matrix of `n` rows and `k` columns (both taken modulo the sizes). -/
def ix2 {n k : ℕ} [NeZero n] [NeZero k] (a b : ℕ) : (⟨2, ![n, k]⟩ : Shape).Idx
  | ⟨0, _⟩ => ⟨a % n, Nat.mod_lt _ (Nat.pos_of_ne_zero (NeZero.ne n))⟩
  | ⟨1, _⟩ => ⟨b % k, Nat.mod_lt _ (Nat.pos_of_ne_zero (NeZero.ne k))⟩

theorem ix2_zero {n k : ℕ} [NeZero n] [NeZero k] (a b : ℕ) (h : a < n) : (ix2 (n := n) (k := k) a b 0).val = a := Nat.mod_eq_of_lt h
theorem ix2_one {n k : ℕ} [NeZero n] [NeZero k] (a b : ℕ) (h : b < k) : (ix2 (n := n) (k := k) a b 1).val = b := Nat.mod_eq_of_lt h

/-- An index whose coordinates are `a` and `b` is the one named so. -/
theorem eq_ix2 {n k : ℕ} [NeZero n] [NeZero k] (i : (⟨2, ![n, k]⟩ : Shape).Idx) {a b : ℕ} (ha : (i 0).val = a) (hb : (i 1).val = b) :
    i = ix2 a b := by
  subst ha; subst hb
  funext q
  match q with
  | ⟨0, _⟩ => exact Fin.ext (Nat.mod_eq_of_lt (i 0).isLt).symm
  | ⟨1, _⟩ => exact Fin.ext (Nat.mod_eq_of_lt (i 1).isLt).symm

/-- Head `n`'s output on one batch half, of its rows `x`, the query weights and the device's key and value columns. -/
def hd (n : ℕ) (x : Vec F S256x768 .bf16) (wq : Vec F S768x512 .bf16) (wk wv : Vec F S768x128 .bf16) : FVec F S256x64 .bf16 :=
  match n with
  | 0 => k0_pay5 x wq wk wv
  | 1 => k0_pay8 (k0_pay6 x wv) (k0_pay7 x wq wk)
  | 2 => k0_pay9 (k0_pay2 x wq) (k0_pay3 x wk) (k0_pay4 x wv)
  | 3 => k0_pay13 (k0_pay10 (k0_pay4 x wv)) (k0_pay11 (k0_pay2 x wq) (k0_pay3 x wk)) k0_pay12
  | 4 => k0_pay14 (k0_pay2 x wq) (k0_pay3 x wk) (k0_pay4 x wv)
  | 5 => k0_pay17 (k0_pay15 (k0_pay4 x wv)) (k0_pay16 (k0_pay2 x wq) (k0_pay3 x wk))
  | 6 => k0_pay18 (k0_pay2 x wq) (k0_pay3 x wk) (k0_pay4 x wv)
  | _ => k0_pay22 (k0_pay19 (k0_pay4 x wv)) (k0_pay20 (k0_pay2 x wq) (k0_pay3 x wk)) (k0_pay21 (k0_pay2 x wq) (k0_pay3 x wk))

section Second
variable (x : Vec F S256x768 .bf16) (wq : Vec F S768x512 .bf16) (wk wv : Vec F S768x128 .bf16)

/-! The second batch half is computed by the same operations. -/
theorem hd2_0 : k0_pay27 x wq wk wv = hd 0 x wq wk wv := rfl
theorem hd2_1 : k0_pay31 (k0_pay28 x wv) (k0_pay29 x wq wk) k0_pay30 = hd 1 x wq wk wv := rfl
theorem hd2_2 : k0_pay32 (k0_pay24 x wq) (k0_pay25 x wk) (k0_pay26 x wv) = hd 2 x wq wk wv := rfl
theorem hd2_3 : k0_pay35 (k0_pay33 (k0_pay26 x wv)) (k0_pay34 (k0_pay24 x wq) (k0_pay25 x wk)) = hd 3 x wq wk wv := rfl
theorem hd2_4 : k0_pay36 (k0_pay24 x wq) (k0_pay25 x wk) (k0_pay26 x wv) = hd 4 x wq wk wv := rfl
theorem hd2_5 : k0_pay40 (k0_pay37 (k0_pay26 x wv)) (k0_pay38 (k0_pay24 x wq) (k0_pay25 x wk)) (k0_pay39 (k0_pay24 x wq) (k0_pay25 x wk)) = hd 5 x wq wk wv := rfl
theorem hd2_6 : k0_pay41 (k0_pay24 x wq) (k0_pay25 x wk) (k0_pay26 x wv) = hd 6 x wq wk wv := rfl
theorem hd2_7 : k0_pay44 (k0_pay42 (k0_pay26 x wv)) (k0_pay43 (k0_pay24 x wq) (k0_pay25 x wk)) = hd 7 x wq wk wv := rfl
end Second

variable (m : (ℓ : Loc nD τ sig) → Buf (Elt F) ℓ)

/-! ## A device's arguments -/

def xArg (c : Dev nD) : Vec F S512x768 .bf16 := m ((c : Thread nD τ).loc main_arg0)
def wqArg (c : Dev nD) : Vec F S768x512 .bf16 := m ((c : Thread nD τ).loc main_arg1)
def wkArg (c : Dev nD) : Vec F S768x512 .bf16 := m ((c : Thread nD τ).loc main_arg2)
def wvArg (c : Dev nD) : Vec F S768x512 .bf16 := m ((c : Thread nD τ).loc main_arg3)
def woArg (c : Dev nD) : Vec F S512x768 .bf16 := m ((c : Thread nD τ).loc main_arg4)

/-- The key (value) columns device `c` works with: 128 columns from column `128·c`. -/
def colsOf (c : Dev nD) (w : Vec F S768x512 .bf16) : Vec F S768x128 .bf16 :=
  fun j => w (ix2 (j 0).val (128 * c.val + (j 1).val))

/-- Row half `h` of `x`. -/
def xHalf (h : ℕ) (c : Dev nD) : Vec F S256x768 .bf16 := fun j => xArg m c (ix2 (h * 256 + (j 0).val) (j 1).val)

/-! ## The heads' outputs -/

def headAt (n h : ℕ) (c : Dev nD) : FVec F S256x64 .bf16 :=
  hd n (xHalf m h c) (wqArg m c) (colsOf c (wkArg m c)) (colsOf c (wvArg m c))

/-- Row `a`, column `b` of the heads' outputs: head `b/64` on the batch half `a/256`. -/
def oN (c : Dev nD) (a b : ℕ) : Elt F .bf16 := headAt m (b / 64) (a / 256) c (ix2 (a % 256) (b % 64))
def oAt (c : Dev nD) : Vec F S512x512 .bf16 := fun i => oN m c (i 0).val (i 1).val
/-- Row half `h` of them. -/
def oHalf (h : ℕ) (c : Dev nD) : Vec F S256x512 .bf16 := fun j => oN m c (h * 256 + (j 0).val) (j 1).val
/-- Column half `k` of the output weights. -/
def woHalf (k : ℕ) (c : Dev nD) : Vec F S512x384 .bf16 := fun j => woArg m c (ix2 (j 0).val (384 * k + (j 1).val))

/-! ## The partial products and their sums -/

/-- Row half `h`, column half `k` of device `c`'s partial product. -/
def pBlk (h k : ℕ) (c : Dev nD) : FVec F S256x384 .bf16 := k0_pay23 (oHalf m h c) (woHalf m k c)
def pN (c : Dev nD) (a b : ℕ) : Elt F .bf16 := pBlk m (a / 256) (b / 384) c (ix2 (a % 256) (b % 384))

/-- The partner of the first exchange step: `pa` in the left columns, `pb` in the right ones; -/
def par1 (c : Dev nD) (b : ℕ) : Dev nD := if b < 384 then pa c else pb c
/-- of the second one: the other one. -/
def par2 (c : Dev nD) (b : ℕ) : Dev nD := if b < 384 then pb c else pa c

/-- After the first step: own partial product plus the partner's. -/
def t1N (c : Dev nD) (a b : ℕ) : Elt F .bf16 := FloatOps.addf (φ := .bf16) (pN m c a b) (pN m (par1 c b) a b)
/-- After the second step. -/
def t2N (c : Dev nD) (a b : ℕ) : Elt F .bf16 := FloatOps.addf (φ := .bf16) (t1N m c a b) (t1N m (par2 c b) a b)

/-- The device whose sums row `a`, column `b` of the result are: in the left columns the row quarters belong to the
    devices 0, 3, 1, 2, in the right columns to the devices 0, 1, 2, 3. -/
def owner (a b : ℕ) : Dev nD :=
  if b < 384 then (if a / 128 = 0 then (0 : Fin 4) else if a / 128 = 1 then (3 : Fin 4) else if a / 128 = 2 then (1 : Fin 4) else (2 : Fin 4))
  else (⟨a / 128 % 4, Nat.mod_lt _ (by decide)⟩ : Fin 4)

def finN (a b : ℕ) : Elt F .bf16 := t2N m (owner a b) a b

def P (c : Dev nD) : Vec F S512x768 .bf16 := fun i => pN m c (i 0).val (i 1).val
def T1 (c : Dev nD) : Vec F S512x768 .bf16 := fun i => t1N m c (i 0).val (i 1).val
def fin : Vec F S512x768 .bf16 := fun i => finN m (i 0).val (i 1).val
/-- What every device writes: `fin`, widened. -/
def outFin : FVec F S512x768 .f32 := fun i => FloatOps.extf .f32 bitsLt_bf16_f32 (finN m (i 0).val (i 1).val)

/-! ## The quarters' owners -/

theorem owner_left (c : Dev nD) (a b : ℕ) (hb : b < 384) (ha : a / 128 = 2 * k1 c + k2 c) : owner a b = c := by
  unfold owner; rw [if_pos hb, ha]; clear ha hb; revert c; decide +kernel
theorem owner_right (c : Dev nD) (a b : ℕ) (hb : ¬ b < 384) (ha : a / 128 = 2 * k2 c + k3 c) : owner a b = c := by
  unfold owner; rw [if_neg hb]
  refine Fin.ext ?_
  show a / 128 % 4 = c.val
  rw [ha]; clear ha hb; revert c; decide +kernel

end Cert.Proof

end
-- ==== Proof.Protocol.lean ====
/-
# The protocol

The semaphore cells of the exchange and what a completed round of each hands over, in one round per cell.

* The runtime's barrier cell of a device is signalled by both partners: `pa`'s signal hands over `pa`'s landing buffers
  of slots 0 and 3, `pb`'s those of slots 1 and 2 — so a device writes into a partner's landing buffer only after the
  partner has entered the kernel.
* A local copy's cell hands back the argument read and the staged copy.
* Slots 0–3 land a block of the sender's sums in the partner's landing buffer, and hand over with it the SENDER's own
  block they were read from: the partner will fill exactly this block in a later slot (slot 4 fills what slot 2 sent,
  5 what 3 sent, 6 what 0 sent, 7 what 1 sent). The sender's own cell hands back nothing.
* Slots 4–7 land a block of finished sums in the partner's array; the sender's cell hands back the half share of the
  source it lent.
-/
module

public import proofs.«01_k».proof.Proof.Contents
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the staging pipeline's and the exchange's -/

abbrev UE : Type := URounds (GSem nD τ sig) Bool
abbrev UU : Type := UR sig nD τ × UE

local notation "𝕄" => MT nD τ sig Unit (Elt F) ℕ UU ℕ

abbrev EP : Emb (UR sig nD τ) (MT nD τ sig Unit (Elt F) ℕ UU ℕ) := embL
abbrev ER : Emb UE (MT nD τ sig Unit (Elt F) ℕ UU ℕ) := embR

/-! ## The memrefs -/

abbrev mA0 : Memref sig .tc .hbm S512x768 .bf16 := Memref.whole main_arg0
abbrev mA1 : Memref sig .tc .hbm S768x512 .bf16 := Memref.whole main_arg1
abbrev mA2 : Memref sig .tc .hbm S768x512 .bf16 := Memref.whole main_arg2
abbrev mA3 : Memref sig .tc .hbm S768x512 .bf16 := Memref.whole main_arg3
abbrev mA4 : Memref sig .tc .hbm S512x768 .bf16 := Memref.whole main_arg4
abbrev mOut : Memref sig .tc .vmem S512x768 .f32 := Memref.whole cc0_stg0_0
abbrev mX : Memref sig .tc .vmem S512x768 .bf16 := Memref.whole cc0_scratch0
abbrev mQ : Memref sig .tc .vmem S768x512 .bf16 := Memref.whole cc0_scratch1
abbrev mK : Memref sig .tc .vmem S768x128 .bf16 := Memref.whole cc0_scratch2
abbrev mV : Memref sig .tc .vmem S768x128 .bf16 := Memref.whole cc0_scratch3
abbrev mW : Memref sig .tc .vmem S512x768 .bf16 := Memref.whole cc0_scratch4
abbrev mB : Memref sig .tc .vmem S512x768 .bf16 := Memref.whole cc0_scratch5
abbrev mO : Memref sig .tc .vmem S512x512 .bf16 := Memref.whole cc0_scratch6
abbrev mC0 : Memref sig .tc .vmem S256x384 .bf16 := Memref.whole cc0_scratch7
abbrev mC1 : Memref sig .tc .vmem S256x384 .bf16 := Memref.whole cc0_scratch8
abbrev mC2 : Memref sig .tc .vmem S128x384 .bf16 := Memref.whole cc0_scratch9
abbrev mC3 : Memref sig .tc .vmem S128x384 .bf16 := Memref.whole cc0_scratch10

/-- The memref of a device's key (value) columns. -/
abbrev mColsK (c : Dev nD) : Memref sig .tc .hbm S768x128 .bf16 :=
  mA2.slice (Rect.unit (s := S768x512) (k0_off1 c) S768x128.size (k0_off1_inb c)) (fun _ => rfl)
abbrev mColsV (c : Dev nD) : Memref sig .tc .hbm S768x128 .bf16 :=
  mA3.slice (Rect.unit (s := S768x512) (k0_off1 c) S768x128.size (k0_off1_inb c)) (fun _ => rfl)

/-! ## The regions of the array of sums -/

/-- Rows `r … r+n−1` of column half `k`. -/
def rs (r n k : ℕ) : Finset S512x768.Idx :=
  Finset.univ.filter fun i => (r ≤ (i 0).val ∧ (i 0).val < r + n) ∧ (i 1).val / 384 = k

theorem mem_rs {r n k : ℕ} {i : S512x768.Idx} : i ∈ rs r n k ↔ (r ≤ (i 0).val ∧ (i 0).val < r + n) ∧ (i 1).val / 384 = k := by
  unfold rs; simp

/-- The half kept (`K`) and the half sent away (`S`), in the left (`A`) and right (`B`) columns; -/
def KA (c : Dev nD) : Finset S512x768.Idx := rs (k1 c * 256) 256 0
def SA (c : Dev nD) : Finset S512x768.Idx := rs ((1 - k1 c) * 256) 256 0
def KB (c : Dev nD) : Finset S512x768.Idx := rs (k2 c * 256) 256 1
def SB (c : Dev nD) : Finset S512x768.Idx := rs ((1 - k2 c) * 256) 256 1
/-- the quarter owned at the end (`Q`) and the quarter sent away in the second step (`R`). -/
def QA (c : Dev nD) : Finset S512x768.Idx := rs ((2 * k1 c + k2 c) * 128) 128 0
def RA (c : Dev nD) : Finset S512x768.Idx := rs ((2 * k1 c + (1 - k2 c)) * 128) 128 0
def QB (c : Dev nD) : Finset S512x768.Idx := rs ((2 * k2 c + k3 c) * 128) 128 1
def RB (c : Dev nD) : Finset S512x768.Idx := rs ((2 * k2 c + (1 - k3 c)) * 128) 128 1

theorem SA_pa (c : Dev nD) : SA (pa c) = KA c := by have := k1_le c; unfold SA KA; rw [k1_pa, Nat.sub_sub_self this]
theorem SB_pb (c : Dev nD) : SB (pb c) = KB c := by have := k2_le c; unfold SB KB; rw [k2_pb, Nat.sub_sub_self this]
theorem RA_pb (c : Dev nD) : RA (pb c) = QA c := by have := k2_le c; unfold RA QA; rw [k1_pb, k2_pb, Nat.sub_sub_self this]
theorem RB_pa (c : Dev nD) : RB (pa c) = QB c := by have := k3_le c; unfold RB QB; rw [k2_pa, k3_pa, Nat.sub_sub_self this]
theorem KA_pa (c : Dev nD) : KA (pa c) = SA c := by rw [← SA_pa, pa_pa]
theorem KB_pb (c : Dev nD) : KB (pb c) = SB c := by rw [← SB_pb, pb_pb]
theorem QA_pb (c : Dev nD) : QA (pb c) = RA c := by rw [← RA_pb, pb_pb]
theorem QB_pa (c : Dev nD) : QB (pa c) = RB c := by rw [← RB_pa, pa_pa]

theorem KA_eq (c : Dev nD) : KA c = QA c ∪ RA c := by
  have := k2_le c
  ext i; unfold KA QA RA; simp only [Finset.mem_union, mem_rs]; omega
theorem KB_eq (c : Dev nD) : KB c = QB c ∪ RB c := by
  have := k3_le c
  ext i; unfold KB QB RB; simp only [Finset.mem_union, mem_rs]; omega
theorem QA_RA (c : Dev nD) : Disjoint (QA c) (RA c) := by
  have := k2_le c
  rw [Finset.disjoint_left]; intro i; unfold QA RA; simp only [mem_rs]; omega
theorem QB_RB (c : Dev nD) : Disjoint (QB c) (RB c) := by
  have := k3_le c
  rw [Finset.disjoint_left]; intro i; unfold QB RB; simp only [mem_rs]; omega
theorem KA_SA (c : Dev nD) : Disjoint (KA c) (SA c) := by
  have := k1_le c
  rw [Finset.disjoint_left]; intro i; unfold KA SA; simp only [mem_rs]; omega
theorem KB_SB (c : Dev nD) : Disjoint (KB c) (SB c) := by
  have := k2_le c
  rw [Finset.disjoint_left]; intro i; unfold KB SB; simp only [mem_rs]; omega
theorem left_right (c : Dev nD) : Disjoint (KA c ∪ SA c) (KB c ∪ SB c) := by
  rw [Finset.disjoint_left]; intro i; unfold KA SA KB SB; simp only [Finset.mem_union, mem_rs]; omega
theorem halves_univ (c : Dev nD) : (KA c ∪ SA c) ∪ (KB c ∪ SB c) = Finset.univ := by
  have := k1_le c; have := k2_le c
  ext i
  have h0 : (i 0).val < 512 := (i 0).isLt
  have h1 : (i 1).val < 768 := (i 1).isLt
  unfold KA SA KB SB; simp only [Finset.mem_union, mem_rs, Finset.mem_univ, iff_true]; omega

/-! ## The cells -/

/-- The cells of a device: the barrier, the five local copies, the eight sends, the eight landings. -/
inductive Ck where
  | bar : Ck
  | loc : Fin 5 → Ck
  | snd : Fin 8 → Ck
  | rcv : Fin 8 → Ck
deriving DecidableEq

/-- The cells as a sum of the four kinds. -/
def ckEquiv : Unit ⊕ Fin 5 ⊕ Fin 8 ⊕ Fin 8 ≃ Ck where
  toFun
    | .inl _ => .bar
    | .inr (.inl k) => .loc k
    | .inr (.inr (.inl k)) => .snd k
    | .inr (.inr (.inr k)) => .rcv k
  invFun
    | .bar => .inl ()
    | .loc k => .inr (.inl k)
    | .snd k => .inr (.inr (.inl k))
    | .rcv k => .inr (.inr (.inr k))
  left_inv := by rintro (_ | _ | _ | _) <;> rfl
  right_inv := by rintro (_ | _ | _ | _) <;> rfl

instance : Fintype Ck := Fintype.ofEquiv _ ckEquiv

abbrev barS : Sem sig := (SemArray.scalar (sig.barrier 0 rfl) : Sems sig S_).sem
abbrev lsem : Fin 5 → DmaSem sig := fun
  | 0 => (((cc0_scratch11 : DmaSems sig S5).slice (Rect.unit (s := S5) ![0] S1.size inb_S5_S1_0)).squeeze S_ squeezes_S1_S_).sem
  | 1 => (((cc0_scratch11 : DmaSems sig S5).slice (Rect.unit (s := S5) ![1] S1.size inb_S5_S1_1)).squeeze S_ squeezes_S1_S_).sem
  | 2 => (((cc0_scratch11 : DmaSems sig S5).slice (Rect.unit (s := S5) ![2] S1.size inb_S5_S1_2)).squeeze S_ squeezes_S1_S_).sem
  | 3 => (((cc0_scratch11 : DmaSems sig S5).slice (Rect.unit (s := S5) ![3] S1.size inb_S5_S1_3)).squeeze S_ squeezes_S1_S_).sem
  | 4 => (((cc0_scratch11 : DmaSems sig S5).slice (Rect.unit (s := S5) ![4] S1.size inb_S5_S1_4)).squeeze S_ squeezes_S1_S_).sem
abbrev ssem : Fin 8 → DmaSem sig := fun
  | 0 => (((cc0_scratch12 : DmaSems sig S8).slice (Rect.unit (s := S8) ![0] S1.size inb_S8_S1_0)).squeeze S_ squeezes_S1_S_).sem
  | 1 => (((cc0_scratch12 : DmaSems sig S8).slice (Rect.unit (s := S8) ![1] S1.size inb_S8_S1_1)).squeeze S_ squeezes_S1_S_).sem
  | 2 => (((cc0_scratch12 : DmaSems sig S8).slice (Rect.unit (s := S8) ![2] S1.size inb_S8_S1_2)).squeeze S_ squeezes_S1_S_).sem
  | 3 => (((cc0_scratch12 : DmaSems sig S8).slice (Rect.unit (s := S8) ![3] S1.size inb_S8_S1_3)).squeeze S_ squeezes_S1_S_).sem
  | 4 => (((cc0_scratch12 : DmaSems sig S8).slice (Rect.unit (s := S8) ![4] S1.size inb_S8_S1_4)).squeeze S_ squeezes_S1_S_).sem
  | 5 => (((cc0_scratch12 : DmaSems sig S8).slice (Rect.unit (s := S8) ![5] S1.size inb_S8_S1_5)).squeeze S_ squeezes_S1_S_).sem
  | 6 => (((cc0_scratch12 : DmaSems sig S8).slice (Rect.unit (s := S8) ![6] S1.size inb_S8_S1_6)).squeeze S_ squeezes_S1_S_).sem
  | 7 => (((cc0_scratch12 : DmaSems sig S8).slice (Rect.unit (s := S8) ![7] S1.size inb_S8_S1_7)).squeeze S_ squeezes_S1_S_).sem
abbrev rsem : Fin 8 → DmaSem sig := fun
  | 0 => (((cc0_scratch13 : DmaSems sig S8).slice (Rect.unit (s := S8) ![0] S1.size inb_S8_S1_0)).squeeze S_ squeezes_S1_S_).sem
  | 1 => (((cc0_scratch13 : DmaSems sig S8).slice (Rect.unit (s := S8) ![1] S1.size inb_S8_S1_1)).squeeze S_ squeezes_S1_S_).sem
  | 2 => (((cc0_scratch13 : DmaSems sig S8).slice (Rect.unit (s := S8) ![2] S1.size inb_S8_S1_2)).squeeze S_ squeezes_S1_S_).sem
  | 3 => (((cc0_scratch13 : DmaSems sig S8).slice (Rect.unit (s := S8) ![3] S1.size inb_S8_S1_3)).squeeze S_ squeezes_S1_S_).sem
  | 4 => (((cc0_scratch13 : DmaSems sig S8).slice (Rect.unit (s := S8) ![4] S1.size inb_S8_S1_4)).squeeze S_ squeezes_S1_S_).sem
  | 5 => (((cc0_scratch13 : DmaSems sig S8).slice (Rect.unit (s := S8) ![5] S1.size inb_S8_S1_5)).squeeze S_ squeezes_S1_S_).sem
  | 6 => (((cc0_scratch13 : DmaSems sig S8).slice (Rect.unit (s := S8) ![6] S1.size inb_S8_S1_6)).squeeze S_ squeezes_S1_S_).sem
  | 7 => (((cc0_scratch13 : DmaSems sig S8).slice (Rect.unit (s := S8) ![7] S1.size inb_S8_S1_7)).squeeze S_ squeezes_S1_S_).sem

abbrev csem : Ck → SemLoc sig
  | .bar => .reg barS
  | .loc k => .dma (lsem k)
  | .snd k => .dma (ssem k)
  | .rcv k => .dma (rsem k)

theorem csem_injective : Function.Injective csem := by
  intro a b; revert a b; decide +kernel

abbrev cell (c : Dev nD) (k : Ck) : GSem nD τ sig := ((c : Thread nD τ), csem k)

/-- The units a cell's round expects from one duty. -/
def amt : Ck → ℕ
  | .bar => 1
  | .loc 0 => mX.view.dmaCredit | .loc 1 => mQ.view.dmaCredit | .loc 2 => mK.view.dmaCredit | .loc 3 => mV.view.dmaCredit | .loc _ => mW.view.dmaCredit
  | .snd k | .rcv k => match k with
    | 2 | 3 | 4 | 5 => mC2.view.dmaCredit
    | _ => mC0.view.dmaCredit

theorem amt_pos (k : Ck) : 0 < amt k := by
  unfold amt
  (repeat' split) <;> first | exact Nat.one_pos | exact View.dmaCredit_pos _ (by decide)

/-! ## What the rounds hand over -/

variable (m : (ℓ : Loc nD τ sig) → Buf (Elt F) ℓ)

/-- A 384-column block of an array given by its entries: rows from `r`, column half `k`. -/
def blk {n : ℕ} {α : Type} (G : ℕ → ℕ → α) (r k : ℕ) : (⟨2, ![n, 384]⟩ : Shape).Idx → α := fun j => G (r + (j 0).val) (384 * k + (j 1).val)

/-- What lands in the four landing buffers. -/
def c0At (c : Dev nD) : Vec F S256x384 .bf16 := blk (pN m (pa c)) (k1 c * 256) 0
def c1At (c : Dev nD) : Vec F S256x384 .bf16 := blk (pN m (pb c)) (k2 c * 256) 1
def c2At (c : Dev nD) : Vec F S128x384 .bf16 := blk (t1N m (pb c)) ((2 * k1 c + k2 c) * 128) 0
def c3At (c : Dev nD) : Vec F S128x384 .bf16 := blk (t1N m (pa c)) ((2 * k2 c + k3 c) * 128) 1

/-- Elements `S` of device `c`'s array of sums, share `q`, at the array contents `G`. -/
def bReg (c : Dev nD) (q : PosShare TreeShare) (S : Finset S512x768.Idx) (G : Vec F S512x768 .bf16) : sProp 𝕄 :=
  ((c : Thread nD τ).loc cc0_scratch5) ↦[S]{q} G
/-- A whole buffer of device `c`. -/
def own (c : Dev nD) (b : Ref sig .tc) (f : b.ty.Contents (Elt F)) : sProp 𝕄 := ((c : Thread nD τ).loc b) ↦{fullShare} f

instance bReg_storable (c : Dev nD) (q S) (G : Vec F S512x768 .bf16) : BI.Storable (upEmb : UEmb _ 𝕄) (bReg (F := F) c q S G) := by unfold bReg; infer_instance
instance own_storable (c : Dev nD) (b : Ref sig .tc) (f : b.ty.Contents (Elt F)) : BI.Storable (upEmb : UEmb _ 𝕄) (own (F := F) c b f) := by unfold own; infer_instance

/-- What an argument's local copy read. -/
def srcReg (c : Dev nD) : Fin 5 → sProp 𝕄
  | 0 => mA0.view.loc (c : Thread nD τ) ↦[mA0.view.set]{fullShare} m _
  | 1 => mA1.view.loc (c : Thread nD τ) ↦[mA1.view.set]{fullShare} m _
  | 2 => (mColsK c).view.loc (c : Thread nD τ) ↦[(mColsK c).view.set]{fullShare} m _
  | 3 => (mColsV c).view.loc (c : Thread nD τ) ↦[(mColsV c).view.set]{fullShare} m _
  | _ => mA4.view.loc (c : Thread nD τ) ↦[mA4.view.set]{fullShare} m _

/-- The staged copies. -/
def stgOwn (c : Dev nD) : Fin 5 → sProp 𝕄
  | 0 => own c cc0_scratch0 (xArg m c)
  | 1 => own c cc0_scratch1 (wqArg m c)
  | 2 => own c cc0_scratch2 (colsOf c (wkArg m c))
  | 3 => own c cc0_scratch3 (colsOf c (wvArg m c))
  | _ => own c cc0_scratch4 (woArg m c)

def pay (c : Dev nD) : Ck → Bool → sProp 𝕄
  | .bar, false => iprop((∃ f, own (pa c) cc0_scratch7 f) ∗ (∃ f, own (pa c) cc0_scratch10 f))
  | .bar, true => iprop((∃ f, own (pb c) cc0_scratch8 f) ∗ (∃ f, own (pb c) cc0_scratch9 f))
  | .loc k, _ => iprop(stgOwn m c k ∗ srcReg m c k)
  | .snd k, _ => match k with
    | 4 => bReg c fullShare.left (QA c) (fin m)
    | 5 => bReg c fullShare.left (QB c) (fin m)
    | 6 => bReg c fullShare.left (KA c) (fin m)
    | 7 => bReg c fullShare.left (KB c) (fin m)
    | _ => iprop(emp)
  | .rcv k, _ => match k with
    | 0 => iprop(own c cc0_scratch7 (c0At m c) ∗ bReg (pa c) fullShare (KA c) (P m (pa c)))
    | 1 => iprop(own c cc0_scratch8 (c1At m c) ∗ bReg (pb c) fullShare (KB c) (P m (pb c)))
    | 2 => iprop(own c cc0_scratch9 (c2At m c) ∗ bReg (pb c) fullShare (QA c) (T1 m (pb c)))
    | 3 => iprop(own c cc0_scratch10 (c3At m c) ∗ bReg (pa c) fullShare (QB c) (T1 m (pa c)))
    | 4 => bReg c fullShare (RA c) (fin m)
    | 5 => bReg c fullShare (RB c) (fin m)
    | 6 => bReg c fullShare (SA c) (fin m)
    | 7 => bReg c fullShare (SB c) (fin m)

def duts : Ck → Finset Bool
  | .bar => Finset.univ
  | _ => {false}

/-- One round, round 0, per cell. -/
def sched : Rounds.Schedule (GSem nD τ sig) Bool 𝕄 where
  duties g r := if r = 0 ∧ g.1.2 = .tc then (match Function.partialInv csem g.2 with | some k => duts k | none => ∅) else ∅
  unitless _ := False
  amount g _ _ := match Function.partialInv csem g.2 with | some k => amt k | none => 1
  payload g _ d := match Function.partialInv csem g.2 with | some k => pay m g.1.1 k d | none => iprop(emp)
  amount_pos g _ _ _ := by
    show 0 < (match Function.partialInv csem g.2 with | some k => amt k | none => 1)
    split
    · exact amt_pos _
    · exact Nat.one_pos

instance pay_storable (c : Dev nD) (k : Ck) (d : Bool) : BI.Storable (upEmb : UEmb _ 𝕄) (pay (F := F) m c k d) := by
  rcases k with _ | k | k | k
  · cases d <;> (unfold pay; infer_instance)
  · have h1 : BI.Storable (upEmb : UEmb _ 𝕄) (stgOwn m c k) := by unfold stgOwn; split <;> infer_instance
    have h2 : BI.Storable (upEmb : UEmb _ 𝕄) (srcReg m c k) := by unfold srcReg; split <;> infer_instance
    unfold pay; infer_instance
  · unfold pay; dsimp only; split <;> infer_instance
  · unfold pay; dsimp only; split <;> infer_instance

instance sched_payload_storable (g : GSem nD τ sig) (r : ℕ) (d : Bool) :
    BI.Storable (upEmb : UEmb _ 𝕄) ((sched (F := F) m).payload g r d) := by
  show BI.Storable upEmb (match Function.partialInv csem g.2 with | some k => pay m g.1.1 k d | none => iprop(emp))
  split <;> infer_instance

section Sched
variable (c : Dev nD) (k : Ck)

theorem inv_csem : Function.partialInv csem (csem k) = some k := Function.partialInv_left csem_injective k

theorem duties_cell : (sched (F := F) m).duties (cell c k) 0 = duts k := by
  dsimp only [sched]; rw [if_pos ⟨rfl, rfl⟩, inv_csem]
theorem duties_later (g : GSem nD τ sig) : ∀ r, 1 ≤ r → (sched (F := F) m).duties g r = ∅ :=
  fun r hr => by dsimp only [sched]; rw [if_neg fun h => by omega]
theorem amount_cell (d : Bool) : (sched (F := F) m).amount (cell c k) 0 d = amt k := by
  dsimp only [sched]; rw [inv_csem]
theorem payload_cell (d : Bool) : (sched (F := F) m).payload (cell c k) 0 d = pay m c k d := by
  dsimp only [sched]; rw [inv_csem]

theorem expect_bar : (sched (F := F) m).expect (cell c .bar) 0 = 2 := by
  unfold Schedule.expect Schedule.amountOf
  rw [duties_cell, Finset.sum_congr rfl fun d _ => amount_cell m c .bar d]; rfl
theorem expect_dma (h : duts k = {false}) : (sched (F := F) m).expect (cell c k) 0 = amt k := by
  unfold Schedule.expect Schedule.amountOf; rw [duties_cell, h, Finset.sum_singleton, amount_cell]

/-- All a barrier round hands over: both partners' landing buffers. -/
theorem rest_bar : bigSep ((sched (F := F) m).duties (cell c .bar) 0 \ ∅) (fun d => (sched (F := F) m).payload (cell c .bar) 0 d)
    = iprop(pay m c .bar false ∗ pay m c .bar true) := by
  rw [Finset.sdiff_empty, duties_cell]
  show bigSep Finset.univ _ = _
  rw [bigSep_univ_eq_bigSepL [false, true] (by decide) (by decide), bigSepL_cons_cons, bigSepL_singleton, payload_cell, payload_cell]
  rfl
theorem rest_dma (h : duts k = {false}) : bigSep ((sched (F := F) m).duties (cell c k) 0 \ ∅) (fun d => (sched (F := F) m).payload (cell c k) 0 d) = pay m c k false := by
  rw [Finset.sdiff_empty, duties_cell, h, bigSep_singleton, payload_cell]

end Sched

/-! ## What a device owes; the levels -/

/-- The partner slot `s` of device `c` sends to. -/
def par (c : Dev nD) : Fin 8 → Dev nD
  | 0 | 3 | 5 | 6 => pa c
  | _ => pb c

/-- The landings device `c` still owes when its last `n` slots are to come. -/
def rem (c : Dev nD) : ℕ → CellTallies nD τ sig Unit
  | 0 => 0
  | n + 1 => rem c n + tallyAt (cell (par c (Fin.ofNat 8 (7 - n))) (.rcv (Fin.ofNat 8 (7 - n)))) () (amt (.rcv (Fin.ofNat 8 (7 - n))))

def O₁ (c : Dev nD) : CellTallies nD τ sig Unit := rem c 8 + tallyAt (cell (pb c) .bar) () 1
/-- At launch a device owes a barrier unit to each partner and its eight landings. -/
def O₀ (c : Dev nD) : CellTallies nD τ sig Unit := O₁ c + tallyAt (cell (pa c) .bar) () 1

def L (g : GSem nD τ sig) : Finset Unit := if g.1.2 = .tc then {()} else ∅

/-- The waiting order: barriers first, then the landings slot by slot. -/
def lvC : Ck → ℕ
  | .bar => 1
  | .rcv k => k.val + 2
  | _ => 0
def lv (g : GSem nD τ sig) (_ : Unit) : ℕ := match Function.partialInv csem g.2 with | some k => lvC k | none => 0

theorem lv_cell (c : Dev nD) (k : Ck) (u : Unit) : lv (cell c k) u = lvC k := by unfold lv; rw [inv_csem]

theorem L_of_ne (g : GSem nD τ sig) (h : g.1.2 ≠ .tc) : L g = ∅ := if_neg h
theorem L_tc (c : Dev nD) (sm : SemLoc sig) : L ((c : Thread nD τ), sm) = {()} := if_pos rfl

theorem tallyAt_pos {g g' : GSem nD τ sig} {u : Unit} {n : ℕ} (h : 0 < tallyAt g () n g' u) : g' = g := by
  rw [tallyAt_apply] at h
  by_contra hn
  rw [if_neg (fun h' => hn h'.1)] at h
  exact Nat.lt_irrefl 0 h

theorem rem_pos (c : Dev nD) {g : GSem nD τ sig} {u : Unit} : ∀ n, n ≤ 8 → 0 < rem c n g u → ∃ s : Fin 8, 8 - n ≤ s.val ∧ g = cell (par c s) (.rcv s)
  | 0, _, h => absurd h (Nat.lt_irrefl 0)
  | n + 1, hn, h => by
    unfold rem at h
    rw [Pi.add_apply, Finsupp.add_apply] at h
    rcases Nat.add_pos_iff_pos_or_pos.mp h with h | h
    · obtain ⟨s, hs, hg⟩ := rem_pos c n (by omega) h
      exact ⟨s, by omega, hg⟩
    · refine ⟨Fin.ofNat 8 (7 - n), ?_, tallyAt_pos h⟩
      show 8 - (n + 1) ≤ (7 - n) % 8
      omega

theorem O₀_pos (c : Dev nD) {g : GSem nD τ sig} {u : Unit} (h : 0 < O₀ c g u) :
    (∃ s : Fin 8, g = cell (par c s) (.rcv s)) ∨ g = cell (pb c) .bar ∨ g = cell (pa c) .bar := by
  unfold O₀ O₁ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨s, _, hg⟩ := rem_pos c 8 le_rfl h
      exact .inl ⟨s, hg⟩
    · exact .inr (.inl (tallyAt_pos h))
  · exact .inr (.inr (tallyAt_pos h))

/-- A device may wait on its cell `k` while the landings it owes are all of later slots. -/
theorem mayWait_rem (c : Dev nD) (k : Ck) (n : ℕ) (hn : n ≤ 8) (h : ∀ s : Fin 8, 8 - n ≤ s.val → lvC k < s.val + 2) :
    (levAts L lv : sProp 𝕄) ⊢ MayWait (c : Thread nD τ) (csem k) () (rem c n) :=
  MayOwe.of_cut (L := L) (lev := lv) (lvC k) (fun p hp => by rw [Finset.mem_singleton.mp hp, L_tc]; exact Finset.mem_singleton_self _)
    (fun g u hg => by obtain ⟨s, _, rfl⟩ := rem_pos c n hn hg; rw [L_tc]; exact Finset.mem_singleton_self _)
    (fun p hp => by rw [Finset.mem_singleton.mp hp]; exact le_of_eq (lv_cell c k ()))
    (fun g u hg => by obtain ⟨s, hs, rfl⟩ := rem_pos c n hn hg; rw [lv_cell]; exact h s hs)

/-- The pipeline's staging waits are below everything a device owes. -/
theorem mayWait_stage (c : Dev nD) (sm : SemLoc sig) (hq : ∀ k, csem k ≠ sm) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos c hg with ⟨s, rfl⟩ | rfl | rfl <;> exact Finset.mem_singleton_self _)
      (fun p hp => by
        rw [Finset.mem_singleton.mp hp]; unfold lv
        have : Function.partialInv csem sm = none := by
          rcases h : Function.partialInv csem sm with _ | k
          · rfl
          · exact absurd ((Function.partialInv_of_injective csem_injective k sm).mp h) (hq k)
        simp only [this]; exact le_rfl)
      (fun g u hg => by
        rcases O₀_pos c hg with ⟨s, rfl⟩ | rfl | rfl <;> rw [lv_cell] <;> simp [lvC])
  · rw [MayWait_zero]; iintro -; iempintro

end Cert.Proof

end
-- ==== Proof.Rules.lean ====
/-
# The steps of a device

One rule per operation of the kernel, stated on this proof's resources: reading and writing a buffer or a region of the
array of sums, waiting for a cell, sending a slot.
-/
module

public import proofs.«01_k».proof.Proof.Protocol
public import proofs.«01_k».proof.Proof.Gen.KernelIdeal.Skeleton

@[expose] public section

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores -/

section Mem
variable (c : Dev nD) {α : Type} {Q : α → sProp (MT nD τ sig Unit (Elt F) ℕ UU ℕ)}

/-- A load of a rectangle owned in part, whose contents there are `v`. -/
theorem ld {cs : CoreSpace} {s : Shape} {e : EltTy} {M : Memref sig .tc cs s e} {r : Rect s} {hl : M.view.LoadsAt r}
    {k : (r.shape.Idx → Elt F e) → Prog (TpuEff nD τ sig (Elt F) Λ₀ .tc) α}
    {S : Finset (Idx ((M.access r).loc (c : Thread nD τ)))} {q : PosShare TreeShare} {f : Buf (Elt F) ((M.access r).loc (c : Thread nD τ))}
    (hS : (M.access r).set ⊆ S) (v : r.shape.Idx → Elt F e) (hv : (M.access r).read (Elt F) f = v) :
    ((M.access r).loc (c : Thread nD τ) ↦[S]{q} f : sProp 𝕄)
      ⊢ iprop((((M.access r).loc (c : Thread nD τ) ↦[S]{q} f) -∗ wpc c (k v) Q) -∗ wpc c (.op (.load M r hl) k) Q) := by
  subst hv
  exact wp_load_rect 𝒱₀ (c : Thread nD τ) none Set.univ hS

/-- A store there. -/
theorem st {cs : CoreSpace} {s : Shape} {e : EltTy} {M : Memref sig .tc cs s e} {r : Rect s} {w : r.shape.Idx → Elt F e}
    {hx : (M.access r).Stores Finset.univ} {hm : (Finset.univ : Finset r.shape.Idx) = Finset.univ ∨ ∀ a, r.stride a = 1} {k : PUnit → Prog (TpuEff nD τ sig (Elt F) Λ₀ .tc) α}
    {S : Finset (Idx ((M.access r).loc (c : Thread nD τ)))} {f : Buf (Elt F) ((M.access r).loc (c : Thread nD τ))}
    (hS : (M.access r).set ⊆ S) :
    ((M.access r).loc (c : Thread nD τ) ↦[S]{fullShare} f : sProp 𝕄)
      ⊢ iprop((((M.access r).loc (c : Thread nD τ) ↦[S]{fullShare} ((M.access r).write (Elt F) f w Finset.univ)) -∗ wpc c (k ⟨⟩) Q)
        -∗ wpc c (.op (.store M r w Finset.univ hx hm) k) Q) :=
  wp_store 𝒱₀ (c : Thread nD τ) none Set.univ (m := M) (r := r) (w := w) (Mk := Finset.univ) (S := S) (f := f) (k := k) hS

/-! ### The whole buffers -/

theorem ldX {r : Rect S512x768} {hl : mX.view.LoadsAt r} {k : (r.shape.Idx → Elt F .bf16) → Prog (TpuEff nD τ sig (Elt F) Λ₀ .tc) α}
    {f : Vec F S512x768 .bf16} (v : r.shape.Idx → Elt F .bf16) (hv : (fun j => f (r.toLoadRect.idx j)) = v) :
    own c cc0_scratch0 f ⊢ iprop((own c cc0_scratch0 f -∗ wpc c (k v) Q) -∗ wpc c (.op (.load mX r hl) k) Q) :=
  ld c (M := mX) (r := r) (hl := hl) (k := k) (f := f) (S := Finset.univ) (Finset.subset_univ _) v hv

theorem ldQ {r : Rect S768x512} {hl : mQ.view.LoadsAt r} {k : (r.shape.Idx → Elt F .bf16) → Prog (TpuEff nD τ sig (Elt F) Λ₀ .tc) α}
    {f : Vec F S768x512 .bf16} (v : r.shape.Idx → Elt F .bf16) (hv : (fun j => f (r.toLoadRect.idx j)) = v) :
    own c cc0_scratch1 f ⊢ iprop((own c cc0_scratch1 f -∗ wpc c (k v) Q) -∗ wpc c (.op (.load mQ r hl) k) Q) :=
  ld c (M := mQ) (r := r) (hl := hl) (k := k) (f := f) (S := Finset.univ) (Finset.subset_univ _) v hv

theorem ldK {r : Rect S768x128} {hl : mK.view.LoadsAt r} {k : (r.shape.Idx → Elt F .bf16) → Prog (TpuEff nD τ sig (Elt F) Λ₀ .tc) α}
    {f : Vec F S768x128 .bf16} (v : r.shape.Idx → Elt F .bf16) (hv : (fun j => f (r.toLoadRect.idx j)) = v) :
    own c cc0_scratch2 f ⊢ iprop((own c cc0_scratch2 f -∗ wpc c (k v) Q) -∗ wpc c (.op (.load mK r hl) k) Q) :=
  ld c (M := mK) (r := r) (hl := hl) (k := k) (f := f) (S := Finset.univ) (Finset.subset_univ _) v hv

theorem ldV {r : Rect S768x128} {hl : mV.view.LoadsAt r} {k : (r.shape.Idx → Elt F .bf16) → Prog (TpuEff nD τ sig (Elt F) Λ₀ .tc) α}
    {f : Vec F S768x128 .bf16} (v : r.shape.Idx → Elt F .bf16) (hv : (fun j => f (r.toLoadRect.idx j)) = v) :
    own c cc0_scratch3 f ⊢ iprop((own c cc0_scratch3 f -∗ wpc c (k v) Q) -∗ wpc c (.op (.load mV r hl) k) Q) :=
  ld c (M := mV) (r := r) (hl := hl) (k := k) (f := f) (S := Finset.univ) (Finset.subset_univ _) v hv

theorem ldW {r : Rect S512x768} {hl : mW.view.LoadsAt r} {k : (r.shape.Idx → Elt F .bf16) → Prog (TpuEff nD τ sig (Elt F) Λ₀ .tc) α}
    {f : Vec F S512x768 .bf16} (v : r.shape.Idx → Elt F .bf16) (hv : (fun j => f (r.toLoadRect.idx j)) = v) :
    own c cc0_scratch4 f ⊢ iprop((own c cc0_scratch4 f -∗ wpc c (k v) Q) -∗ wpc c (.op (.load mW r hl) k) Q) :=
  ld c (M := mW) (r := r) (hl := hl) (k := k) (f := f) (S := Finset.univ) (Finset.subset_univ _) v hv

theorem ldO {r : Rect S512x512} {hl : mO.view.LoadsAt r} {k : (r.shape.Idx → Elt F .bf16) → Prog (TpuEff nD τ sig (Elt F) Λ₀ .tc) α}
    {f : Vec F S512x512 .bf16} (v : r.shape.Idx → Elt F .bf16) (hv : (fun j => f (r.toLoadRect.idx j)) = v) :
    own c cc0_scratch6 f ⊢ iprop((own c cc0_scratch6 f -∗ wpc c (k v) Q) -∗ wpc c (.op (.load mO r hl) k) Q) :=
  ld c (M := mO) (r := r) (hl := hl) (k := k) (f := f) (S := Finset.univ) (Finset.subset_univ _) v hv

theorem ldC0 {r : Rect S256x384} {hl : mC0.view.LoadsAt r} {k : (r.shape.Idx → Elt F .bf16) → Prog (TpuEff nD τ sig (Elt F) Λ₀ .tc) α}
    {f : Vec F S256x384 .bf16} (v : r.shape.Idx → Elt F .bf16) (hv : (fun j => f (r.toLoadRect.idx j)) = v) :
    own c cc0_scratch7 f ⊢ iprop((own c cc0_scratch7 f -∗ wpc c (k v) Q) -∗ wpc c (.op (.load mC0 r hl) k) Q) :=
  ld c (M := mC0) (r := r) (hl := hl) (k := k) (f := f) (S := Finset.univ) (Finset.subset_univ _) v hv

theorem ldC1 {r : Rect S256x384} {hl : mC1.view.LoadsAt r} {k : (r.shape.Idx → Elt F .bf16) → Prog (TpuEff nD τ sig (Elt F) Λ₀ .tc) α}
    {f : Vec F S256x384 .bf16} (v : r.shape.Idx → Elt F .bf16) (hv : (fun j => f (r.toLoadRect.idx j)) = v) :
    own c cc0_scratch8 f ⊢ iprop((own c cc0_scratch8 f -∗ wpc c (k v) Q) -∗ wpc c (.op (.load mC1 r hl) k) Q) :=
  ld c (M := mC1) (r := r) (hl := hl) (k := k) (f := f) (S := Finset.univ) (Finset.subset_univ _) v hv

theorem ldC2 {r : Rect S128x384} {hl : mC2.view.LoadsAt r} {k : (r.shape.Idx → Elt F .bf16) → Prog (TpuEff nD τ sig (Elt F) Λ₀ .tc) α}
    {f : Vec F S128x384 .bf16} (v : r.shape.Idx → Elt F .bf16) (hv : (fun j => f (r.toLoadRect.idx j)) = v) :
    own c cc0_scratch9 f ⊢ iprop((own c cc0_scratch9 f -∗ wpc c (k v) Q) -∗ wpc c (.op (.load mC2 r hl) k) Q) :=
  ld c (M := mC2) (r := r) (hl := hl) (k := k) (f := f) (S := Finset.univ) (Finset.subset_univ _) v hv

theorem ldC3 {r : Rect S128x384} {hl : mC3.view.LoadsAt r} {k : (r.shape.Idx → Elt F .bf16) → Prog (TpuEff nD τ sig (Elt F) Λ₀ .tc) α}
    {f : Vec F S128x384 .bf16} (v : r.shape.Idx → Elt F .bf16) (hv : (fun j => f (r.toLoadRect.idx j)) = v) :
    own c cc0_scratch10 f ⊢ iprop((own c cc0_scratch10 f -∗ wpc c (k v) Q) -∗ wpc c (.op (.load mC3 r hl) k) Q) :=
  ld c (M := mC3) (r := r) (hl := hl) (k := k) (f := f) (S := Finset.univ) (Finset.subset_univ _) v hv

theorem ldOut {r : Rect S512x768} {hl : mOut.view.LoadsAt r} {k : (r.shape.Idx → Elt F .f32) → Prog (TpuEff nD τ sig (Elt F) Λ₀ .tc) α}
    {f : Vec F S512x768 .f32} (v : r.shape.Idx → Elt F .f32) (hv : (fun j => f (r.toLoadRect.idx j)) = v) :
    own c cc0_stg0_0 f ⊢ iprop((own c cc0_stg0_0 f -∗ wpc c (k v) Q) -∗ wpc c (.op (.load mOut r hl) k) Q) :=
  ld c (M := mOut) (r := r) (hl := hl) (k := k) (f := f) (S := Finset.univ) (Finset.subset_univ _) v hv

theorem stO {r : Rect S512x512} {w : r.shape.Idx → Elt F .bf16} {hx : (mO.access r).Stores Finset.univ} {hm : (Finset.univ : Finset r.shape.Idx) = Finset.univ ∨ ∀ a, r.stride a = 1}
    {k : PUnit → Prog (TpuEff nD τ sig (Elt F) Λ₀ .tc) α} {f : Vec F S512x512 .bf16} :
    own c cc0_scratch6 f ⊢ iprop((own c cc0_scratch6 ((mO.access r).write (Elt F) f w Finset.univ) -∗ wpc c (k ⟨⟩) Q)
      -∗ wpc c (.op (.store mO r w Finset.univ hx hm) k) Q) :=
  st c (M := mO) (r := r) (w := w) (hx := hx) (hm := hm) (k := k) (f := f) (S := Finset.univ) (Finset.subset_univ _)

/-- What a store leaves at the elements it wrote, and at the others. -/
theorem writeO_idx {r : Rect S512x512} (f : Vec F S512x512 .bf16) (w : r.shape.Idx → Elt F .bf16) (j : r.shape.Idx) :
    (mO.access r).write (Elt F) f w Finset.univ (r.toLoadRect.idx j) = w j :=
  View.write_emb_of_mem (v := mO.access r) f w (Finset.mem_univ j)
theorem writeO_off {r : Rect S512x512} (f : Vec F S512x512 .bf16) (w : r.shape.Idx → Elt F .bf16) (i : S512x512.Idx) (hi : i ∉ r.set) :
    (mO.access r).write (Elt F) f w Finset.univ i = f i := by
  refine View.write_of_not_mem (v := mO.access r) f w Finset.univ ?_
  rw [View.setOn_univ]
  exact fun h => hi ((View.set_slice_whole cc0_scratch6 r) ▸ h)

theorem stOut {r : Rect S512x768} {w : r.shape.Idx → Elt F .f32} {hx : (mOut.access r).Stores Finset.univ} {hm : (Finset.univ : Finset r.shape.Idx) = Finset.univ ∨ ∀ a, r.stride a = 1}
    {k : PUnit → Prog (TpuEff nD τ sig (Elt F) Λ₀ .tc) α} {f : Vec F S512x768 .f32} :
    own c cc0_stg0_0 f ⊢ iprop((own c cc0_stg0_0 ((mOut.access r).write (Elt F) f w Finset.univ) -∗ wpc c (k ⟨⟩) Q)
      -∗ wpc c (.op (.store mOut r w Finset.univ hx hm) k) Q) :=
  st c (M := mOut) (r := r) (w := w) (hx := hx) (hm := hm) (k := k) (f := f) (S := Finset.univ) (Finset.subset_univ _)

/-- What a store leaves at the elements it wrote, and at the others. -/
theorem writeOut_idx {r : Rect S512x768} (f : Vec F S512x768 .f32) (w : r.shape.Idx → Elt F .f32) (j : r.shape.Idx) :
    (mOut.access r).write (Elt F) f w Finset.univ (r.toLoadRect.idx j) = w j :=
  View.write_emb_of_mem (v := mOut.access r) f w (Finset.mem_univ j)
theorem writeOut_off {r : Rect S512x768} (f : Vec F S512x768 .f32) (w : r.shape.Idx → Elt F .f32) (i : S512x768.Idx) (hi : i ∉ r.set) :
    (mOut.access r).write (Elt F) f w Finset.univ i = f i := by
  refine View.write_of_not_mem (v := mOut.access r) f w Finset.univ ?_
  rw [View.setOn_univ]
  exact fun h => hi ((View.set_slice_whole cc0_stg0_0 r) ▸ h)

/-- What a store leaves at the elements it wrote, and at the others. -/
theorem writeB_idx {r : Rect S512x768} (f : Vec F S512x768 .bf16) (w : r.shape.Idx → Elt F .bf16) (j : r.shape.Idx) :
    (mB.access r).write (Elt F) f w Finset.univ (r.toLoadRect.idx j) = w j :=
  View.write_emb_of_mem (v := mB.access r) f w (Finset.mem_univ j)
theorem writeB_off {r : Rect S512x768} (f : Vec F S512x768 .bf16) (w : r.shape.Idx → Elt F .bf16) (i : S512x768.Idx) (hi : i ∉ r.set) :
    (mB.access r).write (Elt F) f w Finset.univ i = f i := by
  refine View.write_of_not_mem (v := mB.access r) f w Finset.univ ?_
  rw [View.setOn_univ]
  exact fun h => hi ((View.set_slice_whole cc0_scratch5 r) ▸ h)

/-! ### The heads' outputs -/

variable (m : (ℓ : Loc nD τ sig) → Buf (Elt F) ℓ)

/-- The buffer of the heads' outputs after `a` heads of the first batch half and `b` heads of the second. -/
def oSt (a b : ℕ) : sProp (MT nD τ sig Unit (Elt F) ℕ UU ℕ) :=
  iprop(∃ f : Vec F S512x512 .bf16, ⌜∀ i : S512x512.Idx, ((i 0).val / 256 = 1 - k1 c ∧ (i 1).val / 64 < a) ∨ ((i 0).val / 256 = k1 c ∧ (i 1).val / 64 < b) → f i = oAt m c i⌝
    ∗ own c cc0_scratch6 f)

theorem idx_zero {s : Shape} {off sz : Fin s.rank → ℕ} {inb} (j) (a : Fin s.rank) : ((Rect.unit (s := s) off sz inb).toLoadRect.idx j a).val = off a + (j a).val := by
  rw [LoadRect.idx_apply]; show off a + 1 * _ = _; rw [Nat.one_mul]

/-- An element between an offset and a size is under the rectangle's index. -/
theorem unit_idx {s : Shape} {off sz : Fin s.rank → ℕ} {inb} (i : s.Idx) (hi : i ∈ (Rect.unit (s := s) off sz inb).set) :
    ∃ j : (Rect.unit (s := s) off sz inb).shape.Idx, (Rect.unit (s := s) off sz inb).toLoadRect.idx j = i ∧ ∀ a, (i a).val = off a + (j a).val := by
  rw [Rect.mem_set_unit] at hi
  refine ⟨fun a => ⟨(i a).val - off a, by have := hi a; show _ < sz a; omega⟩, ?_, ?_⟩
  · funext a
    refine Fin.ext ?_
    rw [idx_zero]
    have := hi a
    show off a + ((i a).val - off a) = (i a).val
    omega
  · intro a
    have := hi a
    show (i a).val = off a + ((i a).val - off a)
    omega

/-- The next head's store, at row half `h` and head `n`. -/
theorem stO_head {off : Fin 2 → ℕ} {inb} {w : S256x64.Idx → Elt F .bf16} {hx} {hm} {k : PUnit → Prog (TpuEff nD τ sig (Elt F) Λ₀ .tc) α}
    (h n a b a' b' : ℕ) (ho : off = ![h * 256, 64 * n]) (hw : w = headAt m n h c)
    (ha : (h = 1 - k1 c ∧ a' = a + 1 ∧ n = a ∧ b' = b) ∨ (h = k1 c ∧ b' = b + 1 ∧ n = b ∧ a' = a)) :
    oSt c m a b ⊢ iprop((oSt c m a' b' -∗ wpc c (k ⟨⟩) Q)
      -∗ wpc c (.op (.store mO (Rect.unit (s := S512x512) off S256x64.size inb) w Finset.univ hx hm) k) Q) := by
  subst ho hw
  unfold oSt
  iintro ⟨%f, %hf, Ho⟩ Hk
  iapply (stO c (r := Rect.unit (s := S512x512) ![h * 256, 64 * n] S256x64.size inb)) $$ Ho
  iintro Ho
  iapply Hk
  iexists _
  isplitr
  swap; · iexact Ho
  ipureintro
  have hk := k1_le c
  intro i hi
  by_cases hr : i ∈ (Rect.unit (s := S512x512) ![h * 256, 64 * n] S256x64.size inb).set
  · obtain ⟨j, rfl, hj⟩ := unit_idx i hr
    rw [writeO_idx]
    have h0 : (((Rect.unit (s := S512x512) ![h * 256, 64 * n] S256x64.size inb).toLoadRect.idx j) 0).val = h * 256 + (j 0).val := hj 0
    have h1 : (((Rect.unit (s := S512x512) ![h * 256, 64 * n] S256x64.size inb).toLoadRect.idx j) 1).val = 64 * n + (j 1).val := hj 1
    have l0 : (j 0).val < 256 := (j 0).isLt
    have l1 : (j 1).val < 64 := (j 1).isLt
    unfold oAt oN
    rw [h0, h1, show (h * 256 + (j 0).val) / 256 = h by omega, show (64 * n + (j 1).val) / 64 = n by omega,
      show (h * 256 + (j 0).val) % 256 = (j 0).val by omega, show (64 * n + (j 1).val) % 64 = (j 1).val by omega]
    exact congrArg _ (eq_ix2 j rfl rfl)
  · rw [writeO_off f _ i hr]
    refine hf i ?_
    have hn : ¬ ((h * 256 ≤ (i 0).val ∧ (i 0).val < h * 256 + 256) ∧ (64 * n ≤ (i 1).val ∧ (i 1).val < 64 * n + 64)) := by
      rintro ⟨h0, h1⟩
      refine hr (Rect.mem_set_unit.mpr fun q => ?_)
      match q with
      | ⟨0, _⟩ => exact h0
      | ⟨1, _⟩ => exact h1
    rcases ha with ⟨rfl, rfl, rfl, rfl⟩ | ⟨rfl, rfl, rfl, rfl⟩ <;> rcases hi with hi | hi <;> omega

/-- A load of the buffer whose value is not used. -/
theorem ldO_any {r : Rect S512x512} {hl : mO.view.LoadsAt r} {k : (r.shape.Idx → Elt F .bf16) → Prog (TpuEff nD τ sig (Elt F) Λ₀ .tc) α} (a b : ℕ) :
    oSt c m a b ⊢ iprop((∀ v, oSt c m a b -∗ wpc c (k v) Q) -∗ wpc c (.op (.load mO r hl) k) Q) := by
  unfold oSt
  iintro ⟨%f, %hf, Ho⟩ Hk
  iapply (ldO c (r := r) _ rfl) $$ Ho
  iintro Ho
  iapply Hk
  iexists _; isplitr
  swap; · iexact Ho
  ipureintro; exact hf

/-- A load of a finished batch half. -/
theorem ldO_half {off : Fin 2 → ℕ} {inb} {hl} {k : (S256x512.Idx → Elt F .bf16) → Prog (TpuEff nD τ sig (Elt F) Λ₀ .tc) α} (h a b : ℕ)
    (ho : off = ![h * 256, 0]) (ha : (h = 1 - k1 c ∧ a = 8) ∨ (h = k1 c ∧ b = 8)) :
    oSt c m a b ⊢ iprop((oSt c m a b -∗ wpc c (k (oHalf m h c)) Q) -∗ wpc c (.op (.load mO (Rect.unit (s := S512x512) off S256x512.size inb).toLoadRect hl) k) Q) := by
  subst ho
  unfold oSt
  iintro ⟨%f, %hf, Ho⟩ Hk
  iapply (ldO c (r := Rect.unit (s := S512x512) ![h * 256, 0] S256x512.size inb) (oHalf m h c) (by
    funext j
    have h0 : (((Rect.unit (s := S512x512) ![h * 256, 0] S256x512.size inb).toLoadRect.idx j) 0).val = h * 256 + (j 0).val := idx_zero j 0
    have h1 : (((Rect.unit (s := S512x512) ![h * 256, 0] S256x512.size inb).toLoadRect.idx j) 1).val = (j 1).val := (idx_zero j 1).trans (Nat.zero_add _)
    have l0 : (j 0).val < 256 := (j 0).isLt
    have l1 : (j 1).val < 512 := (j 1).isLt
    have hk := k1_le c
    rw [hf _ (by rw [h0, h1]; omega)]
    unfold oAt oHalf
    rw [h0, h1])) $$ Ho
  iintro Ho
  iapply Hk
  iexists _; isplitr
  swap; · iexact Ho
  ipureintro; exact hf

/-! ### The array of sums -/

/-- The elements under a 384-column rectangle. -/
theorem mB_set {n : ℕ} {off : Fin 2 → ℕ} {inb} {r col k : ℕ} (ho : off = ![r, col]) (hc : col = 384 * k) :
    (mB.access (Rect.unit (s := S512x768) off ![n, 384] inb)).set = rs r n k := by
  subst ho hc
  rw [show (mB.access (Rect.unit (s := S512x768) ![r, 384 * k] ![n, 384] inb)).set = (Rect.unit (s := S512x768) ![r, 384 * k] ![n, 384] inb).set from View.set_slice_whole cc0_scratch5 _]
  ext i
  rw [Rect.mem_set_unit, mem_rs]
  constructor
  · intro h
    have h0 : r ≤ (i 0).val ∧ (i 0).val < r + n := h 0
    have h1 : 384 * k ≤ (i 1).val ∧ (i 1).val < 384 * k + 384 := h 1
    exact ⟨h0, by omega⟩
  · rintro ⟨h0, h1⟩ q
    match q with
    | ⟨0, _⟩ => exact h0
    | ⟨1, _⟩ =>
      show 384 * k ≤ (i 1).val ∧ (i 1).val < 384 * k + 384
      omega

/-- Reading such a rectangle of an array given by its entries. -/
theorem mB_read {n : ℕ} {off : Fin 2 → ℕ} {inb} {r col k : ℕ} (ho : off = ![r, col]) (hc : col = 384 * k) (G : ℕ → ℕ → Elt F .bf16) :
    (mB.access (Rect.unit (s := S512x768) off ![n, 384] inb)).read (Elt F) (fun i => G (i 0).val (i 1).val) = blk (n := n) G r k := by
  subst ho hc
  funext j
  show G (((Rect.unit (s := S512x768) ![r, 384 * k] ![n, 384] inb).toLoadRect.idx j) 0).val (((Rect.unit (s := S512x768) ![r, 384 * k] ![n, 384] inb).toLoadRect.idx j) 1).val = _
  rw [idx_zero, idx_zero]
  rfl

/-- Writing such a block into it: on the rectangle, the array given by the entries. -/
theorem mB_write {n : ℕ} {off : Fin 2 → ℕ} {inb} {r col k : ℕ} (ho : off = ![r, col]) (hc : col = 384 * k) (G : ℕ → ℕ → Elt F .bf16) (f : Vec F S512x768 .bf16) :
    ∀ i ∈ rs r n k, (mB.access (Rect.unit (s := S512x768) off ![n, 384] inb)).write (Elt F) f (blk (n := n) G r k) Finset.univ i = G (i 0).val (i 1).val := by
  intro i hi
  have hi' : i ∈ (Rect.unit (s := S512x768) off ![n, 384] inb).set := by
    rw [← mB_set (inb := inb) ho hc, show (mB.access (Rect.unit (s := S512x768) off ![n, 384] inb)).set = (Rect.unit (s := S512x768) off ![n, 384] inb).set from View.set_slice_whole cc0_scratch5 _] at hi
    exact hi
  subst ho hc
  obtain ⟨j, rfl, hj⟩ := unit_idx i hi'
  rw [writeB_idx, hj 0, hj 1]
  rfl

theorem ldB {n : ℕ} {off : Fin 2 → ℕ} {inb} {hl} {k' : ((⟨2, ![n, 384]⟩ : Shape).Idx → Elt F .bf16) → Prog (TpuEff nD τ sig (Elt F) Λ₀ .tc) α}
    {q : PosShare TreeShare} {S : Finset S512x768.Idx} (G : ℕ → ℕ → Elt F .bf16) (r col k : ℕ) (ho : off = ![r, col]) (hc : col = 384 * k) (hS : rs r n k ⊆ S) :
    bReg c q S (fun i => G (i 0).val (i 1).val)
      ⊢ iprop((bReg c q S (fun i => G (i 0).val (i 1).val) -∗ wpc c (k' (blk G r k)) Q)
        -∗ wpc c (.op (.load mB (Rect.unit (s := S512x768) off ![n, 384] inb).toLoadRect hl) k') Q) :=
  ld c (M := mB) (r := Rect.unit (s := S512x768) off ![n, 384] inb) (hl := hl) (k := k') (S := S) (q := q) (f := fun i : S512x768.Idx => G (i 0).val (i 1).val)
    (by rw [mB_set ho hc]; exact hS) (blk G r k) (mB_read ho hc G)

/-- A load of it whose value is not used. -/
theorem ldB_any {n : ℕ} {off : Fin 2 → ℕ} {inb} {hl} {k' : ((⟨2, ![n, 384]⟩ : Shape).Idx → Elt F .bf16) → Prog (TpuEff nD τ sig (Elt F) Λ₀ .tc) α}
    {q : PosShare TreeShare} {S : Finset S512x768.Idx} {f : Vec F S512x768 .bf16} (r col k : ℕ) (ho : off = ![r, col]) (hc : col = 384 * k) (hS : rs r n k ⊆ S) :
    bReg c q S f
      ⊢ iprop((∀ v, bReg c q S f -∗ wpc c (k' v) Q)
        -∗ wpc c (.op (.load mB (Rect.unit (s := S512x768) off ![n, 384] inb).toLoadRect hl) k') Q) := by
  unfold bReg
  iintro Hb Hk
  iapply (ld c (M := mB) (r := Rect.unit (s := S512x768) off ![n, 384] inb) (hl := hl) (k := k') (S := S) (q := q) (f := f)
    (by rw [mB_set ho hc]; exact hS) _ rfl) $$ Hb
  iintro Hb
  iapply Hk
  iexact Hb

theorem stB {n : ℕ} {off : Fin 2 → ℕ} {inb} {w : (⟨2, ![n, 384]⟩ : Shape).Idx → Elt F .bf16} {hx} {hm} {k' : PUnit → Prog (TpuEff nD τ sig (Elt F) Λ₀ .tc) α}
    {f : Vec F S512x768 .bf16} (G : ℕ → ℕ → Elt F .bf16) (r col k : ℕ) (ho : off = ![r, col]) (hc : col = 384 * k) (hw : w = blk G r k) :
    bReg c fullShare (rs r n k) f
      ⊢ iprop((bReg c fullShare (rs r n k) (fun i => G (i 0).val (i 1).val) -∗ wpc c (k' ⟨⟩) Q)
        -∗ wpc c (.op (.store mB (Rect.unit (s := S512x768) off ![n, 384] inb) w Finset.univ hx hm) k') Q) := by
  subst hw
  unfold bReg
  iintro Hb Hk
  iapply (st c (M := mB) (r := Rect.unit (s := S512x768) off ![n, 384] inb) (w := blk G r k) (hx := hx) (hm := hm) (k := k') (S := rs r n k) (f := f)
    (by rw [mB_set ho hc])) $$ Hb
  iintro Hb
  iapply Hk
  iapply (Entails.of_eq (pointsTo_congr (mB_write (inb := inb) ho hc G f))) $$ Hb

/-! ### The output block -/

/-- The staged output, right on the elements `S`. -/
def outSt (S : Finset S512x768.Idx) : sProp (MT nD τ sig Unit (Elt F) ℕ UU ℕ) :=
  iprop(∃ f : Vec F S512x768 .f32, ⌜∀ i ∈ S, f i = outFin m i⌝ ∗ own c cc0_stg0_0 f)

theorem ldOut_any {r : Rect S512x768} {hl : mOut.view.LoadsAt r} {k : (r.shape.Idx → Elt F .f32) → Prog (TpuEff nD τ sig (Elt F) Λ₀ .tc) α} (S) :
    outSt c m S ⊢ iprop((∀ v, outSt c m S -∗ wpc c (k v) Q) -∗ wpc c (.op (.load mOut r hl) k) Q) := by
  unfold outSt
  iintro ⟨%f, %hf, Ho⟩ Hk
  iapply (ldOut c (r := r) _ rfl) $$ Ho
  iintro Ho
  iapply Hk
  iexists _; isplitr
  swap; · iexact Ho
  ipureintro; exact hf

theorem stOut_blk {n : ℕ} {off : Fin 2 → ℕ} {inb} {w : (⟨2, ![n, 384]⟩ : Shape).Idx → Elt F .f32} {hx} {hm} {k' : PUnit → Prog (TpuEff nD τ sig (Elt F) Λ₀ .tc) α}
    (S S' : Finset S512x768.Idx) (r col k : ℕ) (ho : off = ![r, col]) (hc : col = 384 * k) (hw : w = extf .f32 (blk (finN m) r k) bitsLt_bf16_f32)
    (hS : S' ⊆ S ∪ rs r n k) :
    outSt c m S ⊢ iprop((outSt c m S' -∗ wpc c (k' ⟨⟩) Q)
        -∗ wpc c (.op (.store mOut (Rect.unit (s := S512x768) off ![n, 384] inb) w Finset.univ hx hm) k') Q) := by
  subst hw
  unfold outSt
  iintro ⟨%f, %hf, Ho⟩ Hk
  iapply (stOut c (r := Rect.unit (s := S512x768) off ![n, 384] inb)) $$ Ho
  iintro Ho
  iapply Hk
  iexists _
  isplitr
  swap; · iexact Ho
  ipureintro
  have he : (Rect.unit (s := S512x768) off ![n, 384] inb).set = rs r n k :=
    (View.set_slice_whole cc0_scratch5 _).symm.trans (mB_set (inb := inb) ho hc)
  intro i hi
  by_cases hr : i ∈ (Rect.unit (s := S512x768) off ![n, 384] inb).set
  · subst ho hc
    obtain ⟨j, rfl, hj⟩ := unit_idx i hr
    rw [writeOut_idx]
    unfold outFin
    rw [hj 0, hj 1]
    rfl
  · rw [writeOut_off f _ i hr]
    rcases Finset.mem_union.mp (hS hi) with h | h
    · exact hf i h
    · exact absurd (he ▸ h) hr

end Mem

end Cert.Proof

end
-- ==== Proof.Exchange.lean ====
/-
# The steps of the exchange

Waiting for a cell, signalling the partners' barriers, and the eight slots, on the protocol's resources; and the values
that pass: a received block added to the own one is the sum of the next step.
-/
module

public import proofs.«01_k».proof.Proof.Rules

@[expose] public section

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ)

/-! ## What every step may use -/

/-- Every cell's invariant and that it is in its round 0; the levels. -/
def records : sProp (MT nD τ sig Unit (Elt F) ℕ UU ℕ) :=
  iprop((bigSep Finset.univ fun ck : Dev nD × Ck => cellInv ER (sched m) (K ck) (cell ck.1 ck.2))
    ∗ bigSep Finset.univ fun ck : Dev nD × Ck => reached ER (cell ck.1 ck.2) 0)
instance records_persistent : BI.Persistent (records (F := F) m K) := by unfold records; infer_instance

def env : sProp (MT nD τ sig Unit (Elt F) ℕ UU ℕ) := iprop(records m K ∗ levAts L lv)
instance env_persistent : BI.Persistent (env (F := F) m K) := by unfold env; infer_instance

theorem env_inv (c : Dev nD) (k : Ck) : env m K ⊢ cellInv ER (sched m) (K (c, k)) (cell c k) := by
  unfold env records
  iintro ⟨⟨#H, -⟩, -⟩
  have e : (bigSep Finset.univ fun ck : Dev nD × Ck => (cellInv ER (sched m) (K ck) (cell ck.1 ck.2) : sProp 𝕄)) ⊢ cellInv ER (sched m) (K (c, k)) (cell c k) :=
    bigSep_elim (Finset.mem_univ ((c, k) : Dev nD × Ck))
  iapply e; iexact H
theorem env_reached (c : Dev nD) (k : Ck) : env m K ⊢ reached ER (cell c k) 0 := by
  unfold env records
  iintro ⟨⟨-, #H⟩, -⟩
  have e : (bigSep Finset.univ fun ck : Dev nD × Ck => (reached ER (cell ck.1 ck.2) 0 : sProp 𝕄)) ⊢ reached ER (cell c k) 0 :=
    bigSep_elim (Finset.mem_univ ((c, k) : Dev nD × Ck))
  iapply e; iexact H
theorem env_lev : env m K ⊢ levAts L lv := by unfold env; iintro ⟨-, #H⟩; iexact H

variable (c : Dev nD)

/-- What a device owes with `n` slots to come, its waits so far unnamed. -/
def ow (n : ℕ) : sProp (MT nD τ sig Unit (Elt F) ℕ UU ℕ) := iprop(∃ W, owes (c : Thread nD τ) (rem c n) W)
/-- The right to wait for a cell's round. -/
def wtk (k : Ck) : sProp (MT nD τ sig Unit (Elt F) ℕ UU ℕ) := iprop(cred (tallyAt (cell c k) () (amt k)) ∗ atPos ER (cell c k) 0 ∅ 0)
/-- A cell consumed. -/
def zer (k : Ck) : sProp (MT nD τ sig Unit (Elt F) ℕ UU ℕ) := semVal (cell c k) 0
/-- The tokens slot `s` pays with: its own send cell's and the partner's landing cell's. -/
def stk (s : Fin 8) : sProp (MT nD τ sig Unit (Elt F) ℕ UU ℕ) :=
  iprop(dutyTok ER (cell c (.snd s)) 0 false ∗ dutyTok ER (cell (par c s) (.rcv s)) 0 false)
/-- A slot's own cells' positions and the credit of its landing. -/
def pos (s : Fin 8) : sProp (MT nD τ sig Unit (Elt F) ℕ UU ℕ) :=
  iprop(atPos ER (cell c (.snd s)) 0 ∅ 0 ∗ wtk c (.rcv s))

section Steps
variable {α : Type} {Q : α → sProp (MT nD τ sig Unit (Elt F) ℕ UU ℕ)}

/-- A wait for a copy's cell: its round's payload, and the cell is done. -/
theorem wait_dma (k : Ck) (hk : duts k = {false}) {sp sp' : Space} {s s' : Shape} {e e' : EltTy} {sem : DmaSem sig} (hs : csem k = .dma sem)
    {src : Memref sig .tc sp' s' e'} {dst : Memref sig .tc sp s e} {hsrc : src.view.WordExact} {hdst : dst.view.WordExact}
    (hN : dst.view.dmaCredit = amt k) (n : ℕ) (hn : n ≤ 8) (h : ∀ s : Fin 8, 8 - n ≤ s.val → lvC k < s.val + 2)
    {k' : PUnit → Prog (TpuEff nD τ sig (Elt F) Λ₀ .tc) α} :
    iprop(env m K ∗ wtk c k ∗ ow c n)
      ⊢ iprop((ow c n ∗ zer c k ∗ pay m c k false -∗ wpc c (k' ⟨⟩) Q)
        -∗ wpc c (.op (.waitDma2 sem src dst hsrc hdst) k') Q) := by
  unfold wtk ow zer
  iintro ⟨#HE, ⟨Hc, Hat⟩, ⟨%W, HO⟩⟩ Hk
  ihave #HI := (env_inv m K c k) $$ HE
  ihave #HL := (env_lev m K) $$ HE
  iapply (Rounds.wp_wait_rest_token 𝒱₀ ER (sched m) (c : Thread nD τ) none (sm := csem k) (k' := amt k) (κ := K (c, k))
      (by rw [hs, ← hN]; exact wpE_waitDma2_eq 𝒱₀ (c : Thread nD τ) none Set.univ) (Set.mem_univ _) () (O := rem c n) (W := W) (R := 0) (m := 0) (T := ∅)
      (by rw [Nat.zero_add]; exact (expect_dma m c k hk).symm)) $$ [Hc HO Hat]
  · isplitr; · iexact HI
    isplitl [Hc]; · iexact Hc
    isplitl [HO]; · iexact HO
    isplitr; · iapply (mayWait_rem c k n hn h); iexact HL
    iexact Hat
  iintro ⟨HO, Hat, -, Hp⟩
  ihave Hp := (Entails.of_eq (rest_dma m c k hk)) $$ Hp
  imod (Rounds.cell_close ER (sched m) (Set.mem_univ (K (c, k))) (fun h => h) (R := 0 + 1) (duties_later m (cell c k))) $$ [Hat] with Hz
  · isplitr; · iexact HI
    iexact Hat
  iapply Hk
  isplitl [HO]; · iexists _; iexact HO
  isplitl [Hz]; · iexact Hz
  iexact Hp

/-- The wait for the barrier's two units: all four landing buffers of the partners. -/
theorem wait_bar {k' : PUnit → Prog (TpuEff nD τ sig (Elt F) Λ₀ .tc) α} :
    iprop(env m K ∗ cred (tallyAt (cell c .bar) () 2) ∗ atPos ER (cell c .bar) 0 ∅ 0 ∗ ow c 8)
      ⊢ iprop((ow c 8 ∗ zer c .bar ∗ pay m c .bar false ∗ pay m c .bar true -∗ wpc c (k' ⟨⟩) Q)
        -∗ wpc c (.op (.semWait barS 2) k') Q) := by
  unfold ow zer
  iintro ⟨#HE, Hc, Hat, ⟨%W, HO⟩⟩ Hk
  ihave #HI := (env_inv m K c .bar) $$ HE
  ihave #HL := (env_lev m K) $$ HE
  iapply (Rounds.wp_wait_rest_token 𝒱₀ ER (sched m) (c : Thread nD τ) none (sm := csem .bar) (k' := 2) (κ := K (c, .bar))
      (wpE_semWait_eq 𝒱₀ (c : Thread nD τ) none Set.univ) (Set.mem_univ _) () (O := rem c 8) (W := W) (R := 0) (m := 0) (T := ∅)
      (by rw [Nat.zero_add]; exact (expect_bar m c).symm)) $$ [Hc HO Hat]
  · isplitr; · iexact HI
    isplitl [Hc]; · iexact Hc
    isplitl [HO]; · iexact HO
    isplitr; · iapply (mayWait_rem c .bar 8 le_rfl (fun s _ => by show 1 < s.val + 2; omega)); iexact HL
    iexact Hat
  iintro ⟨HO, Hat, -, Hp⟩
  ihave Hp := (Entails.of_eq (rest_bar m c)) $$ Hp
  imod (Rounds.cell_close ER (sched m) (Set.mem_univ (K (c, .bar))) (fun h => h) (R := 0 + 1) (duties_later m (cell c .bar))) $$ [Hat] with Hz
  · isplitr; · iexact HI
    iexact Hat
  iapply Hk
  isplitl [HO]; · iexists _; iexact HO
  isplitl [Hz]; · iexact Hz
  iexact Hp

/-- The two barrier signals: to `pa` with the landing buffers of slots 0 and 3, to `pb` with those of slots 1 and 2. -/
theorem signals (n₁ n₂ : Dev nD) (h₁ : n₁ = pa c) (h₂ : n₂ = pb c) {k' : PUnit → Prog (TpuEff nD τ sig (Elt F) Λ₀ .tc) α} :
    iprop(env m K ∗ (∃ W, owes (c : Thread nD τ) (O₀ c) W) ∗ dutyTok ER (cell (pa c) .bar) 0 false ∗ dutyTok ER (cell (pb c) .bar) 0 true
        ∗ (∃ f, own c cc0_scratch7 f) ∗ (∃ f, own c cc0_scratch8 f) ∗ (∃ f, own c cc0_scratch9 f) ∗ (∃ f, own c cc0_scratch10 f))
      ⊢ iprop((ow c 8 -∗ wpc c (k' ⟨⟩) Q)
        -∗ wpc c (.op (.semSignal (Dev.tc n₁) barS 1) fun _ => .op (.semSignal (Dev.tc n₂) barS 1) k') Q) := by
  subst h₁ h₂
  unfold ow
  iintro ⟨#HE, ⟨%W, HO⟩, HtA, HtB, H7, H8, H9, H10⟩ Hk
  ihave #HIa := (env_inv m K (pa c) .bar) $$ HE
  ihave #HIb := (env_inv m K (pb c) .bar) $$ HE
  ihave #HRa := (env_reached m K (pa c) .bar) $$ HE
  ihave #HRb := (env_reached m K (pb c) .bar) $$ HE
  iapply (Rounds.wp_signal 𝒱₀ ER (sched m) (c : Thread nD τ) none (dst := (pa c : Thread nD τ)) (κ := K (pa c, .bar))
      (d := false) (by rw [duties_cell m (pa c) .bar]; exact Finset.mem_univ _) ((amount_cell m (pa c) .bar false).trans rfl) () (O₁ c) rfl)
    $$ [HO HtA H7 H10]
  · isplitr; · iexact HIa
    isplitl [HO]; · iexact HO
    isplitl [HtA]; · iexact HtA
    isplitl [H7 H10]
    · rw [payload_cell m (pa c) .bar false]; unfold pay; rw [pa_pa]
      isplitl [H7] <;> iassumption
    iexact HRa
  iintro HO
  unfold O₁
  iapply (Rounds.wp_signal 𝒱₀ ER (sched m) (c : Thread nD τ) none (dst := (pb c : Thread nD τ)) (κ := K (pb c, .bar))
      (d := true) (by rw [duties_cell m (pb c) .bar]; exact Finset.mem_univ _) ((amount_cell m (pb c) .bar true).trans rfl) () (rem c 8) rfl)
    $$ [HO HtB H8 H9]
  · isplitr; · iexact HIb
    isplitl [HO]; · iexact HO
    isplitl [HtB]; · iexact HtB
    isplitl [H8 H9]
    · rw [payload_cell m (pb c) .bar true]; unfold pay; rw [pb_pb]
      isplitl [H8] <;> iassumption
    iexact HRb
  iintro HO
  iapply Hk
  iexists _; iexact HO

/-- A local copy of an argument into its staging buffer, paying its own cell. -/
theorem copy_loc (k : Fin 5) {sp sp' : Space} {s : Shape} {e : EltTy} {src : Memref sig .tc sp s e} {dst : Memref sig .tc sp' s e} {sem : SemLoc sig}
    {hsrc : src.view.WordExact} {hdst : dst.view.WordExact} {hsem : DmaTarget.Typed sp sem (DmaTarget.here dst : DmaTarget nD τ sig (.tc : Proc τ) sp' s e)}
    {k' : PUnit → Prog (TpuEff nD τ sig (Elt F) Λ₀ .tc) α} (hs : csem (.loc k) = sem)
    {fs : Buf (Elt F) (src.view.loc (c : Thread nD τ))} {fd : Buf (Elt F) (dst.view.loc (c : Thread nD τ))}
    (hN : dst.view.amount sem = amt (.loc k))
    (hpay : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ pay (F := F) m c (.loc k) false) :
    iprop(env m K ∗ dutyTok ER (cell c (.loc k)) 0 false ∗ atPos ER (cell c (.loc k)) 0 ∅ 0
        ∗ (src.view.loc (c : Thread nD τ) ↦[src.view.set]{fullShare} fs) ∗ (dst.view.loc (c : Thread nD τ) ↦[dst.view.set]{fullShare} fd))
      ⊢ iprop((wtk c (.loc k) -∗ wpc c (k' ⟨⟩) Q) -∗ wpc c (.op (.enqueueDma src (.here dst) sem hsrc hdst hsem) k') Q) := by
  subst hs
  unfold wtk
  iintro ⟨#HE, Ht, Hat, Hs, Hd⟩ Hk
  iapply (Rounds.wp_copy_pointsTo 𝒱₀ ER (sched m) (c : Thread nD τ) none (κ := K (c, .loc k)) (r := 0) (d := false)
      (by rw [duties_cell m c (.loc k)]; exact Finset.mem_singleton_self _) () (amt (.loc k)) hN (amount_cell m c (.loc k) false)
      (by rw [payload_cell m c (.loc k) false]; exact hpay)) $$ [Ht Hs Hd]
  · isplitr; · iapply (env_inv m K c (.loc k)); iexact HE
    isplitl [Hs]; · iexact Hs
    isplitl [Hd]; · iexact Hd
    isplitl [Ht]; · iexact Ht
    iapply (env_reached m K c (.loc k)); iexact HE
  iintro Hc
  iapply Hk
  isplitl [Hc]; · iexact Hc
  iexact Hat

/-- Slots 0–3: the block lands with the source it was read from. -/
theorem send_land (j : ℕ) (s : Fin 8) (hj : Fin.ofNat 8 (7 - j) = s) (n : Dev nD) (hn : n = par c s) {sp sp' : Space} {sh : Shape} {e : EltTy}
    {src : Memref sig .tc sp sh e} {dst : Memref sig .tc sp' sh e} {sS sem : SemLoc sig}
    {hsc : (dst : Memref sig (Dev.tc n : Thread nD τ).2.kind sp' sh e).view.ref.isScScratch = false}
    {hsrc : src.view.WordExact} {hdst : dst.view.WordExact} {hsem : DmaTarget.Typed sp sem (.remote (Dev.tc n : Thread nD τ) dst sS hsc)}
    {k' : PUnit → Prog (TpuEff nD τ sig (Elt F) Λ₀ .tc) α} (hsS : csem (.snd s) = sS) (hsR : csem (.rcv s) = sem)
    {fs : Buf (Elt F) (src.view.loc (c : Thread nD τ))} {fd : Buf (Elt F) (dst.view.loc (par c s : Thread nD τ))}
    (hN : dst.view.amount sem = amt (.rcv s)) (hp1 : pay (F := F) m c (.snd s) false = iprop(emp))
    (hpay : iprop((dst.view.loc (par c s : Thread nD τ) ↦[dst.view.set]{fullShare} (dst.view.write (Elt F) fd (src.view.read (Elt F) fs) Finset.univ))
              ∗ (src.view.loc (c : Thread nD τ) ↦[src.view.set]{fullShare} fs)) ⊢ pay (F := F) m (par c s) (.rcv s) false) :
    iprop(env m K ∗ stk c s ∗ ow c (j + 1)
        ∗ (src.view.loc (c : Thread nD τ) ↦[src.view.set]{fullShare} fs) ∗ (dst.view.loc (par c s : Thread nD τ) ↦[dst.view.set]{fullShare} fd))
      ⊢ iprop((cred (tallyAt (cell c (.snd s)) () (amt (.snd s))) ∗ ow c j -∗ wpc c (k' ⟨⟩) Q)
        -∗ wpc c (.op (.enqueueDma src (.remote (Dev.tc n : Thread nD τ) dst sS hsc) sem hsrc hdst hsem) k') Q) := by
  subst hsS hsR hn hj
  unfold stk ow
  iintro ⟨#HE, ⟨Ht1, Ht2⟩, ⟨%W, HO⟩, Hs, Hd⟩ Hk
  iapply (Rounds.wp_send_landing_pointsTo 𝒱₀ ER (sched m) (c : Thread nD τ) none (κ₁ := K (c, .snd (Fin.ofNat 8 (7 - j)))) (κ₂ := K (par c (Fin.ofNat 8 (7 - j)), .rcv (Fin.ofNat 8 (7 - j))))
    (r₁ := 0) (r₂ := 0) (d₁ := false) (d₂ := false) (fs := fs) (fd := fd)
    (by rw [duties_cell m c (.snd _)]; exact Finset.mem_singleton_self _) (by rw [duties_cell m (par c _) (.rcv _)]; exact Finset.mem_singleton_self _)
    () () (amt (.rcv (Fin.ofNat 8 (7 - j)))) hN (amount_cell m c (.snd _) false) (amount_cell m (par c _) (.rcv _) false) (rem c j) rfl (W := W)
    (by rw [payload_cell m c (.snd _) false, hp1])
    (by rw [payload_cell m (par c _) (.rcv _) false]; exact hpay)) $$ [HO Ht1 Ht2 Hs Hd]
  · isplitr; · iapply (env_inv m K c (.snd _)); iexact HE
    isplitr; · iapply (env_inv m K (par c _) (.rcv _)); iexact HE
    isplitl [Hs]; · iexact Hs
    isplitl [Hd]; · iexact Hd
    isplitl [HO]; · iexact HO
    isplitl [Ht1]; · iexact Ht1
    isplitr; · iapply (env_reached m K c (.snd _)); iexact HE
    isplitl [Ht2]; · iexact Ht2
    iapply (env_reached m K (par c _) (.rcv _)); iexact HE
  iintro ⟨Hc, HO⟩
  iapply Hk
  isplitl [Hc]; · iexact Hc
  iexists _; iexact HO

/-- Slots 4–7: half the source's share comes back with the sender's own cell. -/
theorem send_half (j : ℕ) (s : Fin 8) (hj : Fin.ofNat 8 (7 - j) = s) (n : Dev nD) (hn : n = par c s) {sp sp' : Space} {sh : Shape} {e : EltTy}
    {src : Memref sig .tc sp sh e} {dst : Memref sig .tc sp' sh e} {sS sem : SemLoc sig}
    {hsc : (dst : Memref sig (Dev.tc n : Thread nD τ).2.kind sp' sh e).view.ref.isScScratch = false}
    {hsrc : src.view.WordExact} {hdst : dst.view.WordExact} {hsem : DmaTarget.Typed sp sem (.remote (Dev.tc n : Thread nD τ) dst sS hsc)}
    {k' : PUnit → Prog (TpuEff nD τ sig (Elt F) Λ₀ .tc) α} (hsS : csem (.snd s) = sS) (hsR : csem (.rcv s) = sem)
    {fs : Buf (Elt F) (src.view.loc (c : Thread nD τ))} {fd : Buf (Elt F) (dst.view.loc (par c s : Thread nD τ))}
    (hN : dst.view.amount sem = amt (.rcv s))
    (hp1 : (src.view.loc (c : Thread nD τ) ↦[src.view.set]{fullShare.left} fs) ⊢ pay (F := F) m c (.snd s) false)
    (hpay : (dst.view.loc (par c s : Thread nD τ) ↦[dst.view.set]{fullShare} (dst.view.write (Elt F) fd (src.view.read (Elt F) fs) Finset.univ))
      ⊢ pay (F := F) m (par c s) (.rcv s) false) :
    iprop(env m K ∗ stk c s ∗ ow c (j + 1)
        ∗ (src.view.loc (c : Thread nD τ) ↦[src.view.set]{fullShare.left} fs) ∗ (dst.view.loc (par c s : Thread nD τ) ↦[dst.view.set]{fullShare} fd))
      ⊢ iprop((cred (tallyAt (cell c (.snd s)) () (amt (.snd s))) ∗ ow c j -∗ wpc c (k' ⟨⟩) Q)
        -∗ wpc c (.op (.enqueueDma src (.remote (Dev.tc n : Thread nD τ) dst sS hsc) sem hsrc hdst hsem) k') Q) := by
  subst hsS hsR hn hj
  unfold stk ow
  iintro ⟨#HE, ⟨Ht1, Ht2⟩, ⟨%W, HO⟩, Hs, Hd⟩ Hk
  iapply (Rounds.wp_send_pointsTo 𝒱₀ ER (sched m) (c : Thread nD τ) none (κ₁ := K (c, .snd (Fin.ofNat 8 (7 - j)))) (κ₂ := K (par c (Fin.ofNat 8 (7 - j)), .rcv (Fin.ofNat 8 (7 - j))))
    (r₁ := 0) (r₂ := 0) (d₁ := false) (d₂ := false) (fs := fs) (fd := fd)
    (by rw [duties_cell m c (.snd _)]; exact Finset.mem_singleton_self _) (by rw [duties_cell m (par c _) (.rcv _)]; exact Finset.mem_singleton_self _)
    () () (amt (.rcv (Fin.ofNat 8 (7 - j)))) hN (amount_cell m c (.snd _) false) (amount_cell m (par c _) (.rcv _) false) (rem c j) rfl (W := W)
    (by rw [payload_cell m c (.snd _) false]; exact hp1)
    (by rw [payload_cell m (par c _) (.rcv _) false]; exact hpay)) $$ [HO Ht1 Ht2 Hs Hd]
  · isplitr; · iapply (env_inv m K c (.snd _)); iexact HE
    isplitr; · iapply (env_inv m K (par c _) (.rcv _)); iexact HE
    isplitl [Hs]; · iexact Hs
    isplitl [Hd]; · iexact Hd
    isplitl [HO]; · iexact HO
    isplitl [Ht1]; · iexact Ht1
    isplitr; · iapply (env_reached m K c (.snd _)); iexact HE
    isplitl [Ht2]; · iexact Ht2
    iapply (env_reached m K (par c _) (.rcv _)); iexact HE
  iintro ⟨Hc, HO⟩
  iapply Hk
  isplitl [Hc]; · iexact Hc
  iexists _; iexact HO

/-- A full share is two halves. -/
theorem bReg_halves (S : Finset S512x768.Idx) (G : Vec F S512x768 .bf16) :
    bReg c fullShare S G ⊣⊢ iprop(bReg c fullShare.left S G ∗ bReg c fullShare.right S G) :=
  pointsTo_share (PosShare.mem_left_op_right fullShare)

/-! ## The slots -/

theorem c0_at : c0At m (pa c) = blk (pN m c) ((1 - k1 c) * 256) 0 := by unfold c0At; rw [pa_pa, k1_pa]
theorem c1_at : c1At m (pb c) = blk (pN m c) ((1 - k2 c) * 256) 1 := by unfold c1At; rw [pb_pb, k2_pb]
theorem c2_at : c2At m (pb c) = blk (t1N m c) ((2 * k1 c + (1 - k2 c)) * 128) 0 := by unfold c2At; rw [pb_pb, k1_pb, k2_pb]
theorem c3_at : c3At m (pa c) = blk (t1N m c) ((2 * k2 c + (1 - k3 c)) * 128) 1 := by unfold c3At; rw [pa_pa, k2_pa, k3_pa]

/-- The slice of the array of sums a slot reads or writes. -/
abbrev mBs {n : ℕ} (off : Fin 2 → ℕ) (inb : ∀ a, off a + (![n, 384] : Fin 2 → ℕ) a ≤ S512x768.size a) : Memref sig .tc .vmem ⟨2, ![n, 384]⟩ .bf16 :=
  mB.slice (Rect.unit (s := S512x768) off ![n, 384] inb) (fun _ => rfl)

/-- Slot 0. -/
theorem slot0 (n : Dev nD) (hn : n = pa c) {off : Fin 2 → ℕ} {inb} {hsc hsrc hdst hsem} {k' : PUnit → Prog (TpuEff nD τ sig (Elt F) Λ₀ .tc) α}
    (ho : off = ![(1 - k1 c) * 256, 0]) :
    iprop(env m K ∗ stk c 0 ∗ ow c 8 ∗ bReg c fullShare (SA c) (P m c) ∗ (∃ f, own (pa c) cc0_scratch7 f))
      ⊢ iprop((cred (tallyAt (cell c (.snd 0)) () (amt (.snd 0))) ∗ ow c 7 -∗ wpc c (k' ⟨⟩) Q)
        -∗ wpc c (.op (.enqueueDma (mBs (n := 256) off inb) (.remote (Dev.tc n : Thread nD τ) mC0 (.dma (ssem 0)) hsc) (.dma (rsem 0)) hsrc hdst hsem) k') Q) := by
  have hset : (mBs (n := 256) off inb).view.set = SA c := mB_set (n := 256) (inb := inb) (k := 0) ho rfl
  have hread : (mBs (n := 256) off inb).view.read (Elt F) (P m c) = blk (pN m c) ((1 - k1 c) * 256) 0 := mB_read (n := 256) (inb := inb) (k := 0) ho rfl (pN m c)
  iintro ⟨#HE, Ht, HO, Hs, ⟨%f, Hd⟩⟩ Hk
  iapply (send_land m K c 7 0 rfl n hn (src := mBs (n := 256) off inb) (dst := mC0) (sS := .dma (ssem 0)) (sem := .dma (rsem 0)) (hsc := hsc) (hsrc := hsrc) (hdst := hdst) (hsem := hsem) (k' := k') rfl rfl
      (fs := P m c) (fd := f) rfl rfl (by
        rw [hset, hread]
        show _ ⊢ iprop(own (pa c) cc0_scratch7 (c0At m (pa c)) ∗ bReg (pa (pa c)) fullShare (KA (pa c)) (P m (pa (pa c))))
        rw [pa_pa, KA_pa, c0_at m c]
        unfold own bReg
        refine sep_mono_l ?_
        rw [show (mC0.view.set : Finset (Idx (mC0.view.loc (pa c : Thread nD τ)))) = Finset.univ from View.set_whole cc0_scratch7]
        rw [show (_ : Vec F _ .bf16) = _ from View.write_whole_univ (Val := Elt F) cc0_scratch7 f _]
        exact fun _ h => h)) $$ [Ht HO Hs Hd]
  · isplitr; · iexact HE
    isplitl [Ht]; · iexact Ht
    isplitl [HO]; · iexact HO
    isplitl [Hs]
    · rw [hset]; unfold bReg; iexact Hs
    · rw [show (mC0.view.set : Finset (Idx (mC0.view.loc (pa c : Thread nD τ)))) = Finset.univ from View.set_whole cc0_scratch7]
      unfold own; iexact Hd
  iintro H
  iapply Hk
  iexact H

/-- Slot 1. -/
theorem slot1 (n : Dev nD) (hn : n = pb c) {off : Fin 2 → ℕ} {inb} {hsc hsrc hdst hsem} {k' : PUnit → Prog (TpuEff nD τ sig (Elt F) Λ₀ .tc) α}
    (ho : off = ![(1 - k2 c) * 256, 384]) :
    iprop(env m K ∗ stk c 1 ∗ ow c 7 ∗ bReg c fullShare (SB c) (P m c) ∗ (∃ f, own (pb c) cc0_scratch8 f))
      ⊢ iprop((cred (tallyAt (cell c (.snd 1)) () (amt (.snd 1))) ∗ ow c 6 -∗ wpc c (k' ⟨⟩) Q)
        -∗ wpc c (.op (.enqueueDma (mBs (n := 256) off inb) (.remote (Dev.tc n : Thread nD τ) mC1 (.dma (ssem 1)) hsc) (.dma (rsem 1)) hsrc hdst hsem) k') Q) := by
  have hset : (mBs (n := 256) off inb).view.set = SB c := mB_set (n := 256) (inb := inb) (k := 1) ho rfl
  have hread : (mBs (n := 256) off inb).view.read (Elt F) (P m c) = blk (pN m c) ((1 - k2 c) * 256) 1 := mB_read (n := 256) (inb := inb) (k := 1) ho rfl (pN m c)
  iintro ⟨#HE, Ht, HO, Hs, ⟨%f, Hd⟩⟩ Hk
  iapply (send_land m K c 6 1 rfl n hn (src := mBs (n := 256) off inb) (dst := mC1) (sS := .dma (ssem 1)) (sem := .dma (rsem 1)) (hsc := hsc) (hsrc := hsrc) (hdst := hdst) (hsem := hsem) (k' := k') rfl rfl
      (fs := P m c) (fd := f) rfl rfl (by
        rw [hset, hread]
        show _ ⊢ iprop(own (pb c) cc0_scratch8 (c1At m (pb c)) ∗ bReg (pb (pb c)) fullShare (KB (pb c)) (P m (pb (pb c))))
        rw [pb_pb, KB_pb, c1_at m c]
        unfold own bReg
        refine sep_mono_l ?_
        rw [show (mC1.view.set : Finset (Idx (mC1.view.loc (pb c : Thread nD τ)))) = Finset.univ from View.set_whole cc0_scratch8]
        rw [show (_ : Vec F _ .bf16) = _ from View.write_whole_univ (Val := Elt F) cc0_scratch8 f _]
        exact fun _ h => h)) $$ [Ht HO Hs Hd]
  · isplitr; · iexact HE
    isplitl [Ht]; · iexact Ht
    isplitl [HO]; · iexact HO
    isplitl [Hs]
    · rw [hset]; unfold bReg; iexact Hs
    · rw [show (mC1.view.set : Finset (Idx (mC1.view.loc (pb c : Thread nD τ)))) = Finset.univ from View.set_whole cc0_scratch8]
      unfold own; iexact Hd
  iintro H
  iapply Hk
  iexact H

/-- Slot 2. -/
theorem slot2 (n : Dev nD) (hn : n = pb c) {off : Fin 2 → ℕ} {inb} {hsc hsrc hdst hsem} {k' : PUnit → Prog (TpuEff nD τ sig (Elt F) Λ₀ .tc) α}
    (ho : off = ![(2 * k1 c + (1 - k2 c)) * 128, 0]) :
    iprop(env m K ∗ stk c 2 ∗ ow c 6 ∗ bReg c fullShare (RA c) (T1 m c) ∗ (∃ f, own (pb c) cc0_scratch9 f))
      ⊢ iprop((cred (tallyAt (cell c (.snd 2)) () (amt (.snd 2))) ∗ ow c 5 -∗ wpc c (k' ⟨⟩) Q)
        -∗ wpc c (.op (.enqueueDma (mBs (n := 128) off inb) (.remote (Dev.tc n : Thread nD τ) mC2 (.dma (ssem 2)) hsc) (.dma (rsem 2)) hsrc hdst hsem) k') Q) := by
  have hset : (mBs (n := 128) off inb).view.set = RA c := mB_set (n := 128) (inb := inb) (k := 0) ho rfl
  have hread : (mBs (n := 128) off inb).view.read (Elt F) (T1 m c) = blk (t1N m c) ((2 * k1 c + (1 - k2 c)) * 128) 0 := mB_read (n := 128) (inb := inb) (k := 0) ho rfl (t1N m c)
  iintro ⟨#HE, Ht, HO, Hs, ⟨%f, Hd⟩⟩ Hk
  iapply (send_land m K c 5 2 rfl n hn (src := mBs (n := 128) off inb) (dst := mC2) (sS := .dma (ssem 2)) (sem := .dma (rsem 2)) (hsc := hsc) (hsrc := hsrc) (hdst := hdst) (hsem := hsem) (k' := k') rfl rfl
      (fs := T1 m c) (fd := f) rfl rfl (by
        rw [hset, hread]
        show _ ⊢ iprop(own (pb c) cc0_scratch9 (c2At m (pb c)) ∗ bReg (pb (pb c)) fullShare (QA (pb c)) (T1 m (pb (pb c))))
        rw [pb_pb, QA_pb, c2_at m c]
        unfold own bReg
        refine sep_mono_l ?_
        rw [show (mC2.view.set : Finset (Idx (mC2.view.loc (pb c : Thread nD τ)))) = Finset.univ from View.set_whole cc0_scratch9]
        rw [show (_ : Vec F _ .bf16) = _ from View.write_whole_univ (Val := Elt F) cc0_scratch9 f _]
        exact fun _ h => h)) $$ [Ht HO Hs Hd]
  · isplitr; · iexact HE
    isplitl [Ht]; · iexact Ht
    isplitl [HO]; · iexact HO
    isplitl [Hs]
    · rw [hset]; unfold bReg; iexact Hs
    · rw [show (mC2.view.set : Finset (Idx (mC2.view.loc (pb c : Thread nD τ)))) = Finset.univ from View.set_whole cc0_scratch9]
      unfold own; iexact Hd
  iintro H
  iapply Hk
  iexact H

/-- Slot 3. -/
theorem slot3 (n : Dev nD) (hn : n = pa c) {off : Fin 2 → ℕ} {inb} {hsc hsrc hdst hsem} {k' : PUnit → Prog (TpuEff nD τ sig (Elt F) Λ₀ .tc) α}
    (ho : off = ![(2 * k2 c + (1 - k3 c)) * 128, 384]) :
    iprop(env m K ∗ stk c 3 ∗ ow c 5 ∗ bReg c fullShare (RB c) (T1 m c) ∗ (∃ f, own (pa c) cc0_scratch10 f))
      ⊢ iprop((cred (tallyAt (cell c (.snd 3)) () (amt (.snd 3))) ∗ ow c 4 -∗ wpc c (k' ⟨⟩) Q)
        -∗ wpc c (.op (.enqueueDma (mBs (n := 128) off inb) (.remote (Dev.tc n : Thread nD τ) mC3 (.dma (ssem 3)) hsc) (.dma (rsem 3)) hsrc hdst hsem) k') Q) := by
  have hset : (mBs (n := 128) off inb).view.set = RB c := mB_set (n := 128) (inb := inb) (k := 1) ho rfl
  have hread : (mBs (n := 128) off inb).view.read (Elt F) (T1 m c) = blk (t1N m c) ((2 * k2 c + (1 - k3 c)) * 128) 1 := mB_read (n := 128) (inb := inb) (k := 1) ho rfl (t1N m c)
  iintro ⟨#HE, Ht, HO, Hs, ⟨%f, Hd⟩⟩ Hk
  iapply (send_land m K c 4 3 rfl n hn (src := mBs (n := 128) off inb) (dst := mC3) (sS := .dma (ssem 3)) (sem := .dma (rsem 3)) (hsc := hsc) (hsrc := hsrc) (hdst := hdst) (hsem := hsem) (k' := k') rfl rfl
      (fs := T1 m c) (fd := f) rfl rfl (by
        rw [hset, hread]
        show _ ⊢ iprop(own (pa c) cc0_scratch10 (c3At m (pa c)) ∗ bReg (pa (pa c)) fullShare (QB (pa c)) (T1 m (pa (pa c))))
        rw [pa_pa, QB_pa, c3_at m c]
        unfold own bReg
        refine sep_mono_l ?_
        rw [show (mC3.view.set : Finset (Idx (mC3.view.loc (pa c : Thread nD τ)))) = Finset.univ from View.set_whole cc0_scratch10]
        rw [show (_ : Vec F _ .bf16) = _ from View.write_whole_univ (Val := Elt F) cc0_scratch10 f _]
        exact fun _ h => h)) $$ [Ht HO Hs Hd]
  · isplitr; · iexact HE
    isplitl [Ht]; · iexact Ht
    isplitl [HO]; · iexact HO
    isplitl [Hs]
    · rw [hset]; unfold bReg; iexact Hs
    · rw [show (mC3.view.set : Finset (Idx (mC3.view.loc (pa c : Thread nD τ)))) = Finset.univ from View.set_whole cc0_scratch10]
      unfold own; iexact Hd
  iintro H
  iapply Hk
  iexact H

/-- Slot 4. -/
theorem slot4 (n : Dev nD) (hn : n = pb c) {off : Fin 2 → ℕ} {inb inb'} {hsc hsrc hdst hsem} {k' : PUnit → Prog (TpuEff nD τ sig (Elt F) Λ₀ .tc) α}
    (ho : off = ![(2 * k1 c + k2 c) * 128, 0]) :
    iprop(env m K ∗ stk c 4 ∗ ow c 4 ∗ bReg c fullShare (QA c) (fin m) ∗ (∃ f, bReg (pb c) fullShare (QA c) f))
      ⊢ iprop((cred (tallyAt (cell c (.snd 4)) () (amt (.snd 4))) ∗ ow c 3 ∗ bReg c fullShare.right (QA c) (fin m) -∗ wpc c (k' ⟨⟩) Q)
        -∗ wpc c (.op (.enqueueDma (mBs (n := 128) off inb) (.remote (Dev.tc n : Thread nD τ) (mBs (n := 128) off inb') (.dma (ssem 4)) hsc) (.dma (rsem 4)) hsrc hdst hsem) k') Q) := by
  have hset : (mBs (n := 128) off inb).view.set = QA c := mB_set (n := 128) (inb := inb) (k := 0) ho rfl
  have hread : (mBs (n := 128) off inb).view.read (Elt F) (fin m) = blk (finN m) ((2 * k1 c + k2 c) * 128) 0 := mB_read (n := 128) (inb := inb) (k := 0) ho rfl (finN m)
  iintro ⟨#HE, Ht, HO, Hs, ⟨%f, Hd⟩⟩ Hk
  ihave Hs := (bReg_halves c (QA c) (fin m)).1 $$ Hs
  icases Hs with ⟨Hs, Hr⟩
  iapply (send_half m K c 3 4 rfl n hn (src := mBs (n := 128) off inb) (dst := mBs (n := 128) off inb') (sS := .dma (ssem 4)) (sem := .dma (rsem 4)) (hsc := hsc) (hsrc := hsrc) (hdst := hdst) (hsem := hsem) (k' := k') rfl rfl
      (fs := fin m) (fd := f) rfl (by rw [hset]; exact BI.Entails.refl _) (by
        rw [hset, hread]
        show _ ⊢ bReg (pb c) fullShare (RA (pb c)) (fin m)
        rw [RA_pb]
        unfold bReg
        exact Entails.of_eq (pointsTo_congr (mB_write (n := 128) (inb := inb') (k := 0) ho rfl (finN m) f)))) $$ [Ht HO Hs Hd]
  · isplitr; · iexact HE
    isplitl [Ht]; · iexact Ht
    isplitl [HO]; · iexact HO
    isplitl [Hs]
    · rw [hset]; unfold bReg; iexact Hs
    · rw [hset]; unfold bReg; iexact Hd
  iintro ⟨H, H'⟩
  iapply Hk
  isplitl [H]; · iexact H
  isplitl [H']; · iexact H'
  iexact Hr

/-- Slot 5. -/
theorem slot5 (n : Dev nD) (hn : n = pa c) {off : Fin 2 → ℕ} {inb inb'} {hsc hsrc hdst hsem} {k' : PUnit → Prog (TpuEff nD τ sig (Elt F) Λ₀ .tc) α}
    (ho : off = ![(2 * k2 c + k3 c) * 128, 384]) :
    iprop(env m K ∗ stk c 5 ∗ ow c 3 ∗ bReg c fullShare (QB c) (fin m) ∗ (∃ f, bReg (pa c) fullShare (QB c) f))
      ⊢ iprop((cred (tallyAt (cell c (.snd 5)) () (amt (.snd 5))) ∗ ow c 2 ∗ bReg c fullShare.right (QB c) (fin m) -∗ wpc c (k' ⟨⟩) Q)
        -∗ wpc c (.op (.enqueueDma (mBs (n := 128) off inb) (.remote (Dev.tc n : Thread nD τ) (mBs (n := 128) off inb') (.dma (ssem 5)) hsc) (.dma (rsem 5)) hsrc hdst hsem) k') Q) := by
  have hset : (mBs (n := 128) off inb).view.set = QB c := mB_set (n := 128) (inb := inb) (k := 1) ho rfl
  have hread : (mBs (n := 128) off inb).view.read (Elt F) (fin m) = blk (finN m) ((2 * k2 c + k3 c) * 128) 1 := mB_read (n := 128) (inb := inb) (k := 1) ho rfl (finN m)
  iintro ⟨#HE, Ht, HO, Hs, ⟨%f, Hd⟩⟩ Hk
  ihave Hs := (bReg_halves c (QB c) (fin m)).1 $$ Hs
  icases Hs with ⟨Hs, Hr⟩
  iapply (send_half m K c 2 5 rfl n hn (src := mBs (n := 128) off inb) (dst := mBs (n := 128) off inb') (sS := .dma (ssem 5)) (sem := .dma (rsem 5)) (hsc := hsc) (hsrc := hsrc) (hdst := hdst) (hsem := hsem) (k' := k') rfl rfl
      (fs := fin m) (fd := f) rfl (by rw [hset]; exact BI.Entails.refl _) (by
        rw [hset, hread]
        show _ ⊢ bReg (pa c) fullShare (RB (pa c)) (fin m)
        rw [RB_pa]
        unfold bReg
        exact Entails.of_eq (pointsTo_congr (mB_write (n := 128) (inb := inb') (k := 1) ho rfl (finN m) f)))) $$ [Ht HO Hs Hd]
  · isplitr; · iexact HE
    isplitl [Ht]; · iexact Ht
    isplitl [HO]; · iexact HO
    isplitl [Hs]
    · rw [hset]; unfold bReg; iexact Hs
    · rw [hset]; unfold bReg; iexact Hd
  iintro ⟨H, H'⟩
  iapply Hk
  isplitl [H]; · iexact H
  isplitl [H']; · iexact H'
  iexact Hr

/-- Slot 6. -/
theorem slot6 (n : Dev nD) (hn : n = pa c) {off : Fin 2 → ℕ} {inb inb'} {hsc hsrc hdst hsem} {k' : PUnit → Prog (TpuEff nD τ sig (Elt F) Λ₀ .tc) α}
    (ho : off = ![k1 c * 256, 0]) :
    iprop(env m K ∗ stk c 6 ∗ ow c 2 ∗ bReg c fullShare (KA c) (fin m) ∗ (∃ f, bReg (pa c) fullShare (KA c) f))
      ⊢ iprop((cred (tallyAt (cell c (.snd 6)) () (amt (.snd 6))) ∗ ow c 1 ∗ bReg c fullShare.right (KA c) (fin m) -∗ wpc c (k' ⟨⟩) Q)
        -∗ wpc c (.op (.enqueueDma (mBs (n := 256) off inb) (.remote (Dev.tc n : Thread nD τ) (mBs (n := 256) off inb') (.dma (ssem 6)) hsc) (.dma (rsem 6)) hsrc hdst hsem) k') Q) := by
  have hset : (mBs (n := 256) off inb).view.set = KA c := mB_set (n := 256) (inb := inb) (k := 0) ho rfl
  have hread : (mBs (n := 256) off inb).view.read (Elt F) (fin m) = blk (finN m) (k1 c * 256) 0 := mB_read (n := 256) (inb := inb) (k := 0) ho rfl (finN m)
  iintro ⟨#HE, Ht, HO, Hs, ⟨%f, Hd⟩⟩ Hk
  ihave Hs := (bReg_halves c (KA c) (fin m)).1 $$ Hs
  icases Hs with ⟨Hs, Hr⟩
  iapply (send_half m K c 1 6 rfl n hn (src := mBs (n := 256) off inb) (dst := mBs (n := 256) off inb') (sS := .dma (ssem 6)) (sem := .dma (rsem 6)) (hsc := hsc) (hsrc := hsrc) (hdst := hdst) (hsem := hsem) (k' := k') rfl rfl
      (fs := fin m) (fd := f) rfl (by rw [hset]; exact BI.Entails.refl _) (by
        rw [hset, hread]
        show _ ⊢ bReg (pa c) fullShare (SA (pa c)) (fin m)
        rw [SA_pa]
        unfold bReg
        exact Entails.of_eq (pointsTo_congr (mB_write (n := 256) (inb := inb') (k := 0) ho rfl (finN m) f)))) $$ [Ht HO Hs Hd]
  · isplitr; · iexact HE
    isplitl [Ht]; · iexact Ht
    isplitl [HO]; · iexact HO
    isplitl [Hs]
    · rw [hset]; unfold bReg; iexact Hs
    · rw [hset]; unfold bReg; iexact Hd
  iintro ⟨H, H'⟩
  iapply Hk
  isplitl [H]; · iexact H
  isplitl [H']; · iexact H'
  iexact Hr

/-- Slot 7. -/
theorem slot7 (n : Dev nD) (hn : n = pb c) {off : Fin 2 → ℕ} {inb inb'} {hsc hsrc hdst hsem} {k' : PUnit → Prog (TpuEff nD τ sig (Elt F) Λ₀ .tc) α}
    (ho : off = ![k2 c * 256, 384]) :
    iprop(env m K ∗ stk c 7 ∗ ow c 1 ∗ bReg c fullShare (KB c) (fin m) ∗ (∃ f, bReg (pb c) fullShare (KB c) f))
      ⊢ iprop((cred (tallyAt (cell c (.snd 7)) () (amt (.snd 7))) ∗ ow c 0 ∗ bReg c fullShare.right (KB c) (fin m) -∗ wpc c (k' ⟨⟩) Q)
        -∗ wpc c (.op (.enqueueDma (mBs (n := 256) off inb) (.remote (Dev.tc n : Thread nD τ) (mBs (n := 256) off inb') (.dma (ssem 7)) hsc) (.dma (rsem 7)) hsrc hdst hsem) k') Q) := by
  have hset : (mBs (n := 256) off inb).view.set = KB c := mB_set (n := 256) (inb := inb) (k := 1) ho rfl
  have hread : (mBs (n := 256) off inb).view.read (Elt F) (fin m) = blk (finN m) (k2 c * 256) 1 := mB_read (n := 256) (inb := inb) (k := 1) ho rfl (finN m)
  iintro ⟨#HE, Ht, HO, Hs, ⟨%f, Hd⟩⟩ Hk
  ihave Hs := (bReg_halves c (KB c) (fin m)).1 $$ Hs
  icases Hs with ⟨Hs, Hr⟩
  iapply (send_half m K c 0 7 rfl n hn (src := mBs (n := 256) off inb) (dst := mBs (n := 256) off inb') (sS := .dma (ssem 7)) (sem := .dma (rsem 7)) (hsc := hsc) (hsrc := hsrc) (hdst := hdst) (hsem := hsem) (k' := k') rfl rfl
      (fs := fin m) (fd := f) rfl (by rw [hset]; exact BI.Entails.refl _) (by
        rw [hset, hread]
        show _ ⊢ bReg (pb c) fullShare (SB (pb c)) (fin m)
        rw [SB_pb]
        unfold bReg
        exact Entails.of_eq (pointsTo_congr (mB_write (n := 256) (inb := inb') (k := 1) ho rfl (finN m) f)))) $$ [Ht HO Hs Hd]
  · isplitr; · iexact HE
    isplitl [Ht]; · iexact Ht
    isplitl [HO]; · iexact HO
    isplitl [Hs]
    · rw [hset]; unfold bReg; iexact Hs
    · rw [hset]; unfold bReg; iexact Hd
  iintro ⟨H, H'⟩
  iapply Hk
  isplitl [H]; · iexact H
  isplitl [H']; · iexact H'
  iexact Hr

end Steps

end Cert.Proof

end
-- ==== Proof.Blocks.lean ====
module

/-
What the loads of whole buffers, of row halves and of column halves read; a partial product as a block of the array of
partial products; a sum with a landed block as a block of the array of sums.
-/
public import proofs.«01_k».proof.Proof.Rules
public import Idealize.ShloMosaic.Lib.Pipeline.Value

@[expose] public section

noncomputable section

namespace Cert.Proof

open Cert.KernelIdeal Cert.KernelIdeal.Gen

open Idealize.ShloMosaic Idealize.ShloMosaic.TcCoe

variable {F : FTy → Type} [FloatOps F]

/-- Reading a whole matrix. -/
theorem read_all {n k : ℕ} {α : Type} {off : Fin 2 → ℕ} (ho : off = ![0, 0]) {inb} (f : (⟨2, ![n, k]⟩ : Shape).Idx → α) :
    (fun j => f ((Rect.unit (s := (⟨2, ![n, k]⟩ : Shape)) off ![n, k] inb).toLoadRect.idx j)) = f := by
  subst ho
  funext j
  refine congrArg f (funext fun a => Fin.ext ?_)
  rw [idx_zero]
  match a with
  | ⟨0, _⟩ => exact Nat.zero_add _
  | ⟨1, _⟩ => exact Nat.zero_add _

variable (m : (ℓ : Loc nD τ sig) → Buf (Elt F) ℓ) (c : Dev nD)

/-- Reading a row half of `x`. -/
theorem read_x (h : ℕ) {off : Fin 2 → ℕ} (ho : off = ![h * 256, 0]) (hh : h ≤ 1) {inb} :
    (fun j => xArg m c ((Rect.unit (s := S512x768) off S256x768.size inb).toLoadRect.idx j)) = xHalf m h c := by
  subst ho
  funext j
  unfold xHalf
  exact congrArg (xArg m c) (eq_ix2 _ (idx_zero j 0) ((idx_zero j 1).trans (Nat.zero_add _)))

/-- Reading a column half of the output weights. -/
theorem read_wo (k : ℕ) {off : Fin 2 → ℕ} (ho : off = ![0, 384 * k]) {inb} :
    (fun j => woArg m c ((Rect.unit (s := S512x768) off S512x384.size inb).toLoadRect.idx j)) = woHalf m k c := by
  subst ho
  funext j
  unfold woHalf
  exact congrArg (woArg m c) (eq_ix2 _ ((idx_zero j 0).trans (Nat.zero_add _)) (idx_zero j 1))

/-- A partial product's block is a block of the array of partial products. -/
theorem pBlk_eq (h k : ℕ) : pBlk m h k c = blk (n := 256) (pN m c) (h * 256) k := by
  funext j
  have l0 : (j 0).val < 256 := (j 0).isLt
  have l1 : (j 1).val < 384 := (j 1).isLt
  unfold blk pN
  rw [show (h * 256 + (j 0).val) / 256 = h by omega, show (384 * k + (j 1).val) / 384 = k by omega,
    show (h * 256 + (j 0).val) % 256 = (j 0).val by omega, show (384 * k + (j 1).val) % 384 = (j 1).val by omega]
  exact congrArg _ (eq_ix2 j rfl rfl)

theorem sum0 : k0_pay48 (blk (n := 256) (pN m c) (k1 c * 256) 0) (c0At m c) = blk (n := 256) (t1N m c) (k1 c * 256) 0 := by
  unfold k0_pay48
  refine (shapeCast_self _ _).trans ?_
  funext j
  have l1 : (j 1).val < 384 := (j 1).isLt
  unfold c0At blk t1N par1
  rw [if_pos (by omega)]; rfl
theorem sum1 : k0_pay49 (blk (n := 256) (pN m c) (k2 c * 256) 1) (c1At m c) = blk (n := 256) (t1N m c) (k2 c * 256) 1 := by
  unfold k0_pay49
  refine (shapeCast_self _ _).trans ?_
  funext j
  unfold c1At blk t1N par1
  rw [if_neg (by omega)]; rfl
theorem sum2 : k0_pay50 (blk (n := 128) (t1N m c) ((2 * k1 c + k2 c) * 128) 0) (c2At m c) = blk (n := 128) (finN m) ((2 * k1 c + k2 c) * 128) 0 := by
  unfold k0_pay50
  refine (shapeCast_self _ _).trans ?_
  funext j
  have l0 : (j 0).val < 128 := (j 0).isLt
  have l1 : (j 1).val < 384 := (j 1).isLt
  unfold c2At blk finN
  rw [owner_left c _ _ (by omega) (by omega)]
  unfold t2N par2
  rw [if_pos (by omega)]; rfl
theorem sum3 : k0_pay51 (blk (n := 128) (t1N m c) ((2 * k2 c + k3 c) * 128) 1) (c3At m c) = blk (n := 128) (finN m) ((2 * k2 c + k3 c) * 128) 1 := by
  unfold k0_pay51
  refine (shapeCast_self _ _).trans ?_
  funext j
  have l0 : (j 0).val < 128 := (j 0).isLt
  unfold c3At blk finN
  rw [owner_right c _ _ (by omega) (by omega)]
  unfold t2N par2
  rw [if_neg (by omega)]; rfl

end Cert.Proof

end
-- ==== Proof.Start.lean ====
module

/-
The five local copies of the arguments, and the regions of the array of sums taken apart and put together.
-/
public import proofs.«01_k».proof.Proof.Exchange
public import proofs.«01_k».proof.Proof.Blocks

@[expose] public section

set_option maxRecDepth 16384

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ) (c : Dev nD)

/-- The left half kept is the left quarter owned and the one sent away; -/
theorem bKA_split (G : Vec F S512x768 .bf16) : bReg c fullShare (KA c) G ⊣⊢ iprop(bReg c fullShare (QA c) G ∗ bReg c fullShare (RA c) G) := by
  rw [KA_eq]; exact pointsTo_union (QA_RA c)
/-- the right one likewise. -/
theorem bKB_split (G : Vec F S512x768 .bf16) : bReg c fullShare (KB c) G ⊣⊢ iprop(bReg c fullShare (QB c) G ∗ bReg c fullShare (RB c) G) := by
  rw [KB_eq]; exact pointsTo_union (QB_RB c)

section Copies
variable {α : Type} {Q : α → sProp (MT nD τ sig Unit (Elt F) ℕ UU ℕ)}

/-- The local copy of argument 0. -/
theorem loc_copy0 {hsrc hdst hsem} {k' : PUnit → Prog (TpuEff nD τ sig (Elt F) Λ₀ .tc) α} :
    iprop(env m K ∗ dutyTok ER (cell c (.loc 0)) 0 false ∗ atPos ER (cell c (.loc 0)) 0 ∅ 0 ∗ srcReg m c 0 ∗ (∃ f, own c cc0_scratch0 f))
      ⊢ iprop((wtk c (.loc 0) -∗ wpc c (k' ⟨⟩) Q) -∗ wpc c (.op (.enqueueDma mA0 (.here mX) (.dma (lsem 0)) hsrc hdst hsem) k') Q) := by
  have hread : mA0.view.read (Elt F) (m (mA0.view.loc (c : Thread nD τ))) = xArg m c := by
    rfl
  have hsr : srcReg m c 0 = (mA0.view.loc (c : Thread nD τ) ↦[mA0.view.set]{fullShare} m (mA0.view.loc (c : Thread nD τ))) := rfl
  rw [hsr]
  unfold own
  iintro ⟨#HE, Ht, Ha, Hs, ⟨%f, Hd⟩⟩ Hk
  iapply (copy_loc m K c 0 (src := mA0) (dst := mX) (hsrc := hsrc) (hdst := hdst) (hsem := hsem) (k' := k') (Q := Q) rfl (fs := m _) (fd := f) rfl (by
      rw [hread]
      show _ ⊢ iprop(own c cc0_scratch0 (xArg m c) ∗ srcReg m c 0)
      unfold own
      refine sep_mono_l ?_
      rw [show (mX.view.set : Finset (Idx (mX.view.loc (c : Thread nD τ)))) = Finset.univ from View.set_whole cc0_scratch0]
      rw [show (_ : Vec F _ .bf16) = _ from View.write_whole_univ (Val := Elt F) cc0_scratch0 f _]
      exact fun _ h => h)) $$ [Ht Ha Hs Hd]
  · isplitr; · iexact HE
    isplitl [Ht]; · iexact Ht
    isplitl [Ha]; · iexact Ha
    isplitl [Hs]; · iexact Hs
    rw [show (mX.view.set : Finset (Idx (mX.view.loc (c : Thread nD τ)))) = Finset.univ from View.set_whole cc0_scratch0]
    iexact Hd
  iexact Hk

/-- The local copy of argument 1. -/
theorem loc_copy1 {hsrc hdst hsem} {k' : PUnit → Prog (TpuEff nD τ sig (Elt F) Λ₀ .tc) α} :
    iprop(env m K ∗ dutyTok ER (cell c (.loc 1)) 0 false ∗ atPos ER (cell c (.loc 1)) 0 ∅ 0 ∗ srcReg m c 1 ∗ (∃ f, own c cc0_scratch1 f))
      ⊢ iprop((wtk c (.loc 1) -∗ wpc c (k' ⟨⟩) Q) -∗ wpc c (.op (.enqueueDma mA1 (.here mQ) (.dma (lsem 1)) hsrc hdst hsem) k') Q) := by
  have hread : mA1.view.read (Elt F) (m (mA1.view.loc (c : Thread nD τ))) = wqArg m c := by
    rfl
  have hsr : srcReg m c 1 = (mA1.view.loc (c : Thread nD τ) ↦[mA1.view.set]{fullShare} m (mA1.view.loc (c : Thread nD τ))) := rfl
  rw [hsr]
  unfold own
  iintro ⟨#HE, Ht, Ha, Hs, ⟨%f, Hd⟩⟩ Hk
  iapply (copy_loc m K c 1 (src := mA1) (dst := mQ) (hsrc := hsrc) (hdst := hdst) (hsem := hsem) (k' := k') (Q := Q) rfl (fs := m _) (fd := f) rfl (by
      rw [hread]
      show _ ⊢ iprop(own c cc0_scratch1 (wqArg m c) ∗ srcReg m c 1)
      unfold own
      refine sep_mono_l ?_
      rw [show (mQ.view.set : Finset (Idx (mQ.view.loc (c : Thread nD τ)))) = Finset.univ from View.set_whole cc0_scratch1]
      rw [show (_ : Vec F _ .bf16) = _ from View.write_whole_univ (Val := Elt F) cc0_scratch1 f _]
      exact fun _ h => h)) $$ [Ht Ha Hs Hd]
  · isplitr; · iexact HE
    isplitl [Ht]; · iexact Ht
    isplitl [Ha]; · iexact Ha
    isplitl [Hs]; · iexact Hs
    rw [show (mQ.view.set : Finset (Idx (mQ.view.loc (c : Thread nD τ)))) = Finset.univ from View.set_whole cc0_scratch1]
    iexact Hd
  iexact Hk

/-- The local copy of argument 2. -/
theorem loc_copy2 {hsrc hdst hsem} {k' : PUnit → Prog (TpuEff nD τ sig (Elt F) Λ₀ .tc) α} :
    iprop(env m K ∗ dutyTok ER (cell c (.loc 2)) 0 false ∗ atPos ER (cell c (.loc 2)) 0 ∅ 0 ∗ srcReg m c 2 ∗ (∃ f, own c cc0_scratch2 f))
      ⊢ iprop((wtk c (.loc 2) -∗ wpc c (k' ⟨⟩) Q) -∗ wpc c (.op (.enqueueDma (mColsK c) (.here mK) (.dma (lsem 2)) hsrc hdst hsem) k') Q) := by
  have hread : (mColsK c).view.read (Elt F) (m ((mColsK c).view.loc (c : Thread nD τ))) = colsOf c (wkArg m c) := by
    funext j
    show (wkArg m c) ((Rect.unit (s := S768x512) (k0_off1 c) S768x128.size (k0_off1_inb c)).toLoadRect.idx j) = _
    exact congrArg _ (eq_ix2 _ (by rw [idx_zero]; exact (congrArg (· + (j 0).val) (congrFun (k0_off1_eq c) 0)).trans (Nat.zero_add _)) (by rw [idx_zero]; exact congrArg (· + (j 1).val) (congrFun (k0_off1_eq c) 1)))
  have hsr : srcReg m c 2 = ((mColsK c).view.loc (c : Thread nD τ) ↦[(mColsK c).view.set]{fullShare} m ((mColsK c).view.loc (c : Thread nD τ))) := rfl
  rw [hsr]
  unfold own
  iintro ⟨#HE, Ht, Ha, Hs, ⟨%f, Hd⟩⟩ Hk
  iapply (copy_loc m K c 2 (src := (mColsK c)) (dst := mK) (hsrc := hsrc) (hdst := hdst) (hsem := hsem) (k' := k') (Q := Q) rfl (fs := m _) (fd := f) rfl (by
      rw [hread]
      show _ ⊢ iprop(own c cc0_scratch2 (colsOf c (wkArg m c)) ∗ srcReg m c 2)
      unfold own
      refine sep_mono_l ?_
      rw [show (mK.view.set : Finset (Idx (mK.view.loc (c : Thread nD τ)))) = Finset.univ from View.set_whole cc0_scratch2]
      rw [show (_ : Vec F _ .bf16) = _ from View.write_whole_univ (Val := Elt F) cc0_scratch2 f _]
      exact fun _ h => h)) $$ [Ht Ha Hs Hd]
  · isplitr; · iexact HE
    isplitl [Ht]; · iexact Ht
    isplitl [Ha]; · iexact Ha
    isplitl [Hs]; · iexact Hs
    rw [show (mK.view.set : Finset (Idx (mK.view.loc (c : Thread nD τ)))) = Finset.univ from View.set_whole cc0_scratch2]
    iexact Hd
  iexact Hk

/-- The local copy of argument 3. -/
theorem loc_copy3 {hsrc hdst hsem} {k' : PUnit → Prog (TpuEff nD τ sig (Elt F) Λ₀ .tc) α} :
    iprop(env m K ∗ dutyTok ER (cell c (.loc 3)) 0 false ∗ atPos ER (cell c (.loc 3)) 0 ∅ 0 ∗ srcReg m c 3 ∗ (∃ f, own c cc0_scratch3 f))
      ⊢ iprop((wtk c (.loc 3) -∗ wpc c (k' ⟨⟩) Q) -∗ wpc c (.op (.enqueueDma (mColsV c) (.here mV) (.dma (lsem 3)) hsrc hdst hsem) k') Q) := by
  have hread : (mColsV c).view.read (Elt F) (m ((mColsV c).view.loc (c : Thread nD τ))) = colsOf c (wvArg m c) := by
    funext j
    show (wvArg m c) ((Rect.unit (s := S768x512) (k0_off1 c) S768x128.size (k0_off1_inb c)).toLoadRect.idx j) = _
    exact congrArg _ (eq_ix2 _ (by rw [idx_zero]; exact (congrArg (· + (j 0).val) (congrFun (k0_off1_eq c) 0)).trans (Nat.zero_add _)) (by rw [idx_zero]; exact congrArg (· + (j 1).val) (congrFun (k0_off1_eq c) 1)))
  have hsr : srcReg m c 3 = ((mColsV c).view.loc (c : Thread nD τ) ↦[(mColsV c).view.set]{fullShare} m ((mColsV c).view.loc (c : Thread nD τ))) := rfl
  rw [hsr]
  unfold own
  iintro ⟨#HE, Ht, Ha, Hs, ⟨%f, Hd⟩⟩ Hk
  iapply (copy_loc m K c 3 (src := (mColsV c)) (dst := mV) (hsrc := hsrc) (hdst := hdst) (hsem := hsem) (k' := k') (Q := Q) rfl (fs := m _) (fd := f) rfl (by
      rw [hread]
      show _ ⊢ iprop(own c cc0_scratch3 (colsOf c (wvArg m c)) ∗ srcReg m c 3)
      unfold own
      refine sep_mono_l ?_
      rw [show (mV.view.set : Finset (Idx (mV.view.loc (c : Thread nD τ)))) = Finset.univ from View.set_whole cc0_scratch3]
      rw [show (_ : Vec F _ .bf16) = _ from View.write_whole_univ (Val := Elt F) cc0_scratch3 f _]
      exact fun _ h => h)) $$ [Ht Ha Hs Hd]
  · isplitr; · iexact HE
    isplitl [Ht]; · iexact Ht
    isplitl [Ha]; · iexact Ha
    isplitl [Hs]; · iexact Hs
    rw [show (mV.view.set : Finset (Idx (mV.view.loc (c : Thread nD τ)))) = Finset.univ from View.set_whole cc0_scratch3]
    iexact Hd
  iexact Hk

/-- The local copy of argument 4. -/
theorem loc_copy4 {hsrc hdst hsem} {k' : PUnit → Prog (TpuEff nD τ sig (Elt F) Λ₀ .tc) α} :
    iprop(env m K ∗ dutyTok ER (cell c (.loc 4)) 0 false ∗ atPos ER (cell c (.loc 4)) 0 ∅ 0 ∗ srcReg m c 4 ∗ (∃ f, own c cc0_scratch4 f))
      ⊢ iprop((wtk c (.loc 4) -∗ wpc c (k' ⟨⟩) Q) -∗ wpc c (.op (.enqueueDma mA4 (.here mW) (.dma (lsem 4)) hsrc hdst hsem) k') Q) := by
  have hread : mA4.view.read (Elt F) (m (mA4.view.loc (c : Thread nD τ))) = woArg m c := by
    rfl
  have hsr : srcReg m c 4 = (mA4.view.loc (c : Thread nD τ) ↦[mA4.view.set]{fullShare} m (mA4.view.loc (c : Thread nD τ))) := rfl
  rw [hsr]
  unfold own
  iintro ⟨#HE, Ht, Ha, Hs, ⟨%f, Hd⟩⟩ Hk
  iapply (copy_loc m K c 4 (src := mA4) (dst := mW) (hsrc := hsrc) (hdst := hdst) (hsem := hsem) (k' := k') (Q := Q) rfl (fs := m _) (fd := f) rfl (by
      rw [hread]
      show _ ⊢ iprop(own c cc0_scratch4 (woArg m c) ∗ srcReg m c 4)
      unfold own
      refine sep_mono_l ?_
      rw [show (mW.view.set : Finset (Idx (mW.view.loc (c : Thread nD τ)))) = Finset.univ from View.set_whole cc0_scratch4]
      rw [show (_ : Vec F _ .bf16) = _ from View.write_whole_univ (Val := Elt F) cc0_scratch4 f _]
      exact fun _ h => h)) $$ [Ht Ha Hs Hd]
  · isplitr; · iexact HE
    isplitl [Ht]; · iexact Ht
    isplitl [Ha]; · iexact Ha
    isplitl [Hs]; · iexact Hs
    rw [show (mW.view.set : Finset (Idx (mW.view.loc (c : Thread nD τ)))) = Finset.univ from View.set_whole cc0_scratch4]
    iexact Hd
  iexact Hk

/-- A load of a block of the array of sums, whatever the contents are called; -/
theorem ldB_at {n : ℕ} {off : Fin 2 → ℕ} {inb} {hl} {k' : ((⟨2, ![n, 384]⟩ : Shape).Idx → Elt F .bf16) → Prog (TpuEff nD τ sig (Elt F) Λ₀ .tc) α}
    {q : PosShare TreeShare} {S : Finset S512x768.Idx} (A : Vec F S512x768 .bf16) (G : ℕ → ℕ → Elt F .bf16) (hA : ∀ i, A i = G (i 0).val (i 1).val)
    (r col k : ℕ) (ho : off = ![r, col]) (hc : col = 384 * k) (hS : rs r n k ⊆ S) :
    bReg c q S A ⊢ iprop((bReg c q S A -∗ wpc c (k' (blk G r k)) Q)
        -∗ wpc c (.op (.load mB (Rect.unit (s := S512x768) off ![n, 384] inb).toLoadRect hl) k') Q) := by
  obtain rfl : A = fun i => G (i 0).val (i 1).val := funext hA
  exact ldB c G r col k ho hc hS

/-- and a store of one. -/
theorem stB_at {n : ℕ} {off : Fin 2 → ℕ} {inb} {w : (⟨2, ![n, 384]⟩ : Shape).Idx → Elt F .bf16} {hx} {hm} {k' : PUnit → Prog (TpuEff nD τ sig (Elt F) Λ₀ .tc) α}
    {f : Vec F S512x768 .bf16} {S : Finset S512x768.Idx} (r k : ℕ) (hSr : S = rs r n k) (A : Vec F S512x768 .bf16) (G : ℕ → ℕ → Elt F .bf16)
    (hA : ∀ i, A i = G (i 0).val (i 1).val) (col : ℕ) (ho : off = ![r, col]) (hc : col = 384 * k) (hw : w = blk G r k) :
    bReg c fullShare S f ⊢ iprop((bReg c fullShare S A -∗ wpc c (k' ⟨⟩) Q)
        -∗ wpc c (.op (.store mB (Rect.unit (s := S512x768) off ![n, 384] inb) w Finset.univ hx hm) k') Q) := by
  subst hSr
  obtain rfl : A = fun i => G (i 0).val (i 1).val := funext hA
  exact stB c G r col k ho hc hw

end Copies

end Cert.Proof

end
-- ==== Proof.PartsA.lean ====
module

/-
The body's parts 3 to 8: the local copies, the heads of the first batch half, the first block to be sent, the barrier.
-/
public import proofs.«01_k».proof.Proof.Start

@[expose] public section

set_option maxRecDepth 16384

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ) (c : Dev nD)

/-- Part 3: the five local copies started, the partners' barriers signalled, three of the copies waited for. -/
theorem part3 (v2 v3 v4 : BitVec 32) {Q : Sems sig S_ → sProp (MT nD τ sig Unit (Elt F) ℕ UU ℕ)} :
    iprop(env m K ∗ dutyTok ER (cell c (.loc 0)) 0 false ∗ atPos ER (cell c (.loc 0)) 0 ∅ 0 ∗ srcReg m c 0 ∗ (∃ f, own c cc0_scratch0 f) ∗ dutyTok ER (cell c (.loc 1)) 0 false ∗ atPos ER (cell c (.loc 1)) 0 ∅ 0 ∗ srcReg m c 1 ∗ (∃ f, own c cc0_scratch1 f) ∗ dutyTok ER (cell c (.loc 2)) 0 false ∗ atPos ER (cell c (.loc 2)) 0 ∅ 0 ∗ srcReg m c 2 ∗ (∃ f, own c cc0_scratch2 f) ∗ dutyTok ER (cell c (.loc 3)) 0 false ∗ atPos ER (cell c (.loc 3)) 0 ∅ 0 ∗ srcReg m c 3 ∗ (∃ f, own c cc0_scratch3 f) ∗ dutyTok ER (cell c (.loc 4)) 0 false ∗ atPos ER (cell c (.loc 4)) 0 ∅ 0 ∗ srcReg m c 4 ∗ (∃ f, own c cc0_scratch4 f) ∗ (∃ W, owes (c : Thread nD τ) (O₀ c) W) ∗ dutyTok ER (cell (pa c) .bar) 0 false ∗ dutyTok ER (cell (pb c) .bar) 0 true ∗ (∃ f, own c cc0_scratch7 f) ∗ (∃ f, own c cc0_scratch8 f) ∗ (∃ f, own c cc0_scratch9 f) ∗ (∃ f, own c cc0_scratch10 f))
      ⊢ iprop(((wtk c (.loc 3) ∗ wtk c (.loc 4) ∗ ow c 8 ∗ own c cc0_scratch0 (xArg m c) ∗ srcReg m c 0 ∗ zer c (.loc 0) ∗ own c cc0_scratch1 (wqArg m c) ∗ srcReg m c 1 ∗ zer c (.loc 1) ∗ own c cc0_scratch2 (colsOf c (wkArg m c)) ∗ srcReg m c 2 ∗ zer c (.loc 2)) -∗ Q (SemArray.scalar (sig.barrier 0 rfl)))
        -∗ wpc c (k0_part3 mA0 (Memref.isWhole_whole _) mA1 (Memref.isWhole_whole _) mA2 (Memref.isWhole_whole _) mA3 (Memref.isWhole_whole _) mA4 (Memref.isWhole_whole _) mOut (Memref.isWhole_whole _) mX (Memref.isWhole_whole _) mQ (Memref.isWhole_whole _) mK (Memref.isWhole_whole _) mV (Memref.isWhole_whole _) mW (Memref.isWhole_whole _) mB (Memref.isWhole_whole _) mO (Memref.isWhole_whole _) mC0 (Memref.isWhole_whole _) mC1 (Memref.isWhole_whole _) mC2 (Memref.isWhole_whole _) mC3 (Memref.isWhole_whole _) cc0_scratch11 cc0_scratch12 cc0_scratch13 c v2 v3 v4) Q) := by
  simp only [k0_part3_eq_skeleton]; unfold k0_part3_skel
  simp only [semSignalWord, semWaitWord, Prog.lift, Prog.bind_op, Prog.bind_ret, Prog.pure_eq_ret, Prog.bind_assoc]
  iintro ⟨#HE, tl0, al0, sr0, b0, tl1, al1, sr1, b1, tl2, al2, sr2, b2, tl3, al3, sr3, b3, tl4, al4, sr4, b4, O, tbA, tbB, b7, b8, b9, b10⟩ Hk
  iapply (loc_copy0 m K c) $$ [tl0 al0 sr0 b0]
  · isplitr; · iexact HE
    isplitl [tl0]; · iexact tl0
    isplitl [al0]; · iexact al0
    isplitl [sr0]; · iexact sr0
    iexact b0
  iintro w0
  iapply (loc_copy1 m K c) $$ [tl1 al1 sr1 b1]
  · isplitr; · iexact HE
    isplitl [tl1]; · iexact tl1
    isplitl [al1]; · iexact al1
    isplitl [sr1]; · iexact sr1
    iexact b1
  iintro w1
  iapply (loc_copy2 m K c) $$ [tl2 al2 sr2 b2]
  · isplitr; · iexact HE
    isplitl [tl2]; · iexact tl2
    isplitl [al2]; · iexact al2
    isplitl [sr2]; · iexact sr2
    iexact b2
  iintro w2
  iapply (loc_copy3 m K c) $$ [tl3 al3 sr3 b3]
  · isplitr; · iexact HE
    isplitl [tl3]; · iexact tl3
    isplitl [al3]; · iexact al3
    isplitl [sr3]; · iexact sr3
    iexact b3
  iintro w3
  iapply (loc_copy4 m K c) $$ [tl4 al4 sr4 b4]
  · isplitr; · iexact HE
    isplitl [tl4]; · iexact tl4
    isplitl [al4]; · iexact al4
    isplitl [sr4]; · iexact sr4
    iexact b4
  iintro w4
  iapply (signals m K c _ _ (dev1 c) (dev2 c)) $$ [O tbA tbB b7 b8 b9 b10]
  · isplitr; · iexact HE
    isplitl [O]; · iexact O
    isplitl [tbA]; · iexact tbA
    isplitl [tbB]; · iexact tbB
    isplitl [b7]; · iexact b7
    isplitl [b8]; · iexact b8
    isplitl [b9]; · iexact b9
    iexact b10
  iintro O
  iapply (wait_dma m K c (.loc 0) rfl rfl rfl 8 le_rfl (by decide)) $$ [w0 O]
  · isplitr; · iexact HE
    isplitl [w0]; · iexact w0
    iexact O
  iintro ⟨O, z0, P⟩
  ihave P := (Entails.of_eq (show pay m c (.loc 0) false = iprop(own c cc0_scratch0 (xArg m c) ∗ srcReg m c 0) from rfl)) $$ P
  icases P with ⟨x0, sr0⟩
  iapply (wait_dma m K c (.loc 1) rfl rfl rfl 8 le_rfl (by decide)) $$ [w1 O]
  · isplitr; · iexact HE
    isplitl [w1]; · iexact w1
    iexact O
  iintro ⟨O, z1, P⟩
  ihave P := (Entails.of_eq (show pay m c (.loc 1) false = iprop(own c cc0_scratch1 (wqArg m c) ∗ srcReg m c 1) from rfl)) $$ P
  icases P with ⟨x1, sr1⟩
  iapply (wait_dma m K c (.loc 2) rfl rfl rfl 8 le_rfl (by decide)) $$ [w2 O]
  · isplitr; · iexact HE
    isplitl [w2]; · iexact w2
    iexact O
  iintro ⟨O, z2, P⟩
  ihave P := (Entails.of_eq (show pay m c (.loc 2) false = iprop(own c cc0_scratch2 (colsOf c (wkArg m c)) ∗ srcReg m c 2) from rfl)) $$ P
  icases P with ⟨x2, sr2⟩
  unfold wpc; rw [wp_ret]; imodintro
  iapply Hk
  isplitl [w3]; · iexact w3
  isplitl [w4]; · iexact w4
  isplitl [O]; · iexact O
  isplitl [x0]; · iexact x0
  isplitl [sr0]; · iexact sr0
  isplitl [z0]; · iexact z0
  isplitl [x1]; · iexact x1
  isplitl [sr1]; · iexact sr1
  isplitl [z1]; · iexact z1
  isplitl [x2]; · iexact x2
  isplitl [sr2]; · iexact sr2
  iexact z2

/-- Part 4: the last of those copies, the loads of the first batch half, and head 0. -/
theorem part4 (v32 : BitVec 32) {Q : (Σ' (v109 : BitVec 32) (v114 : FVec F S256x512 .bf16) (v117 : FVec F S256x128 .bf16) (v120 : FVec F S256x128 .bf16) (v145 : FVec F S256x64 .bf16), FVec F S256x256 .f32) → sProp (MT nD τ sig Unit (Elt F) ℕ UU ℕ)} :
    iprop(env m K ∗ wtk c (.loc 3) ∗ ow c 8 ∗ own c cc0_scratch0 (xArg m c) ∗ own c cc0_scratch1 (wqArg m c) ∗ own c cc0_scratch2 (colsOf c (wkArg m c)) ∗ oSt c m 0 0)
      ⊢ iprop((∀ w : BitVec 32, (ow c 8 ∗ own c cc0_scratch3 (colsOf c (wvArg m c)) ∗ srcReg m c 3 ∗ zer c (.loc 3) ∗ own c cc0_scratch0 (xArg m c) ∗ own c cc0_scratch1 (wqArg m c) ∗ own c cc0_scratch2 (colsOf c (wkArg m c)) ∗ oSt c m 1 0) -∗ Q ⟨w, (k0_pay2 (xHalf m (1 - k1 c) c) (wqArg m c)), (k0_pay3 (xHalf m (1 - k1 c) c) (colsOf c (wkArg m c))), (k0_pay4 (xHalf m (1 - k1 c) c) (colsOf c (wvArg m c))), k0_pay6 (xHalf m (1 - k1 c) c) (colsOf c (wvArg m c)), k0_pay7 (xHalf m (1 - k1 c) c) (wqArg m c) (colsOf c (wkArg m c))⟩)
        -∗ wpc c (k0_part4 mA0 (Memref.isWhole_whole _) mA1 (Memref.isWhole_whole _) mA2 (Memref.isWhole_whole _) mA3 (Memref.isWhole_whole _) mA4 (Memref.isWhole_whole _) mOut (Memref.isWhole_whole _) mX (Memref.isWhole_whole _) mQ (Memref.isWhole_whole _) mK (Memref.isWhole_whole _) mV (Memref.isWhole_whole _) mW (Memref.isWhole_whole _) mB (Memref.isWhole_whole _) mO (Memref.isWhole_whole _) mC0 (Memref.isWhole_whole _) mC1 (Memref.isWhole_whole _) mC2 (Memref.isWhole_whole _) mC3 (Memref.isWhole_whole _) cc0_scratch11 cc0_scratch12 cc0_scratch13 c v32) Q) := by
  simp only [k0_part4_eq_skeleton]; unfold k0_part4_skel
  simp only [semSignalWord, semWaitWord, Prog.lift, Prog.bind_op, Prog.bind_ret, Prog.pure_eq_ret, Prog.bind_assoc]
  iintro ⟨#HE, w3, O, x0, x1, x2, oS⟩ Hk
  iapply (wait_dma m K c (.loc 3) rfl rfl rfl 8 le_rfl (by decide)) $$ [w3 O]
  · isplitr; · iexact HE
    isplitl [w3]; · iexact w3
    iexact O
  iintro ⟨O, z3, P⟩
  ihave P := (Entails.of_eq (show pay m c (.loc 3) false = iprop(own c cc0_scratch3 (colsOf c (wvArg m c)) ∗ srcReg m c 3) from rfl)) $$ P
  icases P with ⟨x3, sr3⟩
  iapply (ldX c (xHalf m (1 - k1 c) c) (read_x m c (1 - k1 c) (off2 c) (by have := k1_le c; omega))) $$ x0
  iintro x0
  iapply (ldQ c (wqArg m c) (read_all rfl _)) $$ x1
  iintro x1
  iapply (ldK c (colsOf c (wkArg m c)) (read_all rfl _)) $$ x2
  iintro x2
  iapply (ldV c (colsOf c (wvArg m c)) (read_all rfl _)) $$ x3
  iintro x3
  iapply (ldO_any c m 0 0) $$ oS
  iintro %v oS
  iapply (stO_head c m (1 - k1 c) 0 0 0 1 0 (off3 c) (rfl) (.inl ⟨rfl, rfl, rfl, rfl⟩)) $$ oS
  iintro oS
  unfold wpc; rw [wp_ret]; imodintro
  iapply Hk
  isplitl [O]; · iexact O
  isplitl [x3]; · iexact x3
  isplitl [sr3]; · iexact sr3
  isplitl [z3]; · iexact z3
  isplitl [x0]; · iexact x0
  isplitl [x1]; · iexact x1
  isplitl [x2]; · iexact x2
  iexact oS

/-- Part 5: heads 1 and 2. -/
theorem part5 (w : BitVec 32) {Q : (Σ' (v189 : FVec F S256x64 .bf16) (v190 : FVec F S256x256 .f32), FVec F S256x256 .f32) → sProp (MT nD τ sig Unit (Elt F) ℕ UU ℕ)} :
    iprop(env m K ∗ oSt c m 1 0)
      ⊢ iprop(((oSt c m 3 0) -∗ Q ⟨k0_pay10 (k0_pay4 (xHalf m (1 - k1 c) c) (colsOf c (wvArg m c))), k0_pay11 (k0_pay2 (xHalf m (1 - k1 c) c) (wqArg m c)) (k0_pay3 (xHalf m (1 - k1 c) c) (colsOf c (wkArg m c))), k0_pay12⟩)
        -∗ wpc c (k0_part5 mA0 (Memref.isWhole_whole _) mA1 (Memref.isWhole_whole _) mA2 (Memref.isWhole_whole _) mA3 (Memref.isWhole_whole _) mA4 (Memref.isWhole_whole _) mOut (Memref.isWhole_whole _) mX (Memref.isWhole_whole _) mQ (Memref.isWhole_whole _) mK (Memref.isWhole_whole _) mV (Memref.isWhole_whole _) mW (Memref.isWhole_whole _) mB (Memref.isWhole_whole _) mO (Memref.isWhole_whole _) mC0 (Memref.isWhole_whole _) mC1 (Memref.isWhole_whole _) mC2 (Memref.isWhole_whole _) mC3 (Memref.isWhole_whole _) cc0_scratch11 cc0_scratch12 cc0_scratch13 c w (k0_pay2 (xHalf m (1 - k1 c) c) (wqArg m c)) (k0_pay3 (xHalf m (1 - k1 c) c) (colsOf c (wkArg m c))) (k0_pay4 (xHalf m (1 - k1 c) c) (colsOf c (wvArg m c))) (k0_pay6 (xHalf m (1 - k1 c) c) (colsOf c (wvArg m c))) (k0_pay7 (xHalf m (1 - k1 c) c) (wqArg m c) (colsOf c (wkArg m c)))) Q) := by
  simp only [k0_part5_eq_skeleton]; unfold k0_part5_skel
  simp only [semSignalWord, semWaitWord, Prog.lift, Prog.bind_op, Prog.bind_ret, Prog.pure_eq_ret, Prog.bind_assoc]
  iintro ⟨#HE, oS⟩ Hk
  iapply (ldO_any c m 1 0) $$ oS
  iintro %v oS
  iapply (stO_head c m (1 - k1 c) 1 1 0 2 0 (off4 c) (rfl) (.inl ⟨rfl, rfl, rfl, rfl⟩)) $$ oS
  iintro oS
  iapply (ldO_any c m 2 0) $$ oS
  iintro %v oS
  iapply (stO_head c m (1 - k1 c) 2 2 0 3 0 (off5 c) (rfl) (.inl ⟨rfl, rfl, rfl, rfl⟩)) $$ oS
  iintro oS
  unfold wpc; rw [wp_ret]; imodintro
  iapply Hk
  iexact oS

/-- Part 6: heads 3 and 4. -/
theorem part6 (w : BitVec 32) {Q : (Σ' (v233 : FVec F S256x64 .bf16), FVec F S256x256 .f32) → sProp (MT nD τ sig Unit (Elt F) ℕ UU ℕ)} :
    iprop(env m K ∗ oSt c m 3 0)
      ⊢ iprop(((oSt c m 5 0) -∗ Q ⟨k0_pay15 (k0_pay4 (xHalf m (1 - k1 c) c) (colsOf c (wvArg m c))), k0_pay16 (k0_pay2 (xHalf m (1 - k1 c) c) (wqArg m c)) (k0_pay3 (xHalf m (1 - k1 c) c) (colsOf c (wkArg m c)))⟩)
        -∗ wpc c (k0_part6 mA0 (Memref.isWhole_whole _) mA1 (Memref.isWhole_whole _) mA2 (Memref.isWhole_whole _) mA3 (Memref.isWhole_whole _) mA4 (Memref.isWhole_whole _) mOut (Memref.isWhole_whole _) mX (Memref.isWhole_whole _) mQ (Memref.isWhole_whole _) mK (Memref.isWhole_whole _) mV (Memref.isWhole_whole _) mW (Memref.isWhole_whole _) mB (Memref.isWhole_whole _) mO (Memref.isWhole_whole _) mC0 (Memref.isWhole_whole _) mC1 (Memref.isWhole_whole _) mC2 (Memref.isWhole_whole _) mC3 (Memref.isWhole_whole _) cc0_scratch11 cc0_scratch12 cc0_scratch13 c w (k0_pay2 (xHalf m (1 - k1 c) c) (wqArg m c)) (k0_pay3 (xHalf m (1 - k1 c) c) (colsOf c (wkArg m c))) (k0_pay4 (xHalf m (1 - k1 c) c) (colsOf c (wvArg m c))) (k0_pay10 (k0_pay4 (xHalf m (1 - k1 c) c) (colsOf c (wvArg m c)))) (k0_pay11 (k0_pay2 (xHalf m (1 - k1 c) c) (wqArg m c)) (k0_pay3 (xHalf m (1 - k1 c) c) (colsOf c (wkArg m c)))) k0_pay12) Q) := by
  simp only [k0_part6_eq_skeleton]; unfold k0_part6_skel
  simp only [semSignalWord, semWaitWord, Prog.lift, Prog.bind_op, Prog.bind_ret, Prog.pure_eq_ret, Prog.bind_assoc]
  iintro ⟨#HE, oS⟩ Hk
  iapply (ldO_any c m 3 0) $$ oS
  iintro %v oS
  iapply (stO_head c m (1 - k1 c) 3 3 0 4 0 (off6 c) (rfl) (.inl ⟨rfl, rfl, rfl, rfl⟩)) $$ oS
  iintro oS
  iapply (ldO_any c m 4 0) $$ oS
  iintro %v oS
  iapply (stO_head c m (1 - k1 c) 4 4 0 5 0 (off7 c) (rfl) (.inl ⟨rfl, rfl, rfl, rfl⟩)) $$ oS
  iintro oS
  unfold wpc; rw [wp_ret]; imodintro
  iapply Hk
  iexact oS

/-- Part 7: heads 5 and 6. -/
theorem part7 (w : BitVec 32) {Q : (Σ' (v277 : FVec F S256x64 .bf16) (v280 : FVec F S256x256 .f32), FVec F S256x1 .f32) → sProp (MT nD τ sig Unit (Elt F) ℕ UU ℕ)} :
    iprop(env m K ∗ oSt c m 5 0)
      ⊢ iprop(((oSt c m 7 0) -∗ Q ⟨k0_pay19 (k0_pay4 (xHalf m (1 - k1 c) c) (colsOf c (wvArg m c))), k0_pay20 (k0_pay2 (xHalf m (1 - k1 c) c) (wqArg m c)) (k0_pay3 (xHalf m (1 - k1 c) c) (colsOf c (wkArg m c))), k0_pay21 (k0_pay2 (xHalf m (1 - k1 c) c) (wqArg m c)) (k0_pay3 (xHalf m (1 - k1 c) c) (colsOf c (wkArg m c)))⟩)
        -∗ wpc c (k0_part7 mA0 (Memref.isWhole_whole _) mA1 (Memref.isWhole_whole _) mA2 (Memref.isWhole_whole _) mA3 (Memref.isWhole_whole _) mA4 (Memref.isWhole_whole _) mOut (Memref.isWhole_whole _) mX (Memref.isWhole_whole _) mQ (Memref.isWhole_whole _) mK (Memref.isWhole_whole _) mV (Memref.isWhole_whole _) mW (Memref.isWhole_whole _) mB (Memref.isWhole_whole _) mO (Memref.isWhole_whole _) mC0 (Memref.isWhole_whole _) mC1 (Memref.isWhole_whole _) mC2 (Memref.isWhole_whole _) mC3 (Memref.isWhole_whole _) cc0_scratch11 cc0_scratch12 cc0_scratch13 c w (k0_pay2 (xHalf m (1 - k1 c) c) (wqArg m c)) (k0_pay3 (xHalf m (1 - k1 c) c) (colsOf c (wkArg m c))) (k0_pay4 (xHalf m (1 - k1 c) c) (colsOf c (wvArg m c))) (k0_pay15 (k0_pay4 (xHalf m (1 - k1 c) c) (colsOf c (wvArg m c)))) (k0_pay16 (k0_pay2 (xHalf m (1 - k1 c) c) (wqArg m c)) (k0_pay3 (xHalf m (1 - k1 c) c) (colsOf c (wkArg m c))))) Q) := by
  simp only [k0_part7_eq_skeleton]; unfold k0_part7_skel
  simp only [semSignalWord, semWaitWord, Prog.lift, Prog.bind_op, Prog.bind_ret, Prog.pure_eq_ret, Prog.bind_assoc]
  iintro ⟨#HE, oS⟩ Hk
  iapply (ldO_any c m 5 0) $$ oS
  iintro %v oS
  iapply (stO_head c m (1 - k1 c) 5 5 0 6 0 (off8 c) (rfl) (.inl ⟨rfl, rfl, rfl, rfl⟩)) $$ oS
  iintro oS
  iapply (ldO_any c m 6 0) $$ oS
  iintro %v oS
  iapply (stO_head c m (1 - k1 c) 6 6 0 7 0 (off9 c) (rfl) (.inl ⟨rfl, rfl, rfl, rfl⟩)) $$ oS
  iintro oS
  unfold wpc; rw [wp_ret]; imodintro
  iapply Hk
  iexact oS

/-- Part 8: head 7, the output weights' copy, the block to be sent first, and the barrier. -/
theorem part8 (v3 v32 w : BitVec 32) {Q : PUnit → sProp (MT nD τ sig Unit (Elt F) ℕ UU ℕ)} :
    iprop(env m K ∗ oSt c m 7 0 ∗ wtk c (.loc 4) ∗ ow c 8 ∗ (∃ f, bReg c fullShare (SA c) f) ∗ cred (tallyAt (cell c .bar) () 2) ∗ atPos ER (cell c .bar) 0 ∅ 0)
      ⊢ iprop(((oSt c m 8 0 ∗ ow c 8 ∗ own c cc0_scratch4 (woArg m c) ∗ srcReg m c 4 ∗ zer c (.loc 4) ∗ bReg c fullShare (SA c) (P m c) ∗ zer c .bar ∗ (∃ f, own (pa c) cc0_scratch7 f) ∗ (∃ f, own (pb c) cc0_scratch8 f) ∗ (∃ f, own (pb c) cc0_scratch9 f) ∗ (∃ f, own (pa c) cc0_scratch10 f)) -∗ Q ⟨⟩)
        -∗ wpc c (k0_part8 mA0 (Memref.isWhole_whole _) mA1 (Memref.isWhole_whole _) mA2 (Memref.isWhole_whole _) mA3 (Memref.isWhole_whole _) mA4 (Memref.isWhole_whole _) mOut (Memref.isWhole_whole _) mX (Memref.isWhole_whole _) mQ (Memref.isWhole_whole _) mK (Memref.isWhole_whole _) mV (Memref.isWhole_whole _) mW (Memref.isWhole_whole _) mB (Memref.isWhole_whole _) mO (Memref.isWhole_whole _) mC0 (Memref.isWhole_whole _) mC1 (Memref.isWhole_whole _) mC2 (Memref.isWhole_whole _) mC3 (Memref.isWhole_whole _) cc0_scratch11 cc0_scratch12 cc0_scratch13 c v3 v32 (SemArray.scalar (sig.barrier 0 rfl)) w (k0_pay19 (k0_pay4 (xHalf m (1 - k1 c) c) (colsOf c (wvArg m c)))) (k0_pay20 (k0_pay2 (xHalf m (1 - k1 c) c) (wqArg m c)) (k0_pay3 (xHalf m (1 - k1 c) c) (colsOf c (wkArg m c)))) (k0_pay21 (k0_pay2 (xHalf m (1 - k1 c) c) (wqArg m c)) (k0_pay3 (xHalf m (1 - k1 c) c) (colsOf c (wkArg m c))))) Q) := by
  simp only [k0_part8_eq_skeleton]; unfold k0_part8_skel
  simp only [semSignalWord, semWaitWord, Prog.lift, Prog.bind_op, Prog.bind_ret, Prog.pure_eq_ret, Prog.bind_assoc]
  iintro ⟨#HE, oS, w4, O, SA, cb, ab⟩ Hk
  iapply (ldO_any c m 7 0) $$ oS
  iintro %v oS
  iapply (stO_head c m (1 - k1 c) 7 7 0 8 0 (off10 c) (rfl) (.inl ⟨rfl, rfl, rfl, rfl⟩)) $$ oS
  iintro oS
  iapply (wait_dma m K c (.loc 4) rfl rfl rfl 8 le_rfl (by decide)) $$ [w4 O]
  · isplitr; · iexact HE
    isplitl [w4]; · iexact w4
    iexact O
  iintro ⟨O, z4, P⟩
  ihave P := (Entails.of_eq (show pay m c (.loc 4) false = iprop(own c cc0_scratch4 (woArg m c) ∗ srcReg m c 4) from rfl)) $$ P
  icases P with ⟨x4, sr4⟩
  iapply (ldO_half c m (1 - k1 c) 8 0 (off11 c) (.inl ⟨rfl, rfl⟩)) $$ oS
  iintro oS
  iapply (ldW c (woHalf m 0 c) (read_wo m c 0 rfl)) $$ x4
  iintro x4
  icases SA with ⟨%fSA, SA⟩
  iapply (ldB_any c (n := 256) (S := SA c) ((1 - k1 c) * 256) 0 0 (off12 c) rfl (Finset.Subset.refl _)) $$ SA
  iintro %v SA
  iapply (stB_at c (n := 256) (S := SA c) ((1 - k1 c) * 256) 0 rfl (P m c) (pN m c) (fun _ => rfl) 0 (off12 c) rfl (pBlk_eq m c _ 0)) $$ SA
  iintro SA
  iapply (wait_bar m K c) $$ [cb ab O]
  · isplitr; · iexact HE
    isplitl [cb]; · iexact cb
    isplitl [ab]; · iexact ab
    iexact O
  iintro ⟨O, zb, PA, PB⟩
  ihave PA := (Entails.of_eq (show pay m c .bar false = iprop((∃ f, own (pa c) cc0_scratch7 f) ∗ (∃ f, own (pa c) cc0_scratch10 f)) from rfl)) $$ PA
  ihave PB := (Entails.of_eq (show pay m c .bar true = iprop((∃ f, own (pb c) cc0_scratch8 f) ∗ (∃ f, own (pb c) cc0_scratch9 f)) from rfl)) $$ PB
  icases PA with ⟨p0, p3⟩
  icases PB with ⟨p1, p2⟩
  unfold wpc; rw [wp_ret]; imodintro
  iapply Hk
  isplitl [oS]; · iexact oS
  isplitl [O]; · iexact O
  isplitl [x4]; · iexact x4
  isplitl [sr4]; · iexact sr4
  isplitl [z4]; · iexact z4
  isplitl [SA]; · iexact SA
  isplitl [zb]; · iexact zb
  isplitl [p0]; · iexact p0
  isplitl [p1]; · iexact p1
  isplitl [p2]; · iexact p2
  iexact p3

end Cert.Proof

end
-- ==== Proof.PartsB.lean ====
module

/-
The body's parts 9 to 14: the heads of the second batch half and the first step's exchange.
-/
public import proofs.«01_k».proof.Proof.Start

@[expose] public section

set_option maxRecDepth 16384

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ) (c : Dev nD)

/-- Part 9: slot 0, the loads of the second batch half, and head 0. -/
theorem part9 (v32 : BitVec 32) {Q : (Σ' (v319 : BitVec 32) (v324 : FVec F S256x512 .bf16) (v327 : FVec F S256x128 .bf16) (v330 : FVec F S256x128 .bf16) (v355 : FVec F S256x64 .bf16) (v356 : FVec F S256x256 .f32), FVec F S256x256 .f32) → sProp (MT nD τ sig Unit (Elt F) ℕ UU ℕ)} :
    iprop(env m K ∗ stk c 0 ∗ ow c 8 ∗ bReg c fullShare (SA c) (P m c) ∗ (∃ f, own (pa c) cc0_scratch7 f) ∗ own c cc0_scratch0 (xArg m c) ∗ own c cc0_scratch1 (wqArg m c) ∗ own c cc0_scratch2 (colsOf c (wkArg m c)) ∗ own c cc0_scratch3 (colsOf c (wvArg m c)) ∗ oSt c m 8 0)
      ⊢ iprop((∀ w : BitVec 32, (ow c 7 ∗ cred (tallyAt (cell c (.snd 0)) () (amt (.snd 0))) ∗ own c cc0_scratch0 (xArg m c) ∗ own c cc0_scratch1 (wqArg m c) ∗ own c cc0_scratch2 (colsOf c (wkArg m c)) ∗ own c cc0_scratch3 (colsOf c (wvArg m c)) ∗ oSt c m 8 1) -∗ Q ⟨w, (k0_pay24 (xHalf m (k1 c) c) (wqArg m c)), (k0_pay25 (xHalf m (k1 c) c) (colsOf c (wkArg m c))), (k0_pay26 (xHalf m (k1 c) c) (colsOf c (wvArg m c))), k0_pay28 (xHalf m (k1 c) c) (colsOf c (wvArg m c)), k0_pay29 (xHalf m (k1 c) c) (wqArg m c) (colsOf c (wkArg m c)), k0_pay30⟩)
        -∗ wpc c (k0_part9 mA0 (Memref.isWhole_whole _) mA1 (Memref.isWhole_whole _) mA2 (Memref.isWhole_whole _) mA3 (Memref.isWhole_whole _) mA4 (Memref.isWhole_whole _) mOut (Memref.isWhole_whole _) mX (Memref.isWhole_whole _) mQ (Memref.isWhole_whole _) mK (Memref.isWhole_whole _) mV (Memref.isWhole_whole _) mW (Memref.isWhole_whole _) mB (Memref.isWhole_whole _) mO (Memref.isWhole_whole _) mC0 (Memref.isWhole_whole _) mC1 (Memref.isWhole_whole _) mC2 (Memref.isWhole_whole _) mC3 (Memref.isWhole_whole _) cc0_scratch11 cc0_scratch12 cc0_scratch13 c v32) Q) := by
  simp only [k0_part9_eq_skeleton]; unfold k0_part9_skel
  simp only [semSignalWord, semWaitWord, Prog.lift, Prog.bind_op, Prog.bind_ret, Prog.pure_eq_ret, Prog.bind_assoc]
  iintro ⟨#HE, st0, O, SA, p0, x0, x1, x2, x3, oS⟩ Hk
  iapply (slot0 m K c _ (dev3 c) (off13 c)) $$ [st0 O SA p0]
  · isplitr; · iexact HE
    isplitl [st0]; · iexact st0
    isplitl [O]; · iexact O
    isplitl [SA]; · iexact SA
    iexact p0
  iintro ⟨cr0, O⟩
  iapply (ldX c (xHalf m (k1 c) c) (read_x m c (k1 c) (off14 c) (by have := k1_le c; omega))) $$ x0
  iintro x0
  iapply (ldQ c (wqArg m c) (read_all rfl _)) $$ x1
  iintro x1
  iapply (ldK c (colsOf c (wkArg m c)) (read_all rfl _)) $$ x2
  iintro x2
  iapply (ldV c (colsOf c (wvArg m c)) (read_all rfl _)) $$ x3
  iintro x3
  iapply (ldO_any c m 8 0) $$ oS
  iintro %v oS
  iapply (stO_head c m (k1 c) 0 8 0 8 1 (off15 c) (hd2_0 (xHalf m (k1 c) c) (wqArg m c) (colsOf c (wkArg m c)) (colsOf c (wvArg m c))) (.inr ⟨rfl, rfl, rfl, rfl⟩)) $$ oS
  iintro oS
  unfold wpc; rw [wp_ret]; imodintro
  iapply Hk
  isplitl [O]; · iexact O
  isplitl [cr0]; · iexact cr0
  isplitl [x0]; · iexact x0
  isplitl [x1]; · iexact x1
  isplitl [x2]; · iexact x2
  isplitl [x3]; · iexact x3
  iexact oS

/-- Part 10: heads 1 and 2. -/
theorem part10 (w : BitVec 32) {Q : (Σ' (v399 : FVec F S256x64 .bf16), FVec F S256x256 .f32) → sProp (MT nD τ sig Unit (Elt F) ℕ UU ℕ)} :
    iprop(env m K ∗ oSt c m 8 1)
      ⊢ iprop(((oSt c m 8 3) -∗ Q ⟨k0_pay33 (k0_pay26 (xHalf m (k1 c) c) (colsOf c (wvArg m c))), k0_pay34 (k0_pay24 (xHalf m (k1 c) c) (wqArg m c)) (k0_pay25 (xHalf m (k1 c) c) (colsOf c (wkArg m c)))⟩)
        -∗ wpc c (k0_part10 mA0 (Memref.isWhole_whole _) mA1 (Memref.isWhole_whole _) mA2 (Memref.isWhole_whole _) mA3 (Memref.isWhole_whole _) mA4 (Memref.isWhole_whole _) mOut (Memref.isWhole_whole _) mX (Memref.isWhole_whole _) mQ (Memref.isWhole_whole _) mK (Memref.isWhole_whole _) mV (Memref.isWhole_whole _) mW (Memref.isWhole_whole _) mB (Memref.isWhole_whole _) mO (Memref.isWhole_whole _) mC0 (Memref.isWhole_whole _) mC1 (Memref.isWhole_whole _) mC2 (Memref.isWhole_whole _) mC3 (Memref.isWhole_whole _) cc0_scratch11 cc0_scratch12 cc0_scratch13 c w (k0_pay24 (xHalf m (k1 c) c) (wqArg m c)) (k0_pay25 (xHalf m (k1 c) c) (colsOf c (wkArg m c))) (k0_pay26 (xHalf m (k1 c) c) (colsOf c (wvArg m c))) (k0_pay28 (xHalf m (k1 c) c) (colsOf c (wvArg m c))) (k0_pay29 (xHalf m (k1 c) c) (wqArg m c) (colsOf c (wkArg m c))) k0_pay30) Q) := by
  simp only [k0_part10_eq_skeleton]; unfold k0_part10_skel
  simp only [semSignalWord, semWaitWord, Prog.lift, Prog.bind_op, Prog.bind_ret, Prog.pure_eq_ret, Prog.bind_assoc]
  iintro ⟨#HE, oS⟩ Hk
  iapply (ldO_any c m 8 1) $$ oS
  iintro %v oS
  iapply (stO_head c m (k1 c) 1 8 1 8 2 (off16 c) (hd2_1 (xHalf m (k1 c) c) (wqArg m c) (colsOf c (wkArg m c)) (colsOf c (wvArg m c))) (.inr ⟨rfl, rfl, rfl, rfl⟩)) $$ oS
  iintro oS
  iapply (ldO_any c m 8 2) $$ oS
  iintro %v oS
  iapply (stO_head c m (k1 c) 2 8 2 8 3 (off17 c) (hd2_2 (xHalf m (k1 c) c) (wqArg m c) (colsOf c (wkArg m c)) (colsOf c (wvArg m c))) (.inr ⟨rfl, rfl, rfl, rfl⟩)) $$ oS
  iintro oS
  unfold wpc; rw [wp_ret]; imodintro
  iapply Hk
  iexact oS

/-- Part 11: heads 3 and 4. -/
theorem part11 (w : BitVec 32) {Q : (Σ' (v443 : FVec F S256x64 .bf16) (v446 : FVec F S256x256 .f32), FVec F S256x1 .f32) → sProp (MT nD τ sig Unit (Elt F) ℕ UU ℕ)} :
    iprop(env m K ∗ oSt c m 8 3)
      ⊢ iprop(((oSt c m 8 5) -∗ Q ⟨k0_pay37 (k0_pay26 (xHalf m (k1 c) c) (colsOf c (wvArg m c))), k0_pay38 (k0_pay24 (xHalf m (k1 c) c) (wqArg m c)) (k0_pay25 (xHalf m (k1 c) c) (colsOf c (wkArg m c))), k0_pay39 (k0_pay24 (xHalf m (k1 c) c) (wqArg m c)) (k0_pay25 (xHalf m (k1 c) c) (colsOf c (wkArg m c)))⟩)
        -∗ wpc c (k0_part11 mA0 (Memref.isWhole_whole _) mA1 (Memref.isWhole_whole _) mA2 (Memref.isWhole_whole _) mA3 (Memref.isWhole_whole _) mA4 (Memref.isWhole_whole _) mOut (Memref.isWhole_whole _) mX (Memref.isWhole_whole _) mQ (Memref.isWhole_whole _) mK (Memref.isWhole_whole _) mV (Memref.isWhole_whole _) mW (Memref.isWhole_whole _) mB (Memref.isWhole_whole _) mO (Memref.isWhole_whole _) mC0 (Memref.isWhole_whole _) mC1 (Memref.isWhole_whole _) mC2 (Memref.isWhole_whole _) mC3 (Memref.isWhole_whole _) cc0_scratch11 cc0_scratch12 cc0_scratch13 c w (k0_pay24 (xHalf m (k1 c) c) (wqArg m c)) (k0_pay25 (xHalf m (k1 c) c) (colsOf c (wkArg m c))) (k0_pay26 (xHalf m (k1 c) c) (colsOf c (wvArg m c))) (k0_pay33 (k0_pay26 (xHalf m (k1 c) c) (colsOf c (wvArg m c)))) (k0_pay34 (k0_pay24 (xHalf m (k1 c) c) (wqArg m c)) (k0_pay25 (xHalf m (k1 c) c) (colsOf c (wkArg m c))))) Q) := by
  simp only [k0_part11_eq_skeleton]; unfold k0_part11_skel
  simp only [semSignalWord, semWaitWord, Prog.lift, Prog.bind_op, Prog.bind_ret, Prog.pure_eq_ret, Prog.bind_assoc]
  iintro ⟨#HE, oS⟩ Hk
  iapply (ldO_any c m 8 3) $$ oS
  iintro %v oS
  iapply (stO_head c m (k1 c) 3 8 3 8 4 (off18 c) (hd2_3 (xHalf m (k1 c) c) (wqArg m c) (colsOf c (wkArg m c)) (colsOf c (wvArg m c))) (.inr ⟨rfl, rfl, rfl, rfl⟩)) $$ oS
  iintro oS
  iapply (ldO_any c m 8 4) $$ oS
  iintro %v oS
  iapply (stO_head c m (k1 c) 4 8 4 8 5 (off19 c) (hd2_4 (xHalf m (k1 c) c) (wqArg m c) (colsOf c (wkArg m c)) (colsOf c (wvArg m c))) (.inr ⟨rfl, rfl, rfl, rfl⟩)) $$ oS
  iintro oS
  unfold wpc; rw [wp_ret]; imodintro
  iapply Hk
  iexact oS

/-- Part 12: heads 5 and 6. -/
theorem part12 (w : BitVec 32) {Q : (Σ' (v487 : FVec F S256x64 .bf16), FVec F S256x256 .f32) → sProp (MT nD τ sig Unit (Elt F) ℕ UU ℕ)} :
    iprop(env m K ∗ oSt c m 8 5)
      ⊢ iprop(((oSt c m 8 7) -∗ Q ⟨k0_pay42 (k0_pay26 (xHalf m (k1 c) c) (colsOf c (wvArg m c))), k0_pay43 (k0_pay24 (xHalf m (k1 c) c) (wqArg m c)) (k0_pay25 (xHalf m (k1 c) c) (colsOf c (wkArg m c)))⟩)
        -∗ wpc c (k0_part12 mA0 (Memref.isWhole_whole _) mA1 (Memref.isWhole_whole _) mA2 (Memref.isWhole_whole _) mA3 (Memref.isWhole_whole _) mA4 (Memref.isWhole_whole _) mOut (Memref.isWhole_whole _) mX (Memref.isWhole_whole _) mQ (Memref.isWhole_whole _) mK (Memref.isWhole_whole _) mV (Memref.isWhole_whole _) mW (Memref.isWhole_whole _) mB (Memref.isWhole_whole _) mO (Memref.isWhole_whole _) mC0 (Memref.isWhole_whole _) mC1 (Memref.isWhole_whole _) mC2 (Memref.isWhole_whole _) mC3 (Memref.isWhole_whole _) cc0_scratch11 cc0_scratch12 cc0_scratch13 c w (k0_pay24 (xHalf m (k1 c) c) (wqArg m c)) (k0_pay25 (xHalf m (k1 c) c) (colsOf c (wkArg m c))) (k0_pay26 (xHalf m (k1 c) c) (colsOf c (wvArg m c))) (k0_pay37 (k0_pay26 (xHalf m (k1 c) c) (colsOf c (wvArg m c)))) (k0_pay38 (k0_pay24 (xHalf m (k1 c) c) (wqArg m c)) (k0_pay25 (xHalf m (k1 c) c) (colsOf c (wkArg m c)))) (k0_pay39 (k0_pay24 (xHalf m (k1 c) c) (wqArg m c)) (k0_pay25 (xHalf m (k1 c) c) (colsOf c (wkArg m c))))) Q) := by
  simp only [k0_part12_eq_skeleton]; unfold k0_part12_skel
  simp only [semSignalWord, semWaitWord, Prog.lift, Prog.bind_op, Prog.bind_ret, Prog.pure_eq_ret, Prog.bind_assoc]
  iintro ⟨#HE, oS⟩ Hk
  iapply (ldO_any c m 8 5) $$ oS
  iintro %v oS
  iapply (stO_head c m (k1 c) 5 8 5 8 6 (off20 c) (hd2_5 (xHalf m (k1 c) c) (wqArg m c) (colsOf c (wkArg m c)) (colsOf c (wvArg m c))) (.inr ⟨rfl, rfl, rfl, rfl⟩)) $$ oS
  iintro oS
  iapply (ldO_any c m 8 6) $$ oS
  iintro %v oS
  iapply (stO_head c m (k1 c) 6 8 6 8 7 (off21 c) (hd2_6 (xHalf m (k1 c) c) (wqArg m c) (colsOf c (wkArg m c)) (colsOf c (wvArg m c))) (.inr ⟨rfl, rfl, rfl, rfl⟩)) $$ oS
  iintro oS
  unfold wpc; rw [wp_ret]; imodintro
  iapply Hk
  iexact oS

/-- Part 13: head 7, the right block to be sent, slot 1, and the operands of the left block kept. -/
theorem part13 (v4 v32 v66 w : BitVec 32) {Q : (Σ' (v527 : BitVec 32) (v529 : Vec F S256x512 .bf16), Vec F S512x384 .bf16) → sProp (MT nD τ sig Unit (Elt F) ℕ UU ℕ)} :
    iprop(env m K ∗ oSt c m 8 7 ∗ own c cc0_scratch4 (woArg m c) ∗ (∃ f, bReg c fullShare (SB c) f) ∗ stk c 1 ∗ ow c 7 ∗ (∃ f, own (pb c) cc0_scratch8 f))
      ⊢ iprop((∀ w2 : BitVec 32, (oSt c m 8 8 ∗ own c cc0_scratch4 (woArg m c) ∗ ow c 6 ∗ cred (tallyAt (cell c (.snd 1)) () (amt (.snd 1)))) -∗ Q ⟨w2, oHalf m (k1 c) c, woHalf m 0 c⟩)
        -∗ wpc c (k0_part13 mA0 (Memref.isWhole_whole _) mA1 (Memref.isWhole_whole _) mA2 (Memref.isWhole_whole _) mA3 (Memref.isWhole_whole _) mA4 (Memref.isWhole_whole _) mOut (Memref.isWhole_whole _) mX (Memref.isWhole_whole _) mQ (Memref.isWhole_whole _) mK (Memref.isWhole_whole _) mV (Memref.isWhole_whole _) mW (Memref.isWhole_whole _) mB (Memref.isWhole_whole _) mO (Memref.isWhole_whole _) mC0 (Memref.isWhole_whole _) mC1 (Memref.isWhole_whole _) mC2 (Memref.isWhole_whole _) mC3 (Memref.isWhole_whole _) cc0_scratch11 cc0_scratch12 cc0_scratch13 c v4 v32 v66 w (k0_pay42 (k0_pay26 (xHalf m (k1 c) c) (colsOf c (wvArg m c)))) (k0_pay43 (k0_pay24 (xHalf m (k1 c) c) (wqArg m c)) (k0_pay25 (xHalf m (k1 c) c) (colsOf c (wkArg m c))))) Q) := by
  simp only [k0_part13_eq_skeleton]; unfold k0_part13_skel
  simp only [semSignalWord, semWaitWord, Prog.lift, Prog.bind_op, Prog.bind_ret, Prog.pure_eq_ret, Prog.bind_assoc]
  iintro ⟨#HE, oS, x4, SB, st1, O, p1⟩ Hk
  iapply (ldO_any c m 8 7) $$ oS
  iintro %v oS
  iapply (stO_head c m (k1 c) 7 8 7 8 8 (off22 c) (hd2_7 (xHalf m (k1 c) c) (wqArg m c) (colsOf c (wkArg m c)) (colsOf c (wvArg m c))) (.inr ⟨rfl, rfl, rfl, rfl⟩)) $$ oS
  iintro oS
  iapply (ldO_half c m (1 - k2 c) 8 8 (off23 c) (by have := k1_le c; have := k2_le c; omega)) $$ oS
  iintro oS
  iapply (ldW c (woHalf m 1 c) (read_wo m c 1 rfl)) $$ x4
  iintro x4
  icases SB with ⟨%fSB, SB⟩
  iapply (ldB_any c (n := 256) (S := SB c) ((1 - k2 c) * 256) 384 1 (off24 c) rfl (Finset.Subset.refl _)) $$ SB
  iintro %v SB
  iapply (stB_at c (n := 256) (S := SB c) ((1 - k2 c) * 256) 1 rfl (P m c) (pN m c) (fun _ => rfl) 384 (off24 c) rfl (pBlk_eq m c _ 1)) $$ SB
  iintro SB
  iapply (slot1 m K c _ (dev4 c) (off25 c)) $$ [st1 O SB p1]
  · isplitr; · iexact HE
    isplitl [st1]; · iexact st1
    isplitl [O]; · iexact O
    isplitl [SB]; · iexact SB
    iexact p1
  iintro ⟨cr1, O⟩
  iapply (ldO_half c m (k1 c) 8 8 (off26 c) (.inr ⟨rfl, rfl⟩)) $$ oS
  iintro oS
  iapply (ldW c (woHalf m 0 c) (read_wo m c 0 rfl)) $$ x4
  iintro x4
  unfold wpc; rw [wp_ret]; imodintro
  iapply Hk
  isplitl [oS]; · iexact oS
  isplitl [x4]; · iexact x4
  isplitl [O]; · iexact O
  iexact cr1

/-- Part 14: the blocks kept, slot 0 waited for and its block added. -/
theorem part14 (v3 v32 v66 v527 : BitVec 32) {Q : PUnit → sProp (MT nD τ sig Unit (Elt F) ℕ UU ℕ)} :
    iprop(env m K ∗ (∃ f, bReg c fullShare (KA c) f) ∗ oSt c m 8 8 ∗ own c cc0_scratch4 (woArg m c) ∗ (∃ f, bReg c fullShare (KB c) f) ∗ cred (tallyAt (cell c (.snd 0)) () (amt (.snd 0))) ∗ atPos ER (cell c (.snd 0)) 0 ∅ 0 ∗ ow c 6 ∗ wtk c (.rcv 0))
      ⊢ iprop(((bReg c fullShare (KA c) (T1 m c) ∗ oSt c m 8 8 ∗ own c cc0_scratch4 (woArg m c) ∗ bReg c fullShare (KB c) (P m c) ∗ ow c 6 ∗ zer c (.snd 0) ∗ zer c (.rcv 0) ∗ own c cc0_scratch7 (c0At m c) ∗ bReg (pa c) fullShare (KA c) (P m (pa c))) -∗ Q ⟨⟩)
        -∗ wpc c (k0_part14 mA0 (Memref.isWhole_whole _) mA1 (Memref.isWhole_whole _) mA2 (Memref.isWhole_whole _) mA3 (Memref.isWhole_whole _) mA4 (Memref.isWhole_whole _) mOut (Memref.isWhole_whole _) mX (Memref.isWhole_whole _) mQ (Memref.isWhole_whole _) mK (Memref.isWhole_whole _) mV (Memref.isWhole_whole _) mW (Memref.isWhole_whole _) mB (Memref.isWhole_whole _) mO (Memref.isWhole_whole _) mC0 (Memref.isWhole_whole _) mC1 (Memref.isWhole_whole _) mC2 (Memref.isWhole_whole _) mC3 (Memref.isWhole_whole _) cc0_scratch11 cc0_scratch12 cc0_scratch13 c v3 v32 v66 v527 (oHalf m (k1 c) c) (woHalf m 0 c)) Q) := by
  simp only [k0_part14_eq_skeleton]; unfold k0_part14_skel
  simp only [semSignalWord, semWaitWord, Prog.lift, Prog.bind_op, Prog.bind_ret, Prog.pure_eq_ret, Prog.bind_assoc]
  iintro ⟨#HE, KA, oS, x4, KB, cr0, as0, O, wr0⟩ Hk
  icases KA with ⟨%fKA, KA⟩
  iapply (ldB_any c (n := 256) (S := KA c) (k1 c * 256) 0 0 (off27 c) rfl (Finset.Subset.refl _)) $$ KA
  iintro %v KA
  iapply (stB_at c (n := 256) (S := KA c) (k1 c * 256) 0 rfl (P m c) (pN m c) (fun _ => rfl) 0 (off27 c) rfl (pBlk_eq m c _ 0)) $$ KA
  iintro KA
  iapply (ldO_half c m (k2 c) 8 8 (off28 c) (by have := k1_le c; have := k2_le c; omega)) $$ oS
  iintro oS
  iapply (ldW c (woHalf m 1 c) (read_wo m c 1 rfl)) $$ x4
  iintro x4
  icases KB with ⟨%fKB, KB⟩
  iapply (ldB_any c (n := 256) (S := KB c) (k2 c * 256) 384 1 (off29 c) rfl (Finset.Subset.refl _)) $$ KB
  iintro %v KB
  iapply (stB_at c (n := 256) (S := KB c) (k2 c * 256) 1 rfl (P m c) (pN m c) (fun _ => rfl) 384 (off29 c) rfl (pBlk_eq m c _ 1)) $$ KB
  iintro KB
  iapply (wait_dma m K c (.snd 0) rfl rfl (dst := mBs (n := 256) (k0_off13 c) (k0_off13_inb c)) rfl 6 (by decide) (by decide)) $$ [cr0 as0 O]
  · isplitr; · iexact HE
    isplitl [cr0 as0]; · unfold wtk; isplitl [cr0] <;> iassumption
    iexact O
  iintro ⟨O, zs0, -⟩
  iapply (wait_dma m K c (.rcv 0) rfl rfl (dst := mC0) rfl 6 (by decide) (by decide)) $$ [wr0 O]
  · isplitr; · iexact HE
    isplitl [wr0]; · iexact wr0
    iexact O
  iintro ⟨O, zr0, P⟩
  ihave P := (Entails.of_eq (show pay m c (.rcv 0) false = iprop(own c cc0_scratch7 (c0At m c) ∗ bReg (pa c) fullShare (KA c) (P m (pa c))) from rfl)) $$ P
  icases P with ⟨b7, g0⟩
  iapply (ldB_at c (n := 256) (q := fullShare) (S := KA c) (P m c) (pN m c) (fun _ => rfl) (k1 c * 256) 0 0 (off27 c) rfl (Finset.Subset.refl _)) $$ KA
  iintro KA
  iapply (ldC0 c (c0At m c) (read_all rfl _)) $$ b7
  iintro b7
  iapply (ldB_any c (n := 256) (S := KA c) (k1 c * 256) 0 0 (off27 c) rfl (Finset.Subset.refl _)) $$ KA
  iintro %v KA
  iapply (stB_at c (n := 256) (S := KA c) (k1 c * 256) 0 rfl (T1 m c) (t1N m c) (fun _ => rfl) 0 (off27 c) rfl (sum0 m c)) $$ KA
  iintro KA
  unfold wpc; rw [wp_ret]; imodintro
  iapply Hk
  isplitl [KA]; · iexact KA
  isplitl [oS]; · iexact oS
  isplitl [x4]; · iexact x4
  isplitl [KB]; · iexact KB
  isplitl [O]; · iexact O
  isplitl [zs0]; · iexact zs0
  isplitl [zr0]; · iexact zr0
  isplitl [b7]; · iexact b7
  iexact g0

end Cert.Proof

end
-- ==== Proof.PartsC.lean ====
module

/-
The body's parts 15 to 20: the exchange's later steps and the output.
-/
public import proofs.«01_k».proof.Proof.Start

@[expose] public section

set_option maxRecDepth 16384

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ) (c : Dev nD)

/-- Part 15: slot 2; slot 1 waited for and its block added. -/
theorem part15 (v4 v32 v49 v66 v76 : BitVec 32) {Q : (Σ' (v594 : BitVec 32), BitVec 32) → sProp (MT nD τ sig Unit (Elt F) ℕ UU ℕ)} :
    iprop(env m K ∗ bReg c fullShare (KA c) (T1 m c) ∗ stk c 2 ∗ ow c 6 ∗ (∃ f, own (pb c) cc0_scratch9 f) ∗ cred (tallyAt (cell c (.snd 1)) () (amt (.snd 1))) ∗ atPos ER (cell c (.snd 1)) 0 ∅ 0 ∗ wtk c (.rcv 1) ∗ bReg c fullShare (KB c) (P m c))
      ⊢ iprop((∀ w1 : BitVec 32, ∀ w2 : BitVec 32, (bReg c fullShare (QA c) (T1 m c) ∗ ow c 5 ∗ cred (tallyAt (cell c (.snd 2)) () (amt (.snd 2))) ∗ zer c (.snd 1) ∗ zer c (.rcv 1) ∗ own c cc0_scratch8 (c1At m c) ∗ bReg (pb c) fullShare (KB c) (P m (pb c)) ∗ bReg c fullShare (KB c) (T1 m c)) -∗ Q ⟨w1, w2⟩)
        -∗ wpc c (k0_part15 mA0 (Memref.isWhole_whole _) mA1 (Memref.isWhole_whole _) mA2 (Memref.isWhole_whole _) mA3 (Memref.isWhole_whole _) mA4 (Memref.isWhole_whole _) mOut (Memref.isWhole_whole _) mX (Memref.isWhole_whole _) mQ (Memref.isWhole_whole _) mK (Memref.isWhole_whole _) mV (Memref.isWhole_whole _) mW (Memref.isWhole_whole _) mB (Memref.isWhole_whole _) mO (Memref.isWhole_whole _) mC0 (Memref.isWhole_whole _) mC1 (Memref.isWhole_whole _) mC2 (Memref.isWhole_whole _) mC3 (Memref.isWhole_whole _) cc0_scratch11 cc0_scratch12 cc0_scratch13 c v4 v32 v49 v66 v76) Q) := by
  simp only [k0_part15_eq_skeleton]; unfold k0_part15_skel
  simp only [semSignalWord, semWaitWord, Prog.lift, Prog.bind_op, Prog.bind_ret, Prog.pure_eq_ret, Prog.bind_assoc]
  iintro ⟨#HE, KA, st2, O, p2, cr1, as1, wr1, KB⟩ Hk
  ihave P := (bKA_split c (T1 m c)).1 $$ KA
  icases P with ⟨QA, RA⟩
  iapply (slot2 m K c _ (dev5 c) (off30 c)) $$ [st2 O RA p2]
  · isplitr; · iexact HE
    isplitl [st2]; · iexact st2
    isplitl [O]; · iexact O
    isplitl [RA]; · iexact RA
    iexact p2
  iintro ⟨cr2, O⟩
  iapply (wait_dma m K c (.snd 1) rfl rfl (dst := mBs (n := 256) (k0_off25 c) (k0_off25_inb c)) rfl 5 (by decide) (by decide)) $$ [cr1 as1 O]
  · isplitr; · iexact HE
    isplitl [cr1 as1]; · unfold wtk; isplitl [cr1] <;> iassumption
    iexact O
  iintro ⟨O, zs1, -⟩
  iapply (wait_dma m K c (.rcv 1) rfl rfl (dst := mC1) rfl 5 (by decide) (by decide)) $$ [wr1 O]
  · isplitr; · iexact HE
    isplitl [wr1]; · iexact wr1
    iexact O
  iintro ⟨O, zr1, P⟩
  ihave P := (Entails.of_eq (show pay m c (.rcv 1) false = iprop(own c cc0_scratch8 (c1At m c) ∗ bReg (pb c) fullShare (KB c) (P m (pb c))) from rfl)) $$ P
  icases P with ⟨b8, g1⟩
  iapply (ldB_at c (n := 256) (q := fullShare) (S := KB c) (P m c) (pN m c) (fun _ => rfl) (k2 c * 256) 384 1 (off29 c) rfl (Finset.Subset.refl _)) $$ KB
  iintro KB
  iapply (ldC1 c (c1At m c) (read_all rfl _)) $$ b8
  iintro b8
  iapply (ldB_any c (n := 256) (S := KB c) (k2 c * 256) 384 1 (off29 c) rfl (Finset.Subset.refl _)) $$ KB
  iintro %v KB
  iapply (stB_at c (n := 256) (S := KB c) (k2 c * 256) 1 rfl (T1 m c) (t1N m c) (fun _ => rfl) 384 (off29 c) rfl (sum1 m c)) $$ KB
  iintro KB
  unfold wpc; rw [wp_ret]; imodintro
  iapply Hk
  isplitl [QA]; · iexact QA
  isplitl [O]; · iexact O
  isplitl [cr2]; · iexact cr2
  isplitl [zs1]; · iexact zs1
  isplitl [zr1]; · iexact zr1
  isplitl [b8]; · iexact b8
  isplitl [g1]; · iexact g1
  iexact KB

/-- Part 16: slot 3; slot 2 waited for and its block added. -/
theorem part16 (v3 v4 v32 v49 v594 c128 : BitVec 32) {Q : (BitVec 32) → sProp (MT nD τ sig Unit (Elt F) ℕ UU ℕ)} :
    iprop(env m K ∗ bReg c fullShare (KB c) (T1 m c) ∗ stk c 3 ∗ ow c 5 ∗ (∃ f, own (pa c) cc0_scratch10 f) ∗ cred (tallyAt (cell c (.snd 2)) () (amt (.snd 2))) ∗ atPos ER (cell c (.snd 2)) 0 ∅ 0 ∗ wtk c (.rcv 2) ∗ bReg c fullShare (QA c) (T1 m c))
      ⊢ iprop((∀ w : BitVec 32, (bReg c fullShare (QB c) (T1 m c) ∗ ow c 4 ∗ cred (tallyAt (cell c (.snd 3)) () (amt (.snd 3))) ∗ zer c (.snd 2) ∗ zer c (.rcv 2) ∗ own c cc0_scratch9 (c2At m c) ∗ bReg (pb c) fullShare (QA c) (T1 m (pb c)) ∗ bReg c fullShare (QA c) (fin m)) -∗ Q w)
        -∗ wpc c (k0_part16 mA0 (Memref.isWhole_whole _) mA1 (Memref.isWhole_whole _) mA2 (Memref.isWhole_whole _) mA3 (Memref.isWhole_whole _) mA4 (Memref.isWhole_whole _) mOut (Memref.isWhole_whole _) mX (Memref.isWhole_whole _) mQ (Memref.isWhole_whole _) mK (Memref.isWhole_whole _) mV (Memref.isWhole_whole _) mW (Memref.isWhole_whole _) mB (Memref.isWhole_whole _) mO (Memref.isWhole_whole _) mC0 (Memref.isWhole_whole _) mC1 (Memref.isWhole_whole _) mC2 (Memref.isWhole_whole _) mC3 (Memref.isWhole_whole _) cc0_scratch11 cc0_scratch12 cc0_scratch13 c v3 v4 v32 v49 v594 c128) Q) := by
  simp only [k0_part16_eq_skeleton]; unfold k0_part16_skel
  simp only [semSignalWord, semWaitWord, Prog.lift, Prog.bind_op, Prog.bind_ret, Prog.pure_eq_ret, Prog.bind_assoc]
  iintro ⟨#HE, KB, st3, O, p3, cr2, as2, wr2, QA⟩ Hk
  ihave P := (bKB_split c (T1 m c)).1 $$ KB
  icases P with ⟨QB, RB⟩
  iapply (slot3 m K c _ (dev6 c) (off31 c)) $$ [st3 O RB p3]
  · isplitr; · iexact HE
    isplitl [st3]; · iexact st3
    isplitl [O]; · iexact O
    isplitl [RB]; · iexact RB
    iexact p3
  iintro ⟨cr3, O⟩
  iapply (wait_dma m K c (.snd 2) rfl rfl (dst := mBs (n := 128) (k0_off30 c) (k0_off30_inb c)) rfl 4 (by decide) (by decide)) $$ [cr2 as2 O]
  · isplitr; · iexact HE
    isplitl [cr2 as2]; · unfold wtk; isplitl [cr2] <;> iassumption
    iexact O
  iintro ⟨O, zs2, -⟩
  iapply (wait_dma m K c (.rcv 2) rfl rfl (dst := mC2) rfl 4 (by decide) (by decide)) $$ [wr2 O]
  · isplitr; · iexact HE
    isplitl [wr2]; · iexact wr2
    iexact O
  iintro ⟨O, zr2, P⟩
  ihave P := (Entails.of_eq (show pay m c (.rcv 2) false = iprop(own c cc0_scratch9 (c2At m c) ∗ bReg (pb c) fullShare (QA c) (T1 m (pb c))) from rfl)) $$ P
  icases P with ⟨b9, g2⟩
  iapply (ldB_at c (n := 128) (q := fullShare) (S := QA c) (T1 m c) (t1N m c) (fun _ => rfl) ((2 * k1 c + k2 c) * 128) 0 0 (off32 c) rfl (Finset.Subset.refl _)) $$ QA
  iintro QA
  iapply (ldC2 c (c2At m c) (read_all rfl _)) $$ b9
  iintro b9
  iapply (ldB_any c (n := 128) (S := QA c) ((2 * k1 c + k2 c) * 128) 0 0 (off32 c) rfl (Finset.Subset.refl _)) $$ QA
  iintro %v QA
  iapply (stB_at c (n := 128) (S := QA c) ((2 * k1 c + k2 c) * 128) 0 rfl (fin m) (finN m) (fun _ => rfl) 0 (off32 c) rfl (sum2 m c)) $$ QA
  iintro QA
  unfold wpc; rw [wp_ret]; imodintro
  iapply Hk
  isplitl [QB]; · iexact QB
  isplitl [O]; · iexact O
  isplitl [cr3]; · iexact cr3
  isplitl [zs2]; · iexact zs2
  isplitl [zr2]; · iexact zr2
  isplitl [b9]; · iexact b9
  isplitl [g2]; · iexact g2
  iexact QA

/-- Part 17: slot 4; slot 3 waited for and its block added. -/
theorem part17 (v3 v66 v76 v625 : BitVec 32) {Q : PUnit → sProp (MT nD τ sig Unit (Elt F) ℕ UU ℕ)} :
    iprop(env m K ∗ stk c 4 ∗ ow c 4 ∗ bReg c fullShare (QA c) (fin m) ∗ bReg (pb c) fullShare (QA c) (T1 m (pb c)) ∗ cred (tallyAt (cell c (.snd 3)) () (amt (.snd 3))) ∗ atPos ER (cell c (.snd 3)) 0 ∅ 0 ∗ wtk c (.rcv 3) ∗ bReg c fullShare (QB c) (T1 m c))
      ⊢ iprop(((ow c 3 ∗ bReg c fullShare.right (QA c) (fin m) ∗ cred (tallyAt (cell c (.snd 4)) () (amt (.snd 4))) ∗ zer c (.snd 3) ∗ zer c (.rcv 3) ∗ own c cc0_scratch10 (c3At m c) ∗ bReg (pa c) fullShare (QB c) (T1 m (pa c)) ∗ bReg c fullShare (QB c) (fin m)) -∗ Q ⟨⟩)
        -∗ wpc c (k0_part17 mA0 (Memref.isWhole_whole _) mA1 (Memref.isWhole_whole _) mA2 (Memref.isWhole_whole _) mA3 (Memref.isWhole_whole _) mA4 (Memref.isWhole_whole _) mOut (Memref.isWhole_whole _) mX (Memref.isWhole_whole _) mQ (Memref.isWhole_whole _) mK (Memref.isWhole_whole _) mV (Memref.isWhole_whole _) mW (Memref.isWhole_whole _) mB (Memref.isWhole_whole _) mO (Memref.isWhole_whole _) mC0 (Memref.isWhole_whole _) mC1 (Memref.isWhole_whole _) mC2 (Memref.isWhole_whole _) mC3 (Memref.isWhole_whole _) cc0_scratch11 cc0_scratch12 cc0_scratch13 c v3 v66 v76 v625) Q) := by
  simp only [k0_part17_eq_skeleton]; unfold k0_part17_skel
  simp only [semSignalWord, semWaitWord, Prog.lift, Prog.bind_op, Prog.bind_ret, Prog.pure_eq_ret, Prog.bind_assoc]
  iintro ⟨#HE, st4, O, QA, g2, cr3, as3, wr3, QB⟩ Hk
  iapply (slot4 m K c _ (dev7 c) (off33 c)) $$ [st4 O QA g2]
  · isplitr; · iexact HE
    isplitl [st4]; · iexact st4
    isplitl [O]; · iexact O
    isplitl [QA]; · iexact QA
    iexists _; iexact g2
  iintro ⟨cr4, O, QA⟩
  iapply (wait_dma m K c (.snd 3) rfl rfl (dst := mBs (n := 128) (k0_off31 c) (k0_off31_inb c)) rfl 3 (by decide) (by decide)) $$ [cr3 as3 O]
  · isplitr; · iexact HE
    isplitl [cr3 as3]; · unfold wtk; isplitl [cr3] <;> iassumption
    iexact O
  iintro ⟨O, zs3, -⟩
  iapply (wait_dma m K c (.rcv 3) rfl rfl (dst := mC3) rfl 3 (by decide) (by decide)) $$ [wr3 O]
  · isplitr; · iexact HE
    isplitl [wr3]; · iexact wr3
    iexact O
  iintro ⟨O, zr3, P⟩
  ihave P := (Entails.of_eq (show pay m c (.rcv 3) false = iprop(own c cc0_scratch10 (c3At m c) ∗ bReg (pa c) fullShare (QB c) (T1 m (pa c))) from rfl)) $$ P
  icases P with ⟨b10, g3⟩
  iapply (ldB_at c (n := 128) (q := fullShare) (S := QB c) (T1 m c) (t1N m c) (fun _ => rfl) ((2 * k2 c + k3 c) * 128) 384 1 (off34 c) rfl (Finset.Subset.refl _)) $$ QB
  iintro QB
  iapply (ldC3 c (c3At m c) (read_all rfl _)) $$ b10
  iintro b10
  iapply (ldB_any c (n := 128) (S := QB c) ((2 * k2 c + k3 c) * 128) 384 1 (off34 c) rfl (Finset.Subset.refl _)) $$ QB
  iintro %v QB
  iapply (stB_at c (n := 128) (S := QB c) ((2 * k2 c + k3 c) * 128) 1 rfl (fin m) (finN m) (fun _ => rfl) 384 (off34 c) rfl (sum3 m c)) $$ QB
  iintro QB
  unfold wpc; rw [wp_ret]; imodintro
  iapply Hk
  isplitl [O]; · iexact O
  isplitl [QA]; · iexact QA
  isplitl [cr4]; · iexact cr4
  isplitl [zs3]; · iexact zs3
  isplitl [zr3]; · iexact zr3
  isplitl [b10]; · iexact b10
  isplitl [g3]; · iexact g3
  iexact QB

/-- Part 18: slot 5; the two finished quarters written out; slot 4 waited for. -/
theorem part18 (v4 v32 v49 v66 v76 : BitVec 32) {Q : PUnit → sProp (MT nD τ sig Unit (Elt F) ℕ UU ℕ)} :
    iprop(env m K ∗ stk c 5 ∗ ow c 3 ∗ bReg c fullShare (QB c) (fin m) ∗ bReg (pa c) fullShare (QB c) (T1 m (pa c)) ∗ bReg c fullShare.right (QA c) (fin m) ∗ outSt c m ∅ ∗ cred (tallyAt (cell c (.snd 4)) () (amt (.snd 4))) ∗ atPos ER (cell c (.snd 4)) 0 ∅ 0 ∗ wtk c (.rcv 4))
      ⊢ iprop(((ow c 2 ∗ bReg c fullShare.right (QB c) (fin m) ∗ cred (tallyAt (cell c (.snd 5)) () (amt (.snd 5))) ∗ outSt c m ((∅ ∪ QA c) ∪ QB c) ∗ zer c (.snd 4) ∗ zer c (.rcv 4) ∗ bReg c fullShare (KA c) (fin m)) -∗ Q ⟨⟩)
        -∗ wpc c (k0_part18 mA0 (Memref.isWhole_whole _) mA1 (Memref.isWhole_whole _) mA2 (Memref.isWhole_whole _) mA3 (Memref.isWhole_whole _) mA4 (Memref.isWhole_whole _) mOut (Memref.isWhole_whole _) mX (Memref.isWhole_whole _) mQ (Memref.isWhole_whole _) mK (Memref.isWhole_whole _) mV (Memref.isWhole_whole _) mW (Memref.isWhole_whole _) mB (Memref.isWhole_whole _) mO (Memref.isWhole_whole _) mC0 (Memref.isWhole_whole _) mC1 (Memref.isWhole_whole _) mC2 (Memref.isWhole_whole _) mC3 (Memref.isWhole_whole _) cc0_scratch11 cc0_scratch12 cc0_scratch13 c v4 v32 v49 v66 v76) Q) := by
  simp only [k0_part18_eq_skeleton]; unfold k0_part18_skel
  simp only [semSignalWord, semWaitWord, Prog.lift, Prog.bind_op, Prog.bind_ret, Prog.pure_eq_ret, Prog.bind_assoc]
  iintro ⟨#HE, st5, O, QB, g3, QA, out, cr4, as4, wr4⟩ Hk
  iapply (slot5 m K c _ (dev8 c) (off35 c)) $$ [st5 O QB g3]
  · isplitr; · iexact HE
    isplitl [st5]; · iexact st5
    isplitl [O]; · iexact O
    isplitl [QB]; · iexact QB
    iexists _; iexact g3
  iintro ⟨cr5, O, QB⟩
  iapply (ldB_at c (n := 128) (q := fullShare.right) (S := QA c) (fin m) (finN m) (fun _ => rfl) ((2 * k1 c + k2 c) * 128) 0 0 (off32 c) rfl (Finset.Subset.refl _)) $$ QA
  iintro QA
  iapply (ldOut_any c m ∅) $$ out
  iintro %v out
  iapply (stOut_blk c m (n := 128) ∅ (∅ ∪ QA c) ((2 * k1 c + k2 c) * 128) 0 0 (off32 c) rfl rfl (Finset.Subset.refl _)) $$ out
  iintro out
  iapply (ldB_at c (n := 128) (q := fullShare.right) (S := QB c) (fin m) (finN m) (fun _ => rfl) ((2 * k2 c + k3 c) * 128) 384 1 (off34 c) rfl (Finset.Subset.refl _)) $$ QB
  iintro QB
  iapply (ldOut_any c m (∅ ∪ QA c)) $$ out
  iintro %v out
  iapply (stOut_blk c m (n := 128) (∅ ∪ QA c) ((∅ ∪ QA c) ∪ QB c) ((2 * k2 c + k3 c) * 128) 384 1 (off34 c) rfl rfl (Finset.Subset.refl _)) $$ out
  iintro out
  iapply (wait_dma m K c (.snd 4) rfl rfl (dst := mBs (n := 128) (k0_off33 c) (k0_off33_inb c)) rfl 2 (by decide) (by decide)) $$ [cr4 as4 O]
  · isplitr; · iexact HE
    isplitl [cr4 as4]; · unfold wtk; isplitl [cr4] <;> iassumption
    iexact O
  iintro ⟨O, zs4, P⟩
  ihave P := (Entails.of_eq (show pay m c (.snd 4) false = bReg c fullShare.left (QA c) (fin m) from rfl)) $$ P
  ihave QA := (bReg_halves c (QA c) (fin m)).2 $$ [P QA]
  · isplitl [P] <;> iassumption
  iapply (wait_dma m K c (.rcv 4) rfl rfl (dst := mBs (n := 128) (k0_off33 c) (k0_off33_inb c)) rfl 2 (by decide) (by decide)) $$ [wr4 O]
  · isplitr; · iexact HE
    isplitl [wr4]; · iexact wr4
    iexact O
  iintro ⟨O, zr4, P⟩
  ihave RA := (Entails.of_eq (show pay m c (.rcv 4) false = bReg c fullShare (RA c) (fin m) from rfl)) $$ P
  ihave KA := (bKA_split c (fin m)).2 $$ [QA RA]
  · isplitl [QA] <;> iassumption
  unfold wpc; rw [wp_ret]; imodintro
  iapply Hk
  isplitl [O]; · iexact O
  isplitl [QB]; · iexact QB
  isplitl [cr5]; · iexact cr5
  isplitl [out]; · iexact out
  isplitl [zs4]; · iexact zs4
  isplitl [zr4]; · iexact zr4
  iexact KA

/-- Part 19: slot 6; the left quarter received written out; slot 5 waited for. -/
theorem part19 (v3 v4 v32 v49 v66 : BitVec 32) {Q : PUnit → sProp (MT nD τ sig Unit (Elt F) ℕ UU ℕ)} :
    iprop(env m K ∗ stk c 6 ∗ ow c 2 ∗ bReg c fullShare (KA c) (fin m) ∗ bReg (pa c) fullShare (KA c) (P m (pa c)) ∗ outSt c m ((∅ ∪ QA c) ∪ QB c) ∗ cred (tallyAt (cell c (.snd 5)) () (amt (.snd 5))) ∗ atPos ER (cell c (.snd 5)) 0 ∅ 0 ∗ bReg c fullShare.right (QB c) (fin m) ∗ wtk c (.rcv 5))
      ⊢ iprop(((ow c 1 ∗ bReg c fullShare.right (KA c) (fin m) ∗ cred (tallyAt (cell c (.snd 6)) () (amt (.snd 6))) ∗ outSt c m (((∅ ∪ QA c) ∪ QB c) ∪ RA c) ∗ zer c (.snd 5) ∗ zer c (.rcv 5) ∗ bReg c fullShare (KB c) (fin m)) -∗ Q ⟨⟩)
        -∗ wpc c (k0_part19 mA0 (Memref.isWhole_whole _) mA1 (Memref.isWhole_whole _) mA2 (Memref.isWhole_whole _) mA3 (Memref.isWhole_whole _) mA4 (Memref.isWhole_whole _) mOut (Memref.isWhole_whole _) mX (Memref.isWhole_whole _) mQ (Memref.isWhole_whole _) mK (Memref.isWhole_whole _) mV (Memref.isWhole_whole _) mW (Memref.isWhole_whole _) mB (Memref.isWhole_whole _) mO (Memref.isWhole_whole _) mC0 (Memref.isWhole_whole _) mC1 (Memref.isWhole_whole _) mC2 (Memref.isWhole_whole _) mC3 (Memref.isWhole_whole _) cc0_scratch11 cc0_scratch12 cc0_scratch13 c v3 v4 v32 v49 v66) Q) := by
  simp only [k0_part19_eq_skeleton]; unfold k0_part19_skel
  simp only [semSignalWord, semWaitWord, Prog.lift, Prog.bind_op, Prog.bind_ret, Prog.pure_eq_ret, Prog.bind_assoc]
  iintro ⟨#HE, st6, O, KA, g0, out, cr5, as5, QB, wr5⟩ Hk
  iapply (slot6 m K c _ (dev9 c) (off36 c)) $$ [st6 O KA g0]
  · isplitr; · iexact HE
    isplitl [st6]; · iexact st6
    isplitl [O]; · iexact O
    isplitl [KA]; · iexact KA
    iexists _; iexact g0
  iintro ⟨cr6, O, KA⟩
  iapply (ldB_at c (n := 128) (q := fullShare.right) (S := KA c) (fin m) (finN m) (fun _ => rfl) ((2 * k1 c + (1 - k2 c)) * 128) 0 0 (off37 c) rfl (KA_eq c ▸ Finset.subset_union_right)) $$ KA
  iintro KA
  iapply (ldOut_any c m ((∅ ∪ QA c) ∪ QB c)) $$ out
  iintro %v out
  iapply (stOut_blk c m (n := 128) ((∅ ∪ QA c) ∪ QB c) (((∅ ∪ QA c) ∪ QB c) ∪ RA c) ((2 * k1 c + (1 - k2 c)) * 128) 0 0 (off37 c) rfl rfl (Finset.Subset.refl _)) $$ out
  iintro out
  iapply (wait_dma m K c (.snd 5) rfl rfl (dst := mBs (n := 128) (k0_off35 c) (k0_off35_inb c)) rfl 1 (by decide) (by decide)) $$ [cr5 as5 O]
  · isplitr; · iexact HE
    isplitl [cr5 as5]; · unfold wtk; isplitl [cr5] <;> iassumption
    iexact O
  iintro ⟨O, zs5, P⟩
  ihave P := (Entails.of_eq (show pay m c (.snd 5) false = bReg c fullShare.left (QB c) (fin m) from rfl)) $$ P
  ihave QB := (bReg_halves c (QB c) (fin m)).2 $$ [P QB]
  · isplitl [P] <;> iassumption
  iapply (wait_dma m K c (.rcv 5) rfl rfl (dst := mBs (n := 128) (k0_off35 c) (k0_off35_inb c)) rfl 1 (by decide) (by decide)) $$ [wr5 O]
  · isplitr; · iexact HE
    isplitl [wr5]; · iexact wr5
    iexact O
  iintro ⟨O, zr5, P⟩
  ihave RB := (Entails.of_eq (show pay m c (.rcv 5) false = bReg c fullShare (RB c) (fin m) from rfl)) $$ P
  ihave KB := (bKB_split c (fin m)).2 $$ [QB RB]
  · isplitl [QB] <;> iassumption
  unfold wpc; rw [wp_ret]; imodintro
  iapply Hk
  isplitl [O]; · iexact O
  isplitl [KA]; · iexact KA
  isplitl [cr6]; · iexact cr6
  isplitl [out]; · iexact out
  isplitl [zs5]; · iexact zs5
  isplitl [zr5]; · iexact zr5
  iexact KB

/-- Part 20: slot 7; the right quarter received written out; slot 6 waited for and written out. -/
theorem part20 (v3 v32 v66 v76 : BitVec 32) {Q : PUnit → sProp (MT nD τ sig Unit (Elt F) ℕ UU ℕ)} :
    iprop(env m K ∗ stk c 7 ∗ ow c 1 ∗ bReg c fullShare (KB c) (fin m) ∗ bReg (pb c) fullShare (KB c) (P m (pb c)) ∗ outSt c m (((∅ ∪ QA c) ∪ QB c) ∪ RA c) ∗ cred (tallyAt (cell c (.snd 6)) () (amt (.snd 6))) ∗ atPos ER (cell c (.snd 6)) 0 ∅ 0 ∗ bReg c fullShare.right (KA c) (fin m) ∗ wtk c (.rcv 6))
      ⊢ iprop(((ow c 0 ∗ bReg c fullShare.right (KB c) (fin m) ∗ cred (tallyAt (cell c (.snd 7)) () (amt (.snd 7))) ∗ outSt c m (((((∅ ∪ QA c) ∪ QB c) ∪ RA c) ∪ RB c) ∪ SA c) ∗ zer c (.snd 6) ∗ bReg c fullShare (KA c) (fin m) ∗ zer c (.rcv 6) ∗ bReg c fullShare (SA c) (fin m)) -∗ Q ⟨⟩)
        -∗ wpc c (k0_part20 mA0 (Memref.isWhole_whole _) mA1 (Memref.isWhole_whole _) mA2 (Memref.isWhole_whole _) mA3 (Memref.isWhole_whole _) mA4 (Memref.isWhole_whole _) mOut (Memref.isWhole_whole _) mX (Memref.isWhole_whole _) mQ (Memref.isWhole_whole _) mK (Memref.isWhole_whole _) mV (Memref.isWhole_whole _) mW (Memref.isWhole_whole _) mB (Memref.isWhole_whole _) mO (Memref.isWhole_whole _) mC0 (Memref.isWhole_whole _) mC1 (Memref.isWhole_whole _) mC2 (Memref.isWhole_whole _) mC3 (Memref.isWhole_whole _) cc0_scratch11 cc0_scratch12 cc0_scratch13 c v3 v32 v66 v76) Q) := by
  simp only [k0_part20_eq_skeleton]; unfold k0_part20_skel
  simp only [semSignalWord, semWaitWord, Prog.lift, Prog.bind_op, Prog.bind_ret, Prog.pure_eq_ret, Prog.bind_assoc]
  iintro ⟨#HE, st7, O, KB, g1, out, cr6, as6, KA, wr6⟩ Hk
  iapply (slot7 m K c _ (dev10 c) (off38 c)) $$ [st7 O KB g1]
  · isplitr; · iexact HE
    isplitl [st7]; · iexact st7
    isplitl [O]; · iexact O
    isplitl [KB]; · iexact KB
    iexists _; iexact g1
  iintro ⟨cr7, O, KB⟩
  iapply (ldB_at c (n := 128) (q := fullShare.right) (S := KB c) (fin m) (finN m) (fun _ => rfl) ((2 * k2 c + (1 - k3 c)) * 128) 384 1 (off39 c) rfl (KB_eq c ▸ Finset.subset_union_right)) $$ KB
  iintro KB
  iapply (ldOut_any c m (((∅ ∪ QA c) ∪ QB c) ∪ RA c)) $$ out
  iintro %v out
  iapply (stOut_blk c m (n := 128) (((∅ ∪ QA c) ∪ QB c) ∪ RA c) ((((∅ ∪ QA c) ∪ QB c) ∪ RA c) ∪ RB c) ((2 * k2 c + (1 - k3 c)) * 128) 384 1 (off39 c) rfl rfl (Finset.Subset.refl _)) $$ out
  iintro out
  iapply (wait_dma m K c (.snd 6) rfl rfl (dst := mBs (n := 256) (k0_off36 c) (k0_off36_inb c)) rfl 0 (by decide) (by decide)) $$ [cr6 as6 O]
  · isplitr; · iexact HE
    isplitl [cr6 as6]; · unfold wtk; isplitl [cr6] <;> iassumption
    iexact O
  iintro ⟨O, zs6, P⟩
  ihave P := (Entails.of_eq (show pay m c (.snd 6) false = bReg c fullShare.left (KA c) (fin m) from rfl)) $$ P
  ihave KA := (bReg_halves c (KA c) (fin m)).2 $$ [P KA]
  · isplitl [P] <;> iassumption
  iapply (wait_dma m K c (.rcv 6) rfl rfl (dst := mBs (n := 256) (k0_off36 c) (k0_off36_inb c)) rfl 0 (by decide) (by decide)) $$ [wr6 O]
  · isplitr; · iexact HE
    isplitl [wr6]; · iexact wr6
    iexact O
  iintro ⟨O, zr6, P⟩
  ihave SA := (Entails.of_eq (show pay m c (.rcv 6) false = bReg c fullShare (SA c) (fin m) from rfl)) $$ P
  iapply (ldB_at c (n := 256) (q := fullShare) (S := SA c) (fin m) (finN m) (fun _ => rfl) ((1 - k1 c) * 256) 0 0 (off12 c) rfl (Finset.Subset.refl _)) $$ SA
  iintro SA
  iapply (ldOut_any c m ((((∅ ∪ QA c) ∪ QB c) ∪ RA c) ∪ RB c)) $$ out
  iintro %v out
  iapply (stOut_blk c m (n := 256) ((((∅ ∪ QA c) ∪ QB c) ∪ RA c) ∪ RB c) (((((∅ ∪ QA c) ∪ QB c) ∪ RA c) ∪ RB c) ∪ SA c) ((1 - k1 c) * 256) 0 0 (off12 c) rfl rfl (Finset.Subset.refl _)) $$ out
  iintro out
  unfold wpc; rw [wp_ret]; imodintro
  iapply Hk
  isplitl [O]; · iexact O
  isplitl [KB]; · iexact KB
  isplitl [cr7]; · iexact cr7
  isplitl [out]; · iexact out
  isplitl [zs6]; · iexact zs6
  isplitl [KA]; · iexact KA
  isplitl [zr6]; · iexact zr6
  iexact SA

end Cert.Proof

end
-- ==== Proof.BodyRun.lean ====
module

/-
The kernel's body, its parts in sequence.
-/
public import proofs.«01_k».proof.Proof.PartsA
public import proofs.«01_k».proof.Proof.PartsB
public import proofs.«01_k».proof.Proof.PartsC

@[expose] public section

set_option maxRecDepth 16384

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ) (c : Dev nD)

theorem wpc_bind {α β : Type} (p : Prog (TpuEff nD τ sig (Elt F) Λ₀ .tc) α) (k : α → Prog (TpuEff nD τ sig (Elt F) Λ₀ .tc) β) (Q : β → sProp (MT nD τ sig Unit (Elt F) ℕ UU ℕ)) :
    wpc c (p >>= k) Q = wpc c p fun x => wpc c (k x) Q := wp_bind _ _ _ _ _ _

/-- Part 1: the device's own number, and words. -/
theorem part1 {Q : (Σ' (d0 : Dev nD) (v2 : BitVec 32) (v3 : BitVec 32) (v4 : BitVec 32) (v32 : BitVec 32) (c2_i32_13 : BitVec 32) (v33 : BitVec 32) (v35 : BitVec 32), BitVec 32) → sProp (MT nD τ sig Unit (Elt F) ℕ UU ℕ)} :
    iprop(∀ a : BitVec 32, ∀ b : BitVec 32, ∀ d : BitVec 32, ∀ e : BitVec 32, ∀ f : BitVec 32, ∀ g : BitVec 32, ∀ h : BitVec 32, ∀ i : BitVec 32, Q ⟨c, a, b, d, e, f, g, h, i⟩)
      ⊢ wpc c (k0_part1 mA0 (Memref.isWhole_whole _) mA1 (Memref.isWhole_whole _) mA2 (Memref.isWhole_whole _) mA3 (Memref.isWhole_whole _) mA4 (Memref.isWhole_whole _) mOut (Memref.isWhole_whole _) mX (Memref.isWhole_whole _) mQ (Memref.isWhole_whole _) mK (Memref.isWhole_whole _) mV (Memref.isWhole_whole _) mW (Memref.isWhole_whole _) mB (Memref.isWhole_whole _) mO (Memref.isWhole_whole _) mC0 (Memref.isWhole_whole _) mC1 (Memref.isWhole_whole _) mC2 (Memref.isWhole_whole _) mC3 (Memref.isWhole_whole _) cc0_scratch11 cc0_scratch12 cc0_scratch13) Q := by
  simp only [k0_part1_eq_skeleton]; unfold k0_part1_skel
  simp only [Prog.lift, Prog.bind_op, Prog.bind_ret, Prog.pure_eq_ret, Prog.bind_assoc]
  unfold wpc
  rw [wp_deviceId, wp_ret]
  iintro H
  imodintro
  iapply H

/-- Part 2: words. -/
theorem part2 (v2 v3 v4 v5 v6 : BitVec 32) {Q : (Σ' (v49 : BitVec 32) (v66 : BitVec 32), BitVec 32) → sProp (MT nD τ sig Unit (Elt F) ℕ UU ℕ)} :
    iprop(∀ a : BitVec 32, ∀ b : BitVec 32, ∀ d : BitVec 32, Q ⟨a, b, d⟩)
      ⊢ wpc c (k0_part2 mA0 (Memref.isWhole_whole _) mA1 (Memref.isWhole_whole _) mA2 (Memref.isWhole_whole _) mA3 (Memref.isWhole_whole _) mA4 (Memref.isWhole_whole _) mOut (Memref.isWhole_whole _) mX (Memref.isWhole_whole _) mQ (Memref.isWhole_whole _) mK (Memref.isWhole_whole _) mV (Memref.isWhole_whole _) mW (Memref.isWhole_whole _) mB (Memref.isWhole_whole _) mO (Memref.isWhole_whole _) mC0 (Memref.isWhole_whole _) mC1 (Memref.isWhole_whole _) mC2 (Memref.isWhole_whole _) mC3 (Memref.isWhole_whole _) cc0_scratch11 cc0_scratch12 cc0_scratch13 v2 v3 v4 v5 v6) Q := by
  simp only [k0_part2_eq_skeleton]; unfold k0_part2_skel
  simp only [Prog.pure_eq_ret]
  unfold wpc
  rw [wp_ret]
  iintro H
  imodintro
  iapply H

/-- What the body starts from. -/
def bodyIn : sProp (MT nD τ sig Unit (Elt F) ℕ UU ℕ) :=
  iprop((∃ W, owes (c : Thread nD τ) (O₀ c) W) ∗ dutyTok ER (cell (pa c) .bar) 0 false ∗ dutyTok ER (cell (pb c) .bar) 0 true ∗ cred (tallyAt (cell c .bar) () 2) ∗ atPos ER (cell c .bar) 0 ∅ 0 ∗ oSt c m 0 0 ∗ outSt c m ∅ ∗ dutyTok ER (cell c (.loc 0)) 0 false ∗ atPos ER (cell c (.loc 0)) 0 ∅ 0 ∗ srcReg m c 0 ∗ dutyTok ER (cell c (.loc 1)) 0 false ∗ atPos ER (cell c (.loc 1)) 0 ∅ 0 ∗ srcReg m c 1 ∗ dutyTok ER (cell c (.loc 2)) 0 false ∗ atPos ER (cell c (.loc 2)) 0 ∅ 0 ∗ srcReg m c 2 ∗ dutyTok ER (cell c (.loc 3)) 0 false ∗ atPos ER (cell c (.loc 3)) 0 ∅ 0 ∗ srcReg m c 3 ∗ dutyTok ER (cell c (.loc 4)) 0 false ∗ atPos ER (cell c (.loc 4)) 0 ∅ 0 ∗ srcReg m c 4 ∗ (∃ f, own c cc0_scratch0 f) ∗ (∃ f, own c cc0_scratch1 f) ∗ (∃ f, own c cc0_scratch2 f) ∗ (∃ f, own c cc0_scratch3 f) ∗ (∃ f, own c cc0_scratch4 f) ∗ (∃ f, own c cc0_scratch7 f) ∗ (∃ f, own c cc0_scratch8 f) ∗ (∃ f, own c cc0_scratch9 f) ∗ (∃ f, own c cc0_scratch10 f) ∗ (∃ f, bReg c fullShare (KA c) f) ∗ (∃ f, bReg c fullShare (SA c) f) ∗ (∃ f, bReg c fullShare (KB c) f) ∗ (∃ f, bReg c fullShare (SB c) f) ∗ stk c 0 ∗ atPos ER (cell c (.snd 0)) 0 ∅ 0 ∗ wtk c (.rcv 0) ∗ stk c 1 ∗ atPos ER (cell c (.snd 1)) 0 ∅ 0 ∗ wtk c (.rcv 1) ∗ stk c 2 ∗ atPos ER (cell c (.snd 2)) 0 ∅ 0 ∗ wtk c (.rcv 2) ∗ stk c 3 ∗ atPos ER (cell c (.snd 3)) 0 ∅ 0 ∗ wtk c (.rcv 3) ∗ stk c 4 ∗ atPos ER (cell c (.snd 4)) 0 ∅ 0 ∗ wtk c (.rcv 4) ∗ stk c 5 ∗ atPos ER (cell c (.snd 5)) 0 ∅ 0 ∗ wtk c (.rcv 5) ∗ stk c 6 ∗ atPos ER (cell c (.snd 6)) 0 ∅ 0 ∗ wtk c (.rcv 6) ∗ stk c 7 ∗ atPos ER (cell c (.snd 7)) 0 ∅ 0 ∗ wtk c (.rcv 7))

/-- What it ends with. -/
def bodyOut : sProp (MT nD τ sig Unit (Elt F) ℕ UU ℕ) :=
  iprop(ow c 0 ∗ oSt c m 8 8 ∗ outSt c m ((((((∅ ∪ QA c) ∪ QB c) ∪ RA c) ∪ RB c) ∪ SA c) ∪ SB c) ∗ srcReg m c 0 ∗ srcReg m c 1 ∗ srcReg m c 2 ∗ own c cc0_scratch0 (xArg m c) ∗ zer c (.loc 0) ∗ own c cc0_scratch1 (wqArg m c) ∗ zer c (.loc 1) ∗ own c cc0_scratch2 (colsOf c (wkArg m c)) ∗ zer c (.loc 2) ∗ own c cc0_scratch3 (colsOf c (wvArg m c)) ∗ srcReg m c 3 ∗ zer c (.loc 3) ∗ own c cc0_scratch4 (woArg m c) ∗ srcReg m c 4 ∗ zer c (.loc 4) ∗ zer c .bar ∗ zer c (.snd 0) ∗ zer c (.rcv 0) ∗ own c cc0_scratch7 (c0At m c) ∗ zer c (.snd 1) ∗ zer c (.rcv 1) ∗ own c cc0_scratch8 (c1At m c) ∗ zer c (.snd 2) ∗ zer c (.rcv 2) ∗ own c cc0_scratch9 (c2At m c) ∗ zer c (.snd 3) ∗ zer c (.rcv 3) ∗ own c cc0_scratch10 (c3At m c) ∗ zer c (.snd 4) ∗ zer c (.rcv 4) ∗ bReg c fullShare (KA c) (fin m) ∗ zer c (.snd 5) ∗ zer c (.rcv 5) ∗ bReg c fullShare (KB c) (fin m) ∗ zer c (.snd 6) ∗ zer c (.rcv 6) ∗ bReg c fullShare (SA c) (fin m) ∗ zer c (.snd 7) ∗ zer c (.rcv 7) ∗ bReg c fullShare (SB c) (fin m))

set_option maxHeartbeats 2000000 in
/-- The body. -/
theorem body_run {Q : PUnit → sProp (MT nD τ sig Unit (Elt F) ℕ UU ℕ)} :
    iprop(env m K ∗ bodyIn m c) ⊢ iprop((bodyOut m c -∗ Q ⟨⟩) -∗ wpc c (cc0_body mA0 (Memref.isWhole_whole _) mA1 (Memref.isWhole_whole _) mA2 (Memref.isWhole_whole _) mA3 (Memref.isWhole_whole _) mA4 (Memref.isWhole_whole _) mOut (Memref.isWhole_whole _) mX (Memref.isWhole_whole _) mQ (Memref.isWhole_whole _) mK (Memref.isWhole_whole _) mV (Memref.isWhole_whole _) mW (Memref.isWhole_whole _) mB (Memref.isWhole_whole _) mO (Memref.isWhole_whole _) mC0 (Memref.isWhole_whole _) mC1 (Memref.isWhole_whole _) mC2 (Memref.isWhole_whole _) mC3 (Memref.isWhole_whole _) cc0_scratch11 cc0_scratch12 cc0_scratch13) Q) := by
  simp only [cc0_body_eq_skeleton]; unfold cc0_body_skel bodyIn
  iintro ⟨#HE, O, tbA, tbB, cb, ab, oS, out, tl0, al0, sr0, tl1, al1, sr1, tl2, al2, sr2, tl3, al3, sr3, tl4, al4, sr4, b0, b1, b2, b3, b4, b7, b8, b9, b10, KA, SA, KB, SB, st0, as0, wr0, st1, as1, wr1, st2, as2, wr2, st3, as3, wr3, st4, as4, wr4, st5, as5, wr5, st6, as6, wr6, st7, as7, wr7⟩ Hk
  rw [wpc_bind]
  iapply part1
  iintro %a1 %a2 %a3 %a4 %a5 %a6 %a7 %a8
  dsimp only
  rw [wpc_bind]
  iapply part2
  iintro %b1 %b2 %b3
  dsimp only
  rw [wpc_bind]
  iapply (part3 m K c _ _ _) $$ [tl0 al0 sr0 b0 tl1 al1 sr1 b1 tl2 al2 sr2 b2 tl3 al3 sr3 b3 tl4 al4 sr4 b4 O tbA tbB b7 b8 b9 b10]
  · isplitr; · iexact HE
    isplitl [tl0]; · iexact tl0
    isplitl [al0]; · iexact al0
    isplitl [sr0]; · iexact sr0
    isplitl [b0]; · iexact b0
    isplitl [tl1]; · iexact tl1
    isplitl [al1]; · iexact al1
    isplitl [sr1]; · iexact sr1
    isplitl [b1]; · iexact b1
    isplitl [tl2]; · iexact tl2
    isplitl [al2]; · iexact al2
    isplitl [sr2]; · iexact sr2
    isplitl [b2]; · iexact b2
    isplitl [tl3]; · iexact tl3
    isplitl [al3]; · iexact al3
    isplitl [sr3]; · iexact sr3
    isplitl [b3]; · iexact b3
    isplitl [tl4]; · iexact tl4
    isplitl [al4]; · iexact al4
    isplitl [sr4]; · iexact sr4
    isplitl [b4]; · iexact b4
    isplitl [O]; · iexact O
    isplitl [tbA]; · iexact tbA
    isplitl [tbB]; · iexact tbB
    isplitl [b7]; · iexact b7
    isplitl [b8]; · iexact b8
    isplitl [b9]; · iexact b9
    iexact b10
  iintro  ⟨w3, w4, O, x0, sr0, z0, x1, sr1, z1, x2, sr2, z2⟩
  try dsimp only
  rw [wpc_bind]
  iapply (part4 m K c _) $$ [w3 O x0 x1 x2 oS]
  · isplitr; · iexact HE
    isplitl [w3]; · iexact w3
    isplitl [O]; · iexact O
    isplitl [x0]; · iexact x0
    isplitl [x1]; · iexact x1
    isplitl [x2]; · iexact x2
    iexact oS
  iintro %w4_0 ⟨O, x3, sr3, z3, x0, x1, x2, oS⟩
  try dsimp only
  rw [wpc_bind]
  iapply (part5 m K c _) $$ [oS]
  · isplitr; · iexact HE
    iexact oS
  iintro  ⟨oS⟩
  try dsimp only
  rw [wpc_bind]
  iapply (part6 m K c _) $$ [oS]
  · isplitr; · iexact HE
    iexact oS
  iintro  ⟨oS⟩
  try dsimp only
  rw [wpc_bind]
  iapply (part7 m K c _) $$ [oS]
  · isplitr; · iexact HE
    iexact oS
  iintro  ⟨oS⟩
  try dsimp only
  rw [wpc_bind]
  iapply (part8 m K c _ _ _) $$ [oS w4 O SA cb ab]
  · isplitr; · iexact HE
    isplitl [oS]; · iexact oS
    isplitl [w4]; · iexact w4
    isplitl [O]; · iexact O
    isplitl [SA]; · iexact SA
    isplitl [cb]; · iexact cb
    iexact ab
  iintro  ⟨oS, O, x4, sr4, z4, SA, zb, p0, p1, p2, p3⟩
  try dsimp only
  rw [wpc_bind]
  iapply (part9 m K c _) $$ [st0 O SA p0 x0 x1 x2 x3 oS]
  · isplitr; · iexact HE
    isplitl [st0]; · iexact st0
    isplitl [O]; · iexact O
    isplitl [SA]; · iexact SA
    isplitl [p0]; · iexact p0
    isplitl [x0]; · iexact x0
    isplitl [x1]; · iexact x1
    isplitl [x2]; · iexact x2
    isplitl [x3]; · iexact x3
    iexact oS
  iintro %w9_0 ⟨O, cr0, x0, x1, x2, x3, oS⟩
  try dsimp only
  rw [wpc_bind]
  iapply (part10 m K c _) $$ [oS]
  · isplitr; · iexact HE
    iexact oS
  iintro  ⟨oS⟩
  try dsimp only
  rw [wpc_bind]
  iapply (part11 m K c _) $$ [oS]
  · isplitr; · iexact HE
    iexact oS
  iintro  ⟨oS⟩
  try dsimp only
  rw [wpc_bind]
  iapply (part12 m K c _) $$ [oS]
  · isplitr; · iexact HE
    iexact oS
  iintro  ⟨oS⟩
  try dsimp only
  rw [wpc_bind]
  iapply (part13 m K c _ _ _ _) $$ [oS x4 SB st1 O p1]
  · isplitr; · iexact HE
    isplitl [oS]; · iexact oS
    isplitl [x4]; · iexact x4
    isplitl [SB]; · iexact SB
    isplitl [st1]; · iexact st1
    isplitl [O]; · iexact O
    iexact p1
  iintro %w13_0 ⟨oS, x4, O, cr1⟩
  try dsimp only
  rw [wpc_bind]
  iapply (part14 m K c _ _ _ _) $$ [KA oS x4 KB cr0 as0 O wr0]
  · isplitr; · iexact HE
    isplitl [KA]; · iexact KA
    isplitl [oS]; · iexact oS
    isplitl [x4]; · iexact x4
    isplitl [KB]; · iexact KB
    isplitl [cr0]; · iexact cr0
    isplitl [as0]; · iexact as0
    isplitl [O]; · iexact O
    iexact wr0
  iintro  ⟨KA, oS, x4, KB, O, zs0, zr0, b7, g0⟩
  try dsimp only
  rw [wpc_bind]
  iapply (part15 m K c _ _ _ _ _) $$ [KA st2 O p2 cr1 as1 wr1 KB]
  · isplitr; · iexact HE
    isplitl [KA]; · iexact KA
    isplitl [st2]; · iexact st2
    isplitl [O]; · iexact O
    isplitl [p2]; · iexact p2
    isplitl [cr1]; · iexact cr1
    isplitl [as1]; · iexact as1
    isplitl [wr1]; · iexact wr1
    iexact KB
  iintro %w15_0 %w15_1 ⟨QA, O, cr2, zs1, zr1, b8, g1, KB⟩
  try dsimp only
  rw [wpc_bind]
  iapply (part16 m K c _ _ _ _ _ _) $$ [KB st3 O p3 cr2 as2 wr2 QA]
  · isplitr; · iexact HE
    isplitl [KB]; · iexact KB
    isplitl [st3]; · iexact st3
    isplitl [O]; · iexact O
    isplitl [p3]; · iexact p3
    isplitl [cr2]; · iexact cr2
    isplitl [as2]; · iexact as2
    isplitl [wr2]; · iexact wr2
    iexact QA
  iintro %w16_0 ⟨QB, O, cr3, zs2, zr2, b9, g2, QA⟩
  try dsimp only
  rw [wpc_bind]
  iapply (part17 m K c _ _ _ _) $$ [st4 O QA g2 cr3 as3 wr3 QB]
  · isplitr; · iexact HE
    isplitl [st4]; · iexact st4
    isplitl [O]; · iexact O
    isplitl [QA]; · iexact QA
    isplitl [g2]; · iexact g2
    isplitl [cr3]; · iexact cr3
    isplitl [as3]; · iexact as3
    isplitl [wr3]; · iexact wr3
    iexact QB
  iintro  ⟨O, QA, cr4, zs3, zr3, b10, g3, QB⟩
  try dsimp only
  rw [wpc_bind]
  iapply (part18 m K c _ _ _ _ _) $$ [st5 O QB g3 QA out cr4 as4 wr4]
  · isplitr; · iexact HE
    isplitl [st5]; · iexact st5
    isplitl [O]; · iexact O
    isplitl [QB]; · iexact QB
    isplitl [g3]; · iexact g3
    isplitl [QA]; · iexact QA
    isplitl [out]; · iexact out
    isplitl [cr4]; · iexact cr4
    isplitl [as4]; · iexact as4
    iexact wr4
  iintro  ⟨O, QB, cr5, out, zs4, zr4, KA⟩
  try dsimp only
  rw [wpc_bind]
  iapply (part19 m K c _ _ _ _ _) $$ [st6 O KA g0 out cr5 as5 QB wr5]
  · isplitr; · iexact HE
    isplitl [st6]; · iexact st6
    isplitl [O]; · iexact O
    isplitl [KA]; · iexact KA
    isplitl [g0]; · iexact g0
    isplitl [out]; · iexact out
    isplitl [cr5]; · iexact cr5
    isplitl [as5]; · iexact as5
    isplitl [QB]; · iexact QB
    iexact wr5
  iintro  ⟨O, KA, cr6, out, zs5, zr5, KB⟩
  try dsimp only
  rw [wpc_bind]
  iapply (part20 m K c _ _ _ _) $$ [st7 O KB g1 out cr6 as6 KA wr6]
  · isplitr; · iexact HE
    isplitl [st7]; · iexact st7
    isplitl [O]; · iexact O
    isplitl [KB]; · iexact KB
    isplitl [g1]; · iexact g1
    isplitl [out]; · iexact out
    isplitl [cr6]; · iexact cr6
    isplitl [as6]; · iexact as6
    isplitl [KA]; · iexact KA
    iexact wr6
  iintro  ⟨O, KB, cr7, out, zs6, KA, zr6, SA⟩
  try dsimp only
  simp only [Prog.lift, Prog.bind_op, Prog.bind_ret, Prog.pure_eq_ret, Prog.bind_assoc]
  iapply (wait_dma m K c (.snd 7) rfl rfl (dst := mBs (n := 256) (k0_off38 c) (k0_off38_inb c)) rfl 0 (by decide) (by decide)) $$ [cr7 as7 O]
  · isplitr; · iexact HE
    isplitl [cr7 as7]; · unfold wtk; isplitl [cr7] <;> iassumption
    iexact O
  iintro ⟨O, zs7, P⟩
  ihave P := (Entails.of_eq (show pay m c (.snd 7) false = bReg c fullShare.left (KB c) (fin m) from rfl)) $$ P
  ihave KB := (bReg_halves c (KB c) (fin m)).2 $$ [P KB]
  · isplitl [P] <;> iassumption
  iapply (wait_dma m K c (.rcv 7) rfl rfl (dst := mBs (n := 256) (k0_off38 c) (k0_off38_inb c)) rfl 0 (by decide) (by decide)) $$ [wr7 O]
  · isplitr; · iexact HE
    isplitl [wr7]; · iexact wr7
    iexact O
  iintro ⟨O, zr7, P⟩
  ihave SB := (Entails.of_eq (show pay m c (.rcv 7) false = bReg c fullShare (SB c) (fin m) from rfl)) $$ P
  iapply (ldB_at c (n := 256) (q := fullShare) (S := SB c) (fin m) (finN m) (fun _ => rfl) ((1 - k2 c) * 256) 384 1 (off24 c) rfl (Finset.Subset.refl _)) $$ SB
  iintro SB
  iapply (ldOut_any c m (((((∅ ∪ QA c) ∪ QB c) ∪ RA c) ∪ RB c) ∪ SA c)) $$ out
  iintro %v out
  iapply (stOut_blk c m (n := 256) (((((∅ ∪ QA c) ∪ QB c) ∪ RA c) ∪ RB c) ∪ SA c) ((((((∅ ∪ QA c) ∪ QB c) ∪ RA c) ∪ RB c) ∪ SA c) ∪ SB c) ((1 - k2 c) * 256) 384 1 (off24 c) rfl rfl (Finset.Subset.refl _)) $$ out
  iintro out
  unfold wpc; rw [wp_ret]; imodintro
  iapply Hk
  unfold bodyOut
  isplitl [O]; · iexact O
  isplitl [oS]; · iexact oS
  isplitl [out]; · iexact out
  isplitl [sr0]; · iexact sr0
  isplitl [sr1]; · iexact sr1
  isplitl [sr2]; · iexact sr2
  isplitl [x0]; · iexact x0
  isplitl [z0]; · iexact z0
  isplitl [x1]; · iexact x1
  isplitl [z1]; · iexact z1
  isplitl [x2]; · iexact x2
  isplitl [z2]; · iexact z2
  isplitl [x3]; · iexact x3
  isplitl [sr3]; · iexact sr3
  isplitl [z3]; · iexact z3
  isplitl [x4]; · iexact x4
  isplitl [sr4]; · iexact sr4
  isplitl [z4]; · iexact z4
  isplitl [zb]; · iexact zb
  isplitl [zs0]; · iexact zs0
  isplitl [zr0]; · iexact zr0
  isplitl [b7]; · iexact b7
  isplitl [zs1]; · iexact zs1
  isplitl [zr1]; · iexact zr1
  isplitl [b8]; · iexact b8
  isplitl [zs2]; · iexact zs2
  isplitl [zr2]; · iexact zr2
  isplitl [b9]; · iexact b9
  isplitl [zs3]; · iexact zs3
  isplitl [zr3]; · iexact zr3
  isplitl [b10]; · iexact b10
  isplitl [zs4]; · iexact zs4
  isplitl [zr4]; · iexact zr4
  isplitl [KA]; · iexact KA
  isplitl [zs5]; · iexact zs5
  isplitl [zr5]; · iexact zr5
  isplitl [KB]; · iexact KB
  isplitl [zs6]; · iexact zs6
  isplitl [zr6]; · iexact zr6
  isplitl [SA]; · iexact SA
  isplitl [zs7]; · iexact zs7
  isplitl [zr7]; · iexact zr7
  iexact SB

end Cert.Proof

end
-- ==== Proof.Around.lean ====
module

/-
The body between the launch's start and its end: what a device holds before and after its one grid point, and the
pipeline's obligation from the body's run.
-/
public import proofs.«01_k».proof.Proof.BodyRun

@[expose] public section

set_option maxRecDepth 16384

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The state @main is launched in: any memory and generators, every counter at zero. -/
def s₀ (ρ : Dev nD → PrngReg) : MemSt nD τ sig (Elt F) := ⟨m, fun _ => 0, ρ⟩

variable (ρ : Dev nD → PrngReg) (K : Dev nD × Ck → ℕ) (c : Dev nD)

/-! ## What a device starts from and ends with -/

/-- The 22 cells one by one. -/
theorem bigSep_ck (Φ : Ck → sProp (MT nD τ sig Unit (Elt F) ℕ UU ℕ)) : bigSep Finset.univ Φ
    = iprop(Φ .bar ∗ Φ (.loc 0) ∗ Φ (.loc 1) ∗ Φ (.loc 2) ∗ Φ (.loc 3) ∗ Φ (.loc 4) ∗ Φ (.snd 0) ∗ Φ (.snd 1) ∗ Φ (.snd 2) ∗ Φ (.snd 3) ∗ Φ (.snd 4) ∗ Φ (.snd 5) ∗ Φ (.snd 6) ∗ Φ (.snd 7) ∗ Φ (.rcv 0) ∗ Φ (.rcv 1) ∗ Φ (.rcv 2) ∗ Φ (.rcv 3) ∗ Φ (.rcv 4) ∗ Φ (.rcv 5) ∗ Φ (.rcv 6) ∗ Φ (.rcv 7)) :=
  bigSep_univ_eq_bigSepL ([Ck.bar, Ck.loc 0, Ck.loc 1, Ck.loc 2, Ck.loc 3, Ck.loc 4, Ck.snd 0, Ck.snd 1, Ck.snd 2, Ck.snd 3, Ck.snd 4, Ck.snd 5, Ck.snd 6, Ck.snd 7, Ck.rcv 0, Ck.rcv 1, Ck.rcv 2, Ck.rcv 3, Ck.rcv 4, Ck.rcv 5, Ck.rcv 6, Ck.rcv 7] : List Ck) (by decide) (by decide) Φ

/-- The tokens of the duties device `c` pays. -/
def payToks : sProp (MT nD τ sig Unit (Elt F) ℕ UU ℕ) :=
  iprop(dutyTok ER (cell (pa c) .bar) 0 false ∗ dutyTok ER (cell (pb c) .bar) 0 true
    ∗ dutyTok ER (cell c (.loc 0)) 0 false ∗ dutyTok ER (cell c (.loc 1)) 0 false ∗ dutyTok ER (cell c (.loc 2)) 0 false ∗ dutyTok ER (cell c (.loc 3)) 0 false ∗ dutyTok ER (cell c (.loc 4)) 0 false
    ∗ stk c 0 ∗ stk c 1 ∗ stk c 2 ∗ stk c 3 ∗ stk c 4 ∗ stk c 5 ∗ stk c 6 ∗ stk c 7)
/-- Its positions and those tokens. -/
def linear : sProp (MT nD τ sig Unit (Elt F) ℕ UU ℕ) :=
  iprop((bigSep Finset.univ fun k : Ck => atPos ER (cell c k) 0 ∅ 0) ∗ payToks c)
/-- What it is owed: two barrier units and its eight landings. -/
def credits : sProp (MT nD τ sig Unit (Elt F) ℕ UU ℕ) :=
  iprop(cred (tallyAt (cell c .bar) () 2) ∗ cred (tallyAt (cell c (.rcv 0)) () (amt (.rcv 0))) ∗ cred (tallyAt (cell c (.rcv 1)) () (amt (.rcv 1))) ∗ cred (tallyAt (cell c (.rcv 2)) () (amt (.rcv 2))) ∗ cred (tallyAt (cell c (.rcv 3)) () (amt (.rcv 3))) ∗ cred (tallyAt (cell c (.rcv 4)) () (amt (.rcv 4))) ∗ cred (tallyAt (cell c (.rcv 5)) () (amt (.rcv 5))) ∗ cred (tallyAt (cell c (.rcv 6)) () (amt (.rcv 6))) ∗ cred (tallyAt (cell c (.rcv 7)) () (amt (.rcv 7))))
/-- The five arguments. -/
def argsAt : sProp (MT nD τ sig Unit (Elt F) ℕ UU ℕ) :=
  iprop(own c main_arg0 (m ((c : Thread nD τ).loc main_arg0)) ∗ own c main_arg1 (m ((c : Thread nD τ).loc main_arg1)) ∗ own c main_arg2 (m ((c : Thread nD τ).loc main_arg2)) ∗ own c main_arg3 (m ((c : Thread nD τ).loc main_arg3)) ∗ own c main_arg4 (m ((c : Thread nD τ).loc main_arg4)))

def start : sProp (MT nD τ sig Unit (Elt F) ℕ UU ℕ) :=
  iprop((∃ K, records m K ∗ linear c) ∗ credits c ∗ levAts L lv ∗ argsAt m c)
/-- The scratch buffers, at any contents. -/
def scratch : sProp (MT nD τ sig Unit (Elt F) ℕ UU ℕ) :=
  iprop((∃ f, own c cc0_scratch0 f) ∗ (∃ f, own c cc0_scratch1 f) ∗ (∃ f, own c cc0_scratch2 f) ∗ (∃ f, own c cc0_scratch3 f) ∗ (∃ f, own c cc0_scratch4 f) ∗ (∃ f, own c cc0_scratch5 f) ∗ (∃ f, own c cc0_scratch6 f) ∗ (∃ f, own c cc0_scratch7 f) ∗ (∃ f, own c cc0_scratch8 f) ∗ (∃ f, own c cc0_scratch9 f) ∗ (∃ f, own c cc0_scratch10 f))
/-- Every counter of the device at zero. -/
def zeros : sProp (MT nD τ sig Unit (Elt F) ℕ UU ℕ) :=
  iprop(zer c .bar ∗ zer c (.loc 0) ∗ zer c (.loc 1) ∗ zer c (.loc 2) ∗ zer c (.loc 3) ∗ zer c (.loc 4) ∗ zer c (.snd 0) ∗ zer c (.snd 1) ∗ zer c (.snd 2) ∗ zer c (.snd 3) ∗ zer c (.snd 4) ∗ zer c (.snd 5) ∗ zer c (.snd 6) ∗ zer c (.snd 7) ∗ zer c (.rcv 0) ∗ zer c (.rcv 1) ∗ zer c (.rcv 2) ∗ zer c (.rcv 3) ∗ zer c (.rcv 4) ∗ zer c (.rcv 5) ∗ zer c (.rcv 6) ∗ zer c (.rcv 7))
def Φ₀ : sProp (MT nD τ sig Unit (Elt F) ℕ UU ℕ) := iprop(start m c ∗ scratch c)
def Φ₁ : sProp (MT nD τ sig Unit (Elt F) ℕ UU ℕ) := iprop(argsAt m c ∗ scratch c ∗ zeros c)

/-! ## Splitting the arguments and the array of sums -/

/-- The part of an argument its copy does not read. -/
def restK : sProp (MT nD τ sig Unit (Elt F) ℕ UU ℕ) := (mColsK c).view.loc (c : Thread nD τ) ↦[Finset.univ \ (mColsK c).view.set]{fullShare} m _
def restV : sProp (MT nD τ sig Unit (Elt F) ℕ UU ℕ) := (mColsV c).view.loc (c : Thread nD τ) ↦[Finset.univ \ (mColsV c).view.set]{fullShare} m _

theorem arg_0 : own c main_arg0 (m ((c : Thread nD τ).loc main_arg0)) = srcReg m c 0 := by
  show _ = (mA0.view.loc (c : Thread nD τ) ↦[mA0.view.set]{fullShare} m _)
  rw [Memref.view_whole, View.set_whole]; rfl
theorem arg_1 : own c main_arg1 (m ((c : Thread nD τ).loc main_arg1)) = srcReg m c 1 := by
  show _ = (mA1.view.loc (c : Thread nD τ) ↦[mA1.view.set]{fullShare} m _)
  rw [Memref.view_whole, View.set_whole]; rfl
theorem arg_4 : own c main_arg4 (m ((c : Thread nD τ).loc main_arg4)) = srcReg m c 4 := by
  show _ = (mA4.view.loc (c : Thread nD τ) ↦[mA4.view.set]{fullShare} m _)
  rw [Memref.view_whole, View.set_whole]; rfl
theorem arg_2 : own c main_arg2 (m ((c : Thread nD τ).loc main_arg2)) ⊣⊢ iprop(srcReg m c 2 ∗ restK m c) :=
  pointsTo_split_subset (Finset.subset_univ _)
theorem arg_3 : own c main_arg3 (m ((c : Thread nD τ).loc main_arg3)) ⊣⊢ iprop(srcReg m c 3 ∗ restV m c) :=
  pointsTo_split_subset (Finset.subset_univ _)

theorem buf_parts (f : Vec F S512x768 .bf16) : own c cc0_scratch5 f
    ⊣⊢ iprop((bReg c fullShare (KA c) f ∗ bReg c fullShare (SA c) f) ∗ (bReg c fullShare (KB c) f ∗ bReg c fullShare (SB c) f)) := by
  show (((c : Thread nD τ).loc cc0_scratch5) ↦[Finset.univ]{fullShare} f) ⊣⊢ _
  rw [← halves_univ c]
  exact (pointsTo_union (left_right c)).trans (sep_congr (pointsTo_union (KA_SA c)) (pointsTo_union (KB_SB c)))

theorem all_regions : ((((((∅ ∪ QA c) ∪ QB c) ∪ RA c) ∪ RB c) ∪ SA c) ∪ SB c) = (Finset.univ : Finset S512x768.Idx) := by
  rw [← halves_univ c, KA_eq, KB_eq]
  ext i; simp only [Finset.mem_union, Finset.notMem_empty]; tauto

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The one window's result, what is owed before and after the point, and what is held. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outFin m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp (MT nD τ sig Unit (Elt F) ℕ UU ℕ)) : bigSep Finset.univ Φ = iprop(Φ (0 : Fin 1)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp (MT nD τ sig Unit (Elt F) ℕ UU ℕ))
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def stg (b : Ref sig .tc) (X : b.ty.Contents (Elt F)) : sProp (MT nD τ sig Unit (Elt F) ℕ UU ℕ) :=
  iprop(∃ f : Buf (Elt F) (((c : Dev nD) : Thread nD τ).loc b), ⌜f = X⌝ ∗ (((c : Thread nD τ).loc b) ↦{fullShare} f))

def bodyPre : sProp (MT nD τ sig Unit (Elt F) ℕ UU ℕ) :=
  iprop(Φ₀ m c ∗ (dats m ρ 0 c).owesAt () t₀.castSucc
    ∗ (∃ d, stg c cc0_stg0_0 ((dats m ρ 0 c).before (0 : Fin 1) t₀ d)))
def bodyPost : sProp (MT nD τ sig Unit (Elt F) ℕ UU ℕ) :=
  iprop(Φ₁ m c ∗ (dats m ρ 0 c).owesAt () t₀.succ ∗ stg c cc0_stg0_0 (outFin m))

set_option maxHeartbeats 2000000 in
/-- What the body is given, from what the launch gives. -/
theorem body_start : iprop(linear c ∗ credits c ∗ argsAt m c ∗ scratch c ∗ (∃ W, owes (c : Thread nD τ) (O₀ c) W) ∗ (∃ f, own c cc0_stg0_0 f))
    ⊢ iprop(bodyIn m c ∗ restK m c ∗ restV m c) := by
  unfold linear credits argsAt scratch
  rw [bigSep_ck, arg_0, arg_1, arg_4]
  unfold payToks bodyIn wtk
  iintro ⟨⟨⟨ab, al0, al1, al2, al3, al4, as0, as1, as2, as3, as4, as5, as6, as7, ar0, ar1, ar2, ar3, ar4, ar5, ar6, ar7⟩, tbA, tbB, tl0, tl1, tl2, tl3, tl4, st0, st1, st2, st3, st4, st5, st6, st7⟩, ⟨cb, cr0, cr1, cr2, cr3, cr4, cr5, cr6, cr7⟩, ⟨sr0, sr1, A2, A3, sr4⟩, ⟨b0, b1, b2, b3, b4, ⟨%f5, B5⟩, ⟨%f6, B6⟩, b7, b8, b9, b10⟩, O, ⟨%fo, out⟩⟩
  ihave A2' := (arg_2 m c).1 $$ A2
  ihave A3' := (arg_3 m c).1 $$ A3
  icases A2' with ⟨sr2, rK⟩
  icases A3' with ⟨sr3, rV⟩
  ihave B5' := (buf_parts c f5).1 $$ B5
  icases B5' with ⟨⟨KA, SA⟩, ⟨KB, SB⟩⟩
  isplitr [rK rV]
  · isplitl [O]
    · iexact O
    isplitl [tbA]
    · iexact tbA
    isplitl [tbB]
    · iexact tbB
    isplitl [cb]
    · iexact cb
    isplitl [ab]
    · iexact ab
    isplitl [B6]
    · unfold oSt; iexists f6
      isplitr
      · ipureintro; intro i h; rcases h with ⟨_, h⟩ | ⟨_, h⟩ <;> exact absurd h (Nat.not_lt_zero _)
      iexact B6
    isplitl [out]
    · unfold outSt; iexists fo
      isplitr
      · ipureintro; intro i h; exact absurd h (Finset.notMem_empty i)
      iexact out
    isplitl [tl0]
    · iexact tl0
    isplitl [al0]
    · iexact al0
    isplitl [sr0]
    · iexact sr0
    isplitl [tl1]
    · iexact tl1
    isplitl [al1]
    · iexact al1
    isplitl [sr1]
    · iexact sr1
    isplitl [tl2]
    · iexact tl2
    isplitl [al2]
    · iexact al2
    isplitl [sr2]
    · iexact sr2
    isplitl [tl3]
    · iexact tl3
    isplitl [al3]
    · iexact al3
    isplitl [sr3]
    · iexact sr3
    isplitl [tl4]
    · iexact tl4
    isplitl [al4]
    · iexact al4
    isplitl [sr4]
    · iexact sr4
    isplitl [b0]
    · iexact b0
    isplitl [b1]
    · iexact b1
    isplitl [b2]
    · iexact b2
    isplitl [b3]
    · iexact b3
    isplitl [b4]
    · iexact b4
    isplitl [b7]
    · iexact b7
    isplitl [b8]
    · iexact b8
    isplitl [b9]
    · iexact b9
    isplitl [b10]
    · iexact b10
    isplitl [KA]
    · iexists f5
      iexact KA
    isplitl [SA]
    · iexists f5
      iexact SA
    isplitl [KB]
    · iexists f5
      iexact KB
    isplitl [SB]
    · iexists f5
      iexact SB
    isplitl [st0]
    · iexact st0
    isplitl [as0]
    · iexact as0
    isplitl [cr0 ar0]
    · isplitl [cr0] <;> iassumption
    isplitl [st1]
    · iexact st1
    isplitl [as1]
    · iexact as1
    isplitl [cr1 ar1]
    · isplitl [cr1] <;> iassumption
    isplitl [st2]
    · iexact st2
    isplitl [as2]
    · iexact as2
    isplitl [cr2 ar2]
    · isplitl [cr2] <;> iassumption
    isplitl [st3]
    · iexact st3
    isplitl [as3]
    · iexact as3
    isplitl [cr3 ar3]
    · isplitl [cr3] <;> iassumption
    isplitl [st4]
    · iexact st4
    isplitl [as4]
    · iexact as4
    isplitl [cr4 ar4]
    · isplitl [cr4] <;> iassumption
    isplitl [st5]
    · iexact st5
    isplitl [as5]
    · iexact as5
    isplitl [cr5 ar5]
    · isplitl [cr5] <;> iassumption
    isplitl [st6]
    · iexact st6
    isplitl [as6]
    · iexact as6
    isplitl [cr6 ar6]
    · isplitl [cr6] <;> iassumption
    isplitl [st7]
    · iexact st7
    isplitl [as7]
    · iexact as7
    isplitl [cr7] <;> iassumption
  · isplitl [rK] <;> iassumption

set_option maxHeartbeats 2000000 in
/-- What the launch gets back, from what the body ends with. -/
theorem body_end : iprop(bodyOut m c ∗ restK m c ∗ restV m c)
    ⊢ iprop(Φ₁ m c ∗ ow c 0 ∗ own c cc0_stg0_0 (outFin m)) := by
  unfold bodyOut
  rw [all_regions]
  unfold Φ₁ argsAt scratch
  rw [arg_0, arg_1, arg_4]
  iintro ⟨⟨O, oS, out, sr0, sr1, sr2, b0, zloc0, b1, zloc1, b2, zloc2, b3, sr3, zloc3, b4, sr4, zloc4, zbar, zsnd0, zrcv0, b7, zsnd1, zrcv1, b8, zsnd2, zrcv2, b9, zsnd3, zrcv3, b10, zsnd4, zrcv4, KA, zsnd5, zrcv5, KB, zsnd6, zrcv6, SA, zsnd7, zrcv7, SB⟩, rK, rV⟩
  unfold oSt outSt
  icases oS with ⟨%f6, -, B6⟩
  icases out with ⟨%fo, %hfo, out⟩
  obtain rfl : fo = outFin m := funext fun i => hfo i (Finset.mem_univ i)
  isplitr [O out]
  · isplitl [sr0 sr1 sr2 sr3 sr4 rK rV]
    · isplitl [sr0]; · iexact sr0
      isplitl [sr1]; · iexact sr1
      isplitl [sr2 rK]
      · iapply (arg_2 m c).2
        isplitl [sr2] <;> iassumption
      isplitl [sr3 rV]
      · iapply (arg_3 m c).2
        isplitl [sr3] <;> iassumption
      iexact sr4
    isplitl [b0 b1 b2 b3 b4 KA KB SA SB B6 b7 b8 b9 b10]
    · isplitl [b0]
      · iexists _; iexact b0
      isplitl [b1]
      · iexists _; iexact b1
      isplitl [b2]
      · iexists _; iexact b2
      isplitl [b3]
      · iexists _; iexact b3
      isplitl [b4]
      · iexists _; iexact b4
      isplitl [KA SA KB SB]
      · iexists (fin m)
        iapply (buf_parts c (fin m)).2
        isplitl [KA SA]
        · isplitl [KA] <;> iassumption
        · isplitl [KB] <;> iassumption
      isplitl [B6]
      · iexists _; iexact B6
      isplitl [b7]
      · iexists _; iexact b7
      isplitl [b8]
      · iexists _; iexact b8
      isplitl [b9]
      · iexists _; iexact b9
      iexists _; iexact b10
    · unfold zeros
      isplitl [zbar]; · iexact zbar
      isplitl [zloc0]; · iexact zloc0
      isplitl [zloc1]; · iexact zloc1
      isplitl [zloc2]; · iexact zloc2
      isplitl [zloc3]; · iexact zloc3
      isplitl [zloc4]; · iexact zloc4
      isplitl [zsnd0]; · iexact zsnd0
      isplitl [zsnd1]; · iexact zsnd1
      isplitl [zsnd2]; · iexact zsnd2
      isplitl [zsnd3]; · iexact zsnd3
      isplitl [zsnd4]; · iexact zsnd4
      isplitl [zsnd5]; · iexact zsnd5
      isplitl [zsnd6]; · iexact zsnd6
      isplitl [zsnd7]; · iexact zsnd7
      isplitl [zrcv0]; · iexact zrcv0
      isplitl [zrcv1]; · iexact zrcv1
      isplitl [zrcv2]; · iexact zrcv2
      isplitl [zrcv3]; · iexact zrcv3
      isplitl [zrcv4]; · iexact zrcv4
      isplitl [zrcv5]; · iexact zrcv5
      isplitl [zrcv6]; · iexact zrcv6
      iexact zrcv7
  · isplitl [O] <;> iassumption

set_option maxHeartbeats 2000000 in
/-- The pipeline's obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ (cc0_body mA0 (Memref.isWhole_whole _) mA1 (Memref.isWhole_whole _) mA2 (Memref.isWhole_whole _) mA3 (Memref.isWhole_whole _) mA4 (Memref.isWhole_whole _) mOut (Memref.isWhole_whole _) mX (Memref.isWhole_whole _) mQ (Memref.isWhole_whole _) mK (Memref.isWhole_whole _) mV (Memref.isWhole_whole _) mW (Memref.isWhole_whole _) mB (Memref.isWhole_whole _) mO (Memref.isWhole_whole _) mC0 (Memref.isWhole_whole _) mC1 (Memref.isWhole_whole _) mC2 (Memref.isWhole_whole _) mC3 (Memref.isWhole_whole _) cc0_scratch11 cc0_scratch12 cc0_scratch13) (fun _ => bodyPost m ρ c)
  unfold bodyPre Φ₀ start
  iintro ⟨⟨⟨⟨%K, #HR, Hlin⟩, Hcr, #HL, Hargs⟩, Hscr⟩, Ho, ⟨%d, Hout⟩⟩
  unfold Dat.owesAt Pipeline.owesWithin stg
  icases Ho with ⟨%W, %hW, HO⟩
  rw [show (dats m ρ 0 c).owed t₀.castSucc = O₀ c from rfl]
  icases Hout with ⟨%fo, -, Hout⟩
  ihave Hin := (body_start m c) $$ [Hlin Hcr Hargs Hscr HO Hout]
  · isplitl [Hlin]; · iexact Hlin
    isplitl [Hcr]; · iexact Hcr
    isplitl [Hargs]; · iexact Hargs
    isplitl [Hscr]; · iexact Hscr
    isplitl [HO]
    · iexists W; iexact HO
    · iexists fo; unfold own; iexact Hout
  icases Hin with ⟨Hin, rK, rV⟩
  iapply (body_run m K c) $$ [Hin]
  · isplitr [Hin]
    · unfold env; isplitr; · iexact HR
      iexact HL
    · iexact Hin
  iintro Hb
  ihave He := (body_end m c) $$ [Hb rK rV]
  · isplitl [Hb]; · iexact Hb
    isplitl [rK] <;> iassumption
  icases He with ⟨HΦ, Ho, Hs⟩
  unfold bodyPost
  isplitl [HΦ]; · iexact HΦ
  isplitl [Ho]
  · unfold ow
    icases Ho with ⟨%W', HO⟩
    unfold Dat.owesAt Pipeline.owesWithin
    rw [show (dats m ρ 0 c).owed t₀.succ = 0 from rfl]
    iexists W'
    isplitr
    · ipureintro; exact fun _ _ => Or.inl trivial
    iexact HO
  · unfold stg own
    iexists (outFin m)
    isplitr
    · ipureintro; rfl
    iexact Hs

end Cert.Proof

end
-- ==== Proof.Launch.lean ====
module

/-
The launch: the rounds' ghost state made and dealt, the credit each device starts with, and the run of @main.
-/
public import proofs.«01_k».proof.Proof.Around
public import Idealize.ShloMosaic.Lib.Pipeline.CollectiveSegs

@[expose] public section

set_option maxRecDepth 16384

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The launch's own semaphores: five of local copies, eight of sends, eight of landings. -/
def osem : Fin 21 → SemLoc sig := fun
  | 0 => csem (.loc 0)
  | 1 => csem (.loc 1)
  | 2 => csem (.loc 2)
  | 3 => csem (.loc 3)
  | 4 => csem (.loc 4)
  | 5 => csem (.snd 0)
  | 6 => csem (.snd 1)
  | 7 => csem (.snd 2)
  | 8 => csem (.snd 3)
  | 9 => csem (.snd 4)
  | 10 => csem (.snd 5)
  | 11 => csem (.snd 6)
  | 12 => csem (.snd 7)
  | 13 => csem (.rcv 0)
  | 14 => csem (.rcv 1)
  | 15 => csem (.rcv 2)
  | 16 => csem (.rcv 3)
  | 17 => csem (.rcv 4)
  | 18 => csem (.rcv 5)
  | 19 => csem (.rcv 6)
  | _ => csem (.rcv 7)

theorem ownSemFacts : Pipeline.OwnSemFacts cfg0.spec osem := by decide

theorem share_eq (c : Dev nD) (w : Fin cfg0.W) : (dats m ρ 0 c).share w = fullShare := by unfold Dat.share; split <;> rfl

theorem ownSems0_eq (c : Dev nD) : (Pipeline.ownSems0 (Ix := Unit) (Name := ℕ) (U := UU) (Lvl := ℕ) (Val := Elt F) (τ := τ) osem c : sProp (MT nD τ sig Unit (Elt F) ℕ UU ℕ))
    = iprop(zer c (.loc 0) ∗ zer c (.loc 1) ∗ zer c (.loc 2) ∗ zer c (.loc 3) ∗ zer c (.loc 4) ∗ zer c (.snd 0) ∗ zer c (.snd 1) ∗ zer c (.snd 2) ∗ zer c (.snd 3) ∗ zer c (.snd 4) ∗ zer c (.snd 5) ∗ zer c (.snd 6) ∗ zer c (.snd 7) ∗ zer c (.rcv 0) ∗ zer c (.rcv 1) ∗ zer c (.rcv 2) ∗ zer c (.rcv 3) ∗ zer c (.rcv 4) ∗ zer c (.rcv 5) ∗ zer c (.rcv 6) ∗ zer c (.rcv 7)) := by
  rw [Pipeline.ownSems0_eq_of_list c osem [0, 1, 2, 3, 4, 5, 6, 7, 8, 9, 10, 11, 12, 13, 14, 15, 16, 17, 18, 19, 20] (by decide) (by decide)]; rfl
theorem unscopedSems0_eq (c : Dev nD) : (unscopedSems0 c : sProp (MT nD τ sig Unit (Elt F) ℕ UU ℕ)) = zer c .bar := by
  unfold unscopedSems0; rw [bigSep_eq_bigSepL_of_eq [SemLoc.reg barS] (by decide) (by decide)]; rfl

/-- All the cells' counters at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Ck => zer c k : sProp (MT nD τ sig Unit (Elt F) ℕ UU ℕ)) := by
  rw [ownSems0_eq, unscopedSems0_eq, bigSep_ck]
  iintro ⟨H, HB⟩
  isplitl [HB]; · iexact HB
  iexact H

/-! ## The ghost state -/

theorem cell_eq_iff {a b : Dev nD} {k k' : Ck} : cell a k = cell b k' ↔ a = b ∧ k = k' :=
  ⟨fun h => ⟨Fin.ext (congrArg (fun g : GSem nD τ sig => g.1.1.val) h), csem_injective (congrArg Prod.snd h)⟩, fun ⟨h, h'⟩ => h ▸ h' ▸ rfl⟩

theorem kcell_injective : Function.Injective (fun ck : Dev nD × Ck => cell ck.1 ck.2) := by
  rintro ⟨c, k⟩ ⟨c', k'⟩ h
  obtain ⟨rfl, rfl⟩ := cell_eq_iff.mp h
  rfl
def ringCells : Finset (GSem nD τ sig) := Finset.univ.map ⟨_, kcell_injective⟩

/-- A device's own cells' duties: one per cell, and the barrier's second. -/
def tokOf (ck : Dev nD × (Ck ⊕ Unit)) : GSem nD τ sig × ℕ × Bool := match ck.2 with
  | .inl k => (cell ck.1 k, 0, false)
  | .inr _ => (cell ck.1 .bar, 0, true)
theorem tokOf_injective : Function.Injective tokOf := by
  rintro ⟨c, k⟩ ⟨c', k'⟩ h
  have h1 := congrArg (fun x : GSem nD τ sig × ℕ × Bool => x.1) h
  have h2 := congrArg (fun x : GSem nD τ sig × ℕ × Bool => x.2.2) h
  rcases k with k | k <;> rcases k' with k' | k'
  · obtain ⟨rfl, rfl⟩ := cell_eq_iff.mp h1; rfl
  · cases h2
  · cases h2
  · obtain ⟨rfl, -⟩ := cell_eq_iff.mp h1; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp (MT nD τ sig Unit (Elt F) ℕ UU ℕ) :=
  iprop((bigSep Finset.univ fun k : Ck => dutyTok ER (cell c k) 0 false) ∗ dutyTok ER (cell c .bar) 0 true)

/-- What the launch deals device `c`; -/
def G (c : Dev nD) : sProp (MT nD τ sig Unit (Elt F) ℕ UU ℕ) :=
  iprop((bigSep Finset.univ fun k : Ck => roundState ER (sched m) (cell c k) 0)
    ∗ (bigSep Finset.univ fun k : Ck => iprop(atPos ER (cell c k) 0 ∅ 0 ∗ reached ER (cell c k) 0)) ∗ toks c)
/-- and what the cells' allocation makes of it. -/
def G' (c : Dev nD) : sProp (MT nD τ sig Unit (Elt F) ℕ UU ℕ) := iprop(∃ K, records m K ∗ linear c)

theorem fund_ring : BI.own (ER (initOf ringCells ringToks)) ⊢ (|==> bigSep Finset.univ (G m) : sProp (MT nD τ sig Unit (Elt F) ℕ UU ℕ)) := by
  have hX (Φ : GSem nD τ sig → sProp (MT nD τ sig Unit (Elt F) ℕ UU ℕ)) : bigSep ringCells Φ = bigSep Finset.univ fun c : Dev nD => bigSep Finset.univ fun k : Ck => Φ (cell c k) := by
    unfold ringCells; rw [bigSep_map, bigSep_univ_prod]; rfl
  have hT : bigSep ringToks (fun x => (dutyTok ER x.1 x.2.1 x.2.2 : sProp (MT nD τ sig Unit (Elt F) ℕ UU ℕ))) = bigSep Finset.univ fun c : Dev nD => toks c := by
    unfold ringToks; rw [bigSep_map, bigSep_univ_prod]
    exact bigSep_congr fun c _ => by
      unfold toks; rw [bigSep_univ_sum, bigSep_univ_eq_bigSepL [()] (by decide) (by decide)]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (cell c k)))
          ∗ (bigSep Finset.univ fun k => iprop(atPos ER (cell c k) 0 ∅ 0 ∗ reached ER (cell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Ck => zer c k) ∗ bigSep Finset.univ fun k : Ck => roundState ER (sched m) (cell c k) 0)
      ⊢ (|={Set.univ}=> bigSep Finset.univ fun k => iprop(∃ κ : ℕ, cellInv ER (sched m) κ (cell c k)) : sProp (MT nD τ sig Unit (Elt F) ℕ UU ℕ)) from by
        rw [← bigSep_sep']
        exact (bigSep_mono fun k _ => (Rounds.body_intro ER (sched m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- Devices renamed by an own inverse: what is one per device is one per renamed device. -/
theorem renamed (e : Dev nD → Dev nD) (h : ∀ c, e (e c) = c) (Φ : Dev nD → sProp (MT nD τ sig Unit (Elt F) ℕ UU ℕ)) :
    bigSep Finset.univ Φ ⊢ bigSep Finset.univ fun c => Φ (e c) :=
  Entails.of_eq (bigSep_univ_equiv ⟨e, e, h, h⟩ Φ)

theorem par_par (s : Fin 8) (c : Dev nD) : par (par c s) s = c := by
  fin_cases s <;> first | exact pa_pa c | exact pb_pb c

/-- The tokens go to the devices that pay the duties. -/
theorem toks_around : (bigSep Finset.univ fun c : Dev nD => (toks c : sProp (MT nD τ sig Unit (Elt F) ℕ UU ℕ))) ⊢ bigSep Finset.univ fun c : Dev nD => payToks c := by
  unfold toks payToks stk
  simp only [bigSep_ck, bigSep_sep']
  iintro ⟨⟨tb, tl0, tl1, tl2, tl3, tl4, ts0, ts1, ts2, ts3, ts4, ts5, ts6, ts7, tr0, tr1, tr2, tr3, tr4, tr5, tr6, tr7⟩, tb'⟩
  isplitl [tb]; · iapply (renamed pa pa_pa fun c : Dev nD => (dutyTok ER (cell c .bar) 0 false : sProp (MT nD τ sig Unit (Elt F) ℕ UU ℕ))); iexact tb
  isplitl [tb']; · iapply (renamed pb pb_pb fun c : Dev nD => (dutyTok ER (cell c .bar) 0 true : sProp (MT nD τ sig Unit (Elt F) ℕ UU ℕ))); iexact tb'
  isplitl [tl0]; · iexact tl0
  isplitl [tl1]; · iexact tl1
  isplitl [tl2]; · iexact tl2
  isplitl [tl3]; · iexact tl3
  isplitl [tl4]; · iexact tl4
  isplitl [ts0 tr0]
  · isplitl [ts0]; · iexact ts0
    iapply (renamed (par · 0) (par_par 0) fun c : Dev nD => (dutyTok ER (cell c (.rcv 0)) 0 false : sProp (MT nD τ sig Unit (Elt F) ℕ UU ℕ))); iexact tr0
  isplitl [ts1 tr1]
  · isplitl [ts1]; · iexact ts1
    iapply (renamed (par · 1) (par_par 1) fun c : Dev nD => (dutyTok ER (cell c (.rcv 1)) 0 false : sProp (MT nD τ sig Unit (Elt F) ℕ UU ℕ))); iexact tr1
  isplitl [ts2 tr2]
  · isplitl [ts2]; · iexact ts2
    iapply (renamed (par · 2) (par_par 2) fun c : Dev nD => (dutyTok ER (cell c (.rcv 2)) 0 false : sProp (MT nD τ sig Unit (Elt F) ℕ UU ℕ))); iexact tr2
  isplitl [ts3 tr3]
  · isplitl [ts3]; · iexact ts3
    iapply (renamed (par · 3) (par_par 3) fun c : Dev nD => (dutyTok ER (cell c (.rcv 3)) 0 false : sProp (MT nD τ sig Unit (Elt F) ℕ UU ℕ))); iexact tr3
  isplitl [ts4 tr4]
  · isplitl [ts4]; · iexact ts4
    iapply (renamed (par · 4) (par_par 4) fun c : Dev nD => (dutyTok ER (cell c (.rcv 4)) 0 false : sProp (MT nD τ sig Unit (Elt F) ℕ UU ℕ))); iexact tr4
  isplitl [ts5 tr5]
  · isplitl [ts5]; · iexact ts5
    iapply (renamed (par · 5) (par_par 5) fun c : Dev nD => (dutyTok ER (cell c (.rcv 5)) 0 false : sProp (MT nD τ sig Unit (Elt F) ℕ UU ℕ))); iexact tr5
  isplitl [ts6 tr6]
  · isplitl [ts6]; · iexact ts6
    iapply (renamed (par · 6) (par_par 6) fun c : Dev nD => (dutyTok ER (cell c (.rcv 6)) 0 false : sProp (MT nD τ sig Unit (Elt F) ℕ UU ℕ))); iexact tr6
  isplitl [ts7]; · iexact ts7
  iapply (renamed (par · 7) (par_par 7) fun c : Dev nD => (dutyTok ER (cell c (.rcv 7)) 0 false : sProp (MT nD τ sig Unit (Elt F) ℕ UU ℕ))); iexact tr7

theorem bigSep_with_persistent {I : Type} [DecidableEq I] {S : Finset I} {R : sProp (MT nD τ sig Unit (Elt F) ℕ UU ℕ)} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Ck → ℕ) (c : Dev nD) : iprop(records m K ∗ linear c) ⊢ G' m c := by
  unfold G'
  iintro H
  iexists K
  iexact H

theorem regroup :
    (bigSep Finset.univ fun c : Dev nD => iprop((bigSep Finset.univ fun k => iprop(∃ κ : ℕ, cellInv ER (sched m) κ (cell c k)))
          ∗ (bigSep Finset.univ fun k => iprop(atPos ER (cell c k) 0 ∅ 0 ∗ reached ER (cell c k) 0)) ∗ toks c) : sProp (MT nD τ sig Unit (Elt F) ℕ UU ℕ))
      ⊢ bigSep Finset.univ (G' m) := by
  rw [bigSep_sep', bigSep_sep', ← bigSep_univ_prod (fun ck : Dev nD × Ck => iprop(∃ κ : ℕ, cellInv ER (sched m) κ (cell ck.1 ck.2))),
    bigSep_congr (s := Finset.univ) (fun (c : Dev nD) _ => bigSep_sep' Finset.univ (fun k : Ck => (atPos ER (cell c k) 0 ∅ 0 : sProp (MT nD τ sig Unit (Elt F) ℕ UU ℕ))) (fun k => reached ER (cell c k) 0)),
    bigSep_sep', ← bigSep_univ_prod (fun ck : Dev nD × Ck => (reached ER (cell ck.1 ck.2) 0 : sProp (MT nD τ sig Unit (Elt F) ℕ UU ℕ)))]
  iintro ⟨HI, ⟨Hat, #HR⟩, Htok⟩
  ihave HK := (BI.bigSep_exists_pi Finset.univ (fun (ck : Dev nD × Ck) (κ : ℕ) => (cellInv ER (sched m) κ (cell ck.1 ck.2) : sProp (MT nD τ sig Unit (Elt F) ℕ UU ℕ)))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Ck => (atPos ER (cell c k) 0 ∅ 0 : sProp (MT nD τ sig Unit (Elt F) ℕ UU ℕ))) payToks).symm).trans
      (bigSep_mono fun c _ => show _ ⊢ linear c from Entails.of_eq (by unfold linear; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp (MT nD τ sig Unit (Elt F) ℕ UU ℕ))
    ⊢ |={Set.univ}=> bigSep Finset.univ (G' m) :=
  ((bigSep_mono fun c _ => core_alloc m c).trans (bigSep_fupd _ _)).trans (BI.fupd_mono (regroup m))

/-! ## The launch credit -/

/-- What the last `n` slots of device `d` owe the landing cell of slot `s` on device `c`. -/
theorem rem_at (d c : Dev nD) (s : Fin 8) : ∀ n, n ≤ 8 → rem d n (cell c (.rcv s)) () = if c = par d s ∧ 8 ≤ s.val + n then amt (.rcv s) else 0
  | 0, _ => by rw [if_neg (by omega)]; rfl
  | n + 1, hn => by
    unfold rem
    rw [Pi.add_apply, Finsupp.add_apply, rem_at d c s n (by omega), tallyAt_apply]
    by_cases hs : s = Fin.ofNat 8 (7 - n)
    · have hv : s.val = 7 - n := by rw [hs]; show (7 - n) % 8 = 7 - n; omega
      rw [← hs, if_neg (by omega), Nat.zero_add]
      refine if_congr ?_ rfl rfl
      exact ⟨fun h => ⟨(cell_eq_iff.mp h.1).1, by omega⟩, fun h => ⟨cell_eq_iff.mpr ⟨h.1, rfl⟩, rfl⟩⟩
    · have hv : s.val ≠ 7 - n := fun h => hs (Fin.ext (by rw [h]; show 7 - n = (7 - n) % 8; omega))
      rw [if_neg (c := cell c (.rcv s) = _ ∧ _) (fun h => hs (by have := (cell_eq_iff.mp h.1).2; exact Ck.rcv.inj this)), Nat.add_zero]
      refine if_congr ?_ rfl rfl
      exact and_congr_right fun _ => by omega
theorem rem_bar (d c : Dev nD) : ∀ n, rem d n (cell c .bar) () = 0
  | 0 => rfl
  | n + 1 => by
    unfold rem
    rw [Pi.add_apply, Finsupp.add_apply, rem_bar d c n, tallyAt_apply, if_neg fun h => by have := (cell_eq_iff.mp h.1).2; cases this]

theorem owed_bar (d c : Dev nD) : O₀ d (cell c .bar) () = (if d = pb c then 1 else 0) + (if d = pa c then 1 else 0) := by
  unfold O₀ O₁
  rw [Pi.add_apply, Finsupp.add_apply, Pi.add_apply, Finsupp.add_apply, rem_bar, Nat.zero_add, tallyAt_apply, tallyAt_apply]
  congr 1
  · refine if_congr ?_ rfl rfl
    exact ⟨fun h => by rw [(cell_eq_iff.mp h.1).1, pb_pb], fun h => ⟨cell_eq_iff.mpr ⟨by rw [h, pb_pb], rfl⟩, rfl⟩⟩
  · refine if_congr ?_ rfl rfl
    exact ⟨fun h => by rw [(cell_eq_iff.mp h.1).1, pa_pa], fun h => ⟨cell_eq_iff.mpr ⟨by rw [h, pa_pa], rfl⟩, rfl⟩⟩

theorem owed_rcv (d c : Dev nD) (s : Fin 8) : O₀ d (cell c (.rcv s)) () = if d = par c s then amt (.rcv s) else 0 := by
  unfold O₀ O₁
  rw [Pi.add_apply, Finsupp.add_apply, Pi.add_apply, Finsupp.add_apply, rem_at d c s 8 le_rfl, tallyAt_apply, tallyAt_apply,
    if_neg (c := cell c (.rcv s) = cell (pb d) .bar ∧ _) (fun h => by have := (cell_eq_iff.mp h.1).2; cases this),
    if_neg (c := cell c (.rcv s) = cell (pa d) .bar ∧ _) (fun h => by have := (cell_eq_iff.mp h.1).2; cases this), Nat.add_zero, Nat.add_zero]
  refine if_congr ?_ rfl rfl
  exact ⟨fun h => by rw [h.1, par_par], fun h => ⟨by rw [h, par_par], by omega⟩⟩

theorem launch_bar (c : Dev nD) :
    tallyOn (cell c .bar) (launchCredit (Pipeline.owing O₀) 0 (cell c .bar)) = (tallyAt (cell c .bar) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pb c) fun _ => 1, Finset.sum_ite_eq' Finset.univ (pa c) fun _ => 1, if_pos (Finset.mem_univ _), if_pos (Finset.mem_univ _)]

theorem launch_rcv (c : Dev nD) (s : Fin 8) :
    tallyOn (cell c (.rcv s)) (launchCredit (Pipeline.owing O₀) 0 (cell c (.rcv s))) = (tallyAt (cell c (.rcv s)) () (amt (.rcv s)) : CellTallies nD τ sig Unit) := by
  unfold tallyAt; refine congrArg _ (Finsupp.ext fun u => ?_); cases u
  rw [Pipeline.launchCredit_owing, Finsupp.single_eq_same, Finset.sum_congr rfl fun d _ => owed_rcv d c s, Finset.sum_ite_eq' Finset.univ (par c s) fun _ => amt (.rcv s),
    if_pos (Finset.mem_univ _)]

/-- The credit of a device's own cells among all its launch credit. -/
theorem launchCred_cells (c : Dev nD) : (Pipeline.launchCred O₀ c : sProp (MT nD τ sig Unit (Elt F) ℕ UU ℕ))
    ⊢ bigSep Finset.univ fun k : Ck => cred (tallyOn (cell c k) (launchCredit (Pipeline.owing O₀) 0 (cell c k))) := by
  unfold Pipeline.launchCred
  exact (bigSep_subset (Finset.subset_univ (Finset.univ.map ⟨csem, csem_injective⟩))).trans (Entails.of_eq (bigSep_map ⟨csem, csem_injective⟩))

theorem creds (c : Dev nD) : (Pipeline.launchCred O₀ c : sProp (MT nD τ sig Unit (Elt F) ℕ UU ℕ)) ⊢ credits c := by
  refine (launchCred_cells c).trans ?_
  rw [bigSep_ck]
  unfold credits
  iintro ⟨cb, -, -, -, -, -, -, -, -, -, -, -, -, -, cr0, cr1, cr2, cr3, cr4, cr5, cr6, cr7⟩
  isplitl [cb]; · iapply (Entails.of_eq (congrArg cred (launch_bar c))); iexact cb
  isplitl [cr0]; · iapply (Entails.of_eq (congrArg cred (launch_rcv c 0))); iexact cr0
  isplitl [cr1]; · iapply (Entails.of_eq (congrArg cred (launch_rcv c 1))); iexact cr1
  isplitl [cr2]; · iapply (Entails.of_eq (congrArg cred (launch_rcv c 2))); iexact cr2
  isplitl [cr3]; · iapply (Entails.of_eq (congrArg cred (launch_rcv c 3))); iexact cr3
  isplitl [cr4]; · iapply (Entails.of_eq (congrArg cred (launch_rcv c 4))); iexact cr4
  isplitl [cr5]; · iapply (Entails.of_eq (congrArg cred (launch_rcv c 5))); iexact cr5
  isplitl [cr6]; · iapply (Entails.of_eq (congrArg cred (launch_rcv c 6))); iexact cr6
  iapply (Entails.of_eq (congrArg cred (launch_rcv c 7))); iexact cr7

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Ha, Hlev, Hcr, -, HG⟩
  ihave Hc := (creds (F := F) c) $$ Hcr
  imodintro
  unfold start G'
  isplitl
  · isplitl [HG]; · iexact HG
    isplitl [Hc]; · iexact Hc
    isplitl [Hlev]; · iexact Hlev
    unfold argsAt own; iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch own
  iintro ⟨Hs, -, Hr⟩
  isplitl [Hs]; · iexact Hs
  iexact Hr

theorem phi1_exit (c : Dev nD) :
    (dats m ρ 0 c).Φ (Fin.last cfg0.N) ⊢ iprop((unscopedSems0 c ∗ argsAt m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ zeros
  iintro ⟨Ha, Hr, HB, HO⟩
  isplitl [HB Ha]
  · isplitl [HB] <;> iassumption
  isplitl [HO]; · iexact HO
  unfold scratch own
  iexact Hr

theorem waits (c : Dev nD) : (levAts L lv : sProp (MT nD τ sig Unit (Elt F) ℕ UU ℕ)) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

/-- The result array after the run. -/
def finalA (c : Dev nD) : Buf (Elt F) ((c : Thread nD τ).loc main_v1) := (dats m ρ 0 c).arrAt (0 : Fin 1) cfg0.N

/-- A device's arguments as they were. -/
def ArgsKept (mem : (ℓ : Loc nD τ sig) → Buf (Elt F) ℓ) (c : Dev nD) : Prop :=
  mem ((c : Thread nD τ).loc main_arg0) = m ((c : Thread nD τ).loc main_arg0) ∧ mem ((c : Thread nD τ).loc main_arg1) = m ((c : Thread nD τ).loc main_arg1)
    ∧ mem ((c : Thread nD τ).loc main_arg2) = m ((c : Thread nD τ).loc main_arg2) ∧ mem ((c : Thread nD τ).loc main_arg3) = m ((c : Thread nD τ).loc main_arg3)
    ∧ mem ((c : Thread nD τ).loc main_arg4) = m ((c : Thread nD τ).loc main_arg4)

theorem args_read (c : Dev nD) (s' : Phys nD τ sig (Elt F)) : iprop(argsAt m c ∗ SI s') ⊢ (iprop(⌜ArgsKept m s'.mem.mem c⌝ ∗ SI s') : sProp (MT nD τ sig Unit (Elt F) ℕ UU ℕ)) := by
  unfold argsAt own
  iintro ⟨⟨H0, H1, H2, H3, H4⟩, HSI⟩
  icombine HSI H0 gives %h0
  icombine HSI H1 gives %h1
  icombine HSI H2 gives %h2
  icombine HSI H3 gives %h3
  icombine HSI H4 gives %h4
  isplitr
  · ipureintro
    exact ⟨Buf.eq_of_forall_mem_univ h0, Buf.eq_of_forall_mem_univ h1, Buf.eq_of_forall_mem_univ h2, Buf.eq_of_forall_mem_univ h3, Buf.eq_of_forall_mem_univ h4⟩
  iexact HSI

theorem kept_read (c : Dev nD) (s' : Phys nD τ sig (Elt F)) :
    iprop((unscopedSems0 c ∗ argsAt m c) ∗ emp ∗ SI s')
      ⊢ (|={Set.univ}=> iprop(⌜ArgsKept m s'.mem.mem c ∧ ∀ sm : SemLoc sig, sm.isScoped .tc = false → s'.mem.sem ((c.tc : Thread nD τ), sm) = 0⌝ ∗ SI s') : sProp (MT nD τ sig Unit (Elt F) ℕ UU ℕ)) := by
  iintro ⟨⟨Hu, Ha⟩, -, HSI⟩
  ihave H := (args_read m c s') $$ [Ha HSI]
  · isplitl [Ha] <;> iassumption
  icases H with ⟨%ha, HSI⟩
  imod (Pipeline.unscopedSems0_read (X := unscopedSems0 c) (c := c) fupd_intro s') $$ [Hu HSI] with H
  · isplitl [Hu] <;> iassumption
  icases H with ⟨%hu, HSI⟩
  imodintro
  isplitr
  · ipureintro; exact ⟨ha, hu⟩
  iexact HSI

theorem run_arr : θ_run defs (onTc (τ := τ) (main (F := F))) (s₀ m ρ)
    (fun r => (∀ c : Dev nD, r.2.mem ((c : Thread nD τ).loc main_v1) = finalA m ρ c ∧ ArgsKept m r.2.mem c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ argsAt m c)) (Z := fun _ => iprop(emp))
    (hX := start_intro m ρ) (hin := phi0_intro m ρ) (hout := phi1_exit m ρ)
    (QY := fun c s => ArgsKept m s.mem c ∧ ∀ sm : SemLoc sig, sm.isScoped .tc = false → s.sem ((c.tc : Thread nD τ), sm) = 0)
    (hY := kept_read m)
    (hQ := fun _ h hs => ⟨fun c => ⟨(h c).1 0, (h c).2.2.1⟩, sem_eq_zero hs fun c => (h c).2.2.2⟩)

theorem mem_blk (t : Fin cfg0.N) (i : S512x768.Idx) : i ∈ ((cfg0.win 0).blk t).view.set := by
  show i ∈ ((View.whole main_v1).slice (win0_0.rect t)).set
  rw [View.set_slice_whole, Rect.mem_set_unit]
  have h0 : (i 0 : Nat) < 512 := (i 0).isLt
  have h1 : (i 1 : Nat) < 768 := (i 1).isLt
  have e : win0_0.index t 0 * win0_0.size 0 = 0 ∧ win0_0.xsize (grid0.coords t) 0 = 512
      ∧ win0_0.index t 1 * win0_0.size 1 = 0 ∧ win0_0.xsize (grid0.coords t) 1 = 768 := by
    rcases fin_N0 t with rfl; decide +kernel
  intro a
  match a with
  | ⟨0, _⟩ => show win0_0.index t 0 * win0_0.size 0 ≤ (i 0 : Nat) ∧ (i 0 : Nat) < win0_0.index t 0 * win0_0.size 0 + win0_0.xsize (grid0.coords t) 0
              rw [e.1, e.2.1]; omega
  | ⟨1, _⟩ => show win0_0.index t 1 * win0_0.size 1 ≤ (i 1 : Nat) ∧ (i 1 : Nat) < win0_0.index t 1 * win0_0.size 1 + win0_0.xsize (grid0.coords t) 1
              rw [e.2.2.1, e.2.2.2]; omega

/-- The one point writes the whole array back. -/
theorem finalA_eq (c : Dev nD) : finalA m ρ c = outFin m :=
  (dats m ρ 0 c).arrAt_eq_of_cover 0 (outFin m)
    (fun t _ => by
      obtain rfl := fin_N t
      have ha : (dats m ρ 0 c).after 0 t₀ = outFin m := by dsimp only [dats]
      unfold Pipeline.Dat.flushed
      rw [ha]
      funext j
      show outFin m _ = outFin m _
      refine congrArg (outFin m) (funext fun a => Fin.ext ?_)
      show (j a : Nat) = (((win0_0.rect t₀).toLoadRect.idx j a) : Nat)
      rw [idx_zero]
      fin_cases a <;> exact (Nat.zero_add _).symm)
    (fun i => ⟨t₀, by decide, mem_blk t₀ i⟩)

/-- Every device ends with the whole result, its arguments as they were, and every counter at zero. -/
theorem run_main : θ_run defs (onTc (τ := τ) (main (F := F))) (s₀ m ρ)
    (fun r => (∀ c : Dev nD, r.2.mem ((c : Thread nD τ).loc main_v1) = outFin m ∧ ArgsKept m r.2.mem c) ∧ r.2.sem = fun _ => 0) :=
  (θ_run defs _ _).mono (fun r h => ⟨fun c => ⟨(h.1 c).1.trans (finalA_eq m ρ c), (h.1 c).2⟩, h.2⟩) (run_arr m ρ)

end Cert.Proof

end
-- ==== Proof.Frames.lean ====
/-
# The frames

Each of the three programs ends, leaves its arguments as they were and puts every semaphore counter back at zero.
-/
module

public import proofs.«01_k».proof.Proof.Launch
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.Proof

open Idealize.ShloMosaic Idealize.ShloMosaic.TcCoe

/-- Over machine words the two kernels run the same bodies: their texts agree. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs Cert.KernelIdeal.pcfgs) bodies_eq

/-- The kernel over machine words. -/
theorem frame_kernel : Cert.quiescent_Kernel := by
  intro m ρ _
  have h := (θ_run Cert.KernelIdeal.defs _ _).mono (Q' := fun r => (∀ c, ArgsKept m r.2.mem c) ∧ r.2.sem = fun _ => 0)
    (fun _ h => ⟨fun c => (h.1 c).2, h.2⟩) (run_main (F := Bits) m ρ)
  rw [defs_eq]
  exact h

/-- The kernel over the extended reals. -/
theorem frame_ideal : Cert.quiescent_KernelIdeal := fun m ρ _ =>
  (θ_run Cert.KernelIdeal.defs _ _).mono (fun _ h => ⟨fun c => (h.1 c).2, h.2⟩) (run_main (F := Ideal) m ρ)

/-- The reference over the extended reals; it has no semaphore at all. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Proof

end
-- ==== Proof.Spec.lean ====
/-
# What the layer computes

The layer's result as a formula over the extended reals, element by element, of the whole arrays: the projections, the
scores of one query row against the 256 keys of its batch and head, the softmax-weighted mean of the values, and the
product with the output weights. Nothing here knows of devices or of tiles.
-/
module

public import proofs.«01_k».proof.Proof.Contents
public import Idealize.ShloMosaic.Lib.Pointwise

@[expose] public section

set_option maxRecDepth 16384

noncomputable section

namespace Cert.Proof

open Idealize.ShloMosaic

/-- An index of two bounded coordinates is the one named by their numbers. -/
theorem pair_eq {n k : ℕ} [NeZero n] [NeZero k] (a : Fin n) (b : Fin k) :
    Idealize.ShloMosaic.ix2 a b = ix2 (n := n) (k := k) a.val b.val := eq_ix2 _ rfl rfl

/-- The softmax of the scores `s`, as weights of the values `v`: the exponentials of the scores less their maximum, the
    weighted sum divided by the plain one. -/
def softmean (s v : Fin 256 → EReal) : EReal :=
  Ideal.div (∑ j, Ideal.exp (s j - Finset.univ.fold max (Ideal.ofBits .f32 0xFF800000#32) s) * v j)
    (∑ j, Ideal.exp (s j - Finset.univ.fold max (Ideal.ofBits .f32 0xFF800000#32) s))

/-- Row `a` of the tokens against column `b` of weights. -/
def proj {R N : ℕ} [NeZero R] [NeZero N] (X : (⟨2, ![R, 768]⟩ : Shape).Idx → EReal) (W : (⟨2, ![768, N]⟩ : Shape).Idx → EReal) (a b : ℕ) : EReal :=
  ∑ e : Fin 768, X (ix2 a e.val) * W (ix2 e.val b)

variable (X : (⟨2, ![512, 768]⟩ : Shape).Idx → EReal) (Wq : (⟨2, ![768, 2048]⟩ : Shape).Idx → EReal)
  (Wk Wv : (⟨2, ![768, 512]⟩ : Shape).Idx → EReal) (Wo : (⟨2, ![2048, 768]⟩ : Shape).Idx → EReal)

/-- Batch `t`, head `H`: the score of query row `r` against key row `j`. Four heads share one key head. -/
def score (t H r j : ℕ) : EReal :=
  (∑ d : Fin 64, proj X Wq (256 * t + r) (64 * H + d.val) * proj X Wk (256 * t + j) (64 * (H / 4) + d.val)) * Ideal.ofBits .f32 0x3E000000#32

/-- Batch `t`, head `H`: coordinate `d` of the attention output of query row `r`. -/
def att (t H r d : ℕ) : EReal :=
  softmean (fun j => score X Wq Wk t H r j.val) (fun j => proj X Wv (256 * t + j.val) (64 * (H / 4) + d))

/-- Row `a`, column `b` of the result. -/
def result (a b : ℕ) : EReal :=
  ∑ u : Fin 2048, att X Wq Wk Wv (a / 256) (u.val / 64) (a % 256) (u.val % 64) * Wo (ix2 u.val b)

end Cert.Proof

end
-- ==== Proof.Head.lean ====
/-
# One head on one batch half

All sixteen head computations of the kernel are one function of the head's query, key and value columns, `headOf`; at
the extended reals its elements are softmax-weighted means.
-/
module

public import proofs.«01_k».proof.Proof.Spec

@[expose] public section

set_option maxRecDepth 16384

noncomputable section

namespace Cert.Proof

open Cert.KernelIdeal Cert.KernelIdeal.Gen
open Idealize.ShloMosaic

variable {F : FTy → Type} [FloatOps F]

/-- The scaled scores of a head. -/
def scoresOf (q k : FVec F S256x64 .bf16) : FVec F S256x256 .f32 :=
  mulf (matmul dot_S256x64_S256x64_S256x256_1_1_0_0_n_n none q k (constant S256x256 .f32 0x00000000#32)) (broadcast S256x256 (Scalar.ofBits .f32 0x3E000000#32))

/-- The exponentials of the scores less the row's maximum. -/
def expsOf (s : FVec F S256x256 .f32) : FVec F S256x256 .f32 :=
  exp (subf s (broadcastTo S256x256 (shapeCast S256x1 (multiReduction .maximumf [1] S256 s 0xFF800000#32 reduces_S256x256_S256 (.inl rfl) rfl) shapeCasts_S256_S256x1) broadcasts_S256x1_S256x256))

/-- The exponentials against the values, each row divided by its sum. -/
def meansOf (p : FVec F S256x256 .f32) (v : FVec F S256x64 .bf16) : FVec F S256x64 .bf16 :=
  truncf .bf16 (divf
    (matmul dot_S256x256_S256x64_S256x64_1_0_0_1_n_n none (truncf .bf16 p bitsLt_bf16_f32) v (constant S256x64 .f32 0x00000000#32))
    (broadcastTo S256x64 (shapeCast S256x1 (multiReduction .add [1] S256 p 0x00000000#32 reduces_S256x256_S256 (.inl rfl) rfl) shapeCasts_S256_S256x1) broadcasts_S256x1_S256x64)) bitsLt_bf16_f32

/-- A head of the query, key and value columns. -/
def headOf (q k v : FVec F S256x64 .bf16) : FVec F S256x64 .bf16 :=
  shapeCast S256x64 (meansOf (expsOf (scoresOf q k)) v) shapeCasts_S256x64_S256x64

section Heads
variable (x : Vec F S256x768 .bf16) (wq : Vec F S768x512 .bf16) (wk wv : Vec F S768x128 .bf16)

/-! The heads are `headOf` of 64 columns of the projections. -/
theorem hd_0 : hd 0 x wq wk wv = headOf (extractStridedSlice S256x64 ![0, 0] (k0_pay2 x wq) slices_S256x512_o0_0_S256x64)
    (extractStridedSlice S256x64 ![0, 0] (k0_pay3 x wk) slices_S256x128_o0_0_S256x64) (extractStridedSlice S256x64 ![0, 0] (k0_pay4 x wv) slices_S256x128_o0_0_S256x64) := rfl
theorem hd_1 : hd 1 x wq wk wv = headOf (extractStridedSlice S256x64 ![0, 64] (k0_pay2 x wq) slices_S256x512_o0_64_S256x64)
    (extractStridedSlice S256x64 ![0, 0] (k0_pay3 x wk) slices_S256x128_o0_0_S256x64) (extractStridedSlice S256x64 ![0, 0] (k0_pay4 x wv) slices_S256x128_o0_0_S256x64) := rfl
theorem hd_2 : hd 2 x wq wk wv = headOf (extractStridedSlice S256x64 ![0, 128] (k0_pay2 x wq) slices_S256x512_o0_128_S256x64)
    (extractStridedSlice S256x64 ![0, 0] (k0_pay3 x wk) slices_S256x128_o0_0_S256x64) (extractStridedSlice S256x64 ![0, 0] (k0_pay4 x wv) slices_S256x128_o0_0_S256x64) := rfl
theorem hd_3 : hd 3 x wq wk wv = headOf (extractStridedSlice S256x64 ![0, 192] (k0_pay2 x wq) slices_S256x512_o0_192_S256x64)
    (extractStridedSlice S256x64 ![0, 0] (k0_pay3 x wk) slices_S256x128_o0_0_S256x64) (extractStridedSlice S256x64 ![0, 0] (k0_pay4 x wv) slices_S256x128_o0_0_S256x64) := rfl
theorem hd_4 : hd 4 x wq wk wv = headOf (extractStridedSlice S256x64 ![0, 256] (k0_pay2 x wq) slices_S256x512_o0_256_S256x64)
    (extractStridedSlice S256x64 ![0, 64] (k0_pay3 x wk) slices_S256x128_o0_64_S256x64) (extractStridedSlice S256x64 ![0, 64] (k0_pay4 x wv) slices_S256x128_o0_64_S256x64) := rfl
theorem hd_5 : hd 5 x wq wk wv = headOf (extractStridedSlice S256x64 ![0, 320] (k0_pay2 x wq) slices_S256x512_o0_320_S256x64)
    (extractStridedSlice S256x64 ![0, 64] (k0_pay3 x wk) slices_S256x128_o0_64_S256x64) (extractStridedSlice S256x64 ![0, 64] (k0_pay4 x wv) slices_S256x128_o0_64_S256x64) := rfl
theorem hd_6 : hd 6 x wq wk wv = headOf (extractStridedSlice S256x64 ![0, 384] (k0_pay2 x wq) slices_S256x512_o0_384_S256x64)
    (extractStridedSlice S256x64 ![0, 64] (k0_pay3 x wk) slices_S256x128_o0_64_S256x64) (extractStridedSlice S256x64 ![0, 64] (k0_pay4 x wv) slices_S256x128_o0_64_S256x64) := rfl
theorem hd_7 : hd 7 x wq wk wv = headOf (extractStridedSlice S256x64 ![0, 448] (k0_pay2 x wq) slices_S256x512_o0_448_S256x64)
    (extractStridedSlice S256x64 ![0, 64] (k0_pay3 x wk) slices_S256x128_o0_64_S256x64) (extractStridedSlice S256x64 ![0, 64] (k0_pay4 x wv) slices_S256x128_o0_64_S256x64) := rfl
end Heads

/-! ## At the extended reals -/

theorem scoresOf_apply (q k : FVec Ideal S256x64 .bf16) (r j : Fin 256) :
    scoresOf q k (Idealize.ShloMosaic.ix2 r j)
      = (∑ d : Fin 64, q (Idealize.ShloMosaic.ix2 r d) * k (Idealize.ShloMosaic.ix2 j d)) * Ideal.ofBits .f32 0x3E000000#32 := by
  pointwise [scoresOf]

theorem expsOf_apply (s : FVec Ideal S256x256 .f32) (r j : Fin 256) :
    expsOf s (Idealize.ShloMosaic.ix2 r j)
      = Ideal.exp (s (Idealize.ShloMosaic.ix2 r j)
          - Finset.univ.fold max (Ideal.ofBits .f32 0xFF800000#32) fun i : Fin 256 => s (Idealize.ShloMosaic.ix2 r i)) := by
  pointwise [expsOf]

theorem meansOf_apply (p : FVec Ideal S256x256 .f32) (v : FVec Ideal S256x64 .bf16) (r : Fin 256) (l : Fin 64) :
    meansOf p v (Idealize.ShloMosaic.ix2 r l)
      = Ideal.div (∑ j : Fin 256, p (Idealize.ShloMosaic.ix2 r j) * v (Idealize.ShloMosaic.ix2 j l)) (∑ j : Fin 256, p (Idealize.ShloMosaic.ix2 r j)) := by
  pointwise [meansOf]

/-- An element of a head is the softmax-weighted mean of the values' column. -/
theorem headOf_apply (q k v : FVec Ideal S256x64 .bf16) (r : Fin 256) (l : Fin 64) :
    headOf q k v (Idealize.ShloMosaic.ix2 r l)
      = softmean (fun j => (∑ d : Fin 64, q (Idealize.ShloMosaic.ix2 r d) * k (Idealize.ShloMosaic.ix2 j d)) * Ideal.ofBits .f32 0x3E000000#32)
          (fun j => v (Idealize.ShloMosaic.ix2 j l)) := by
  have h : headOf q k v = meansOf (expsOf (scoresOf q k)) v := by unfold headOf; funext j; pointwise
  rw [h, meansOf_apply]
  simp only [expsOf_apply, scoresOf_apply]
  rfl

end Cert.Proof

end
-- ==== Proof.Local.lean ====
/-
# What a device computes of its own heads

The elements of the eight heads of a device, and those of its partial product, as formulas of the device's arguments.
-/
module

public import proofs.«01_k».proof.Proof.Head

@[expose] public section

set_option maxRecDepth 16384

noncomputable section

namespace Cert.Proof

open Cert.KernelIdeal Cert.KernelIdeal.Gen
open Idealize.ShloMosaic Idealize.ShloMosaic.TcCoe

section Heads
variable (x : Vec Ideal S256x768 .bf16) (wq : Vec Ideal S768x512 .bf16) (wk wv w : Vec Ideal S768x128 .bf16)

/-! ## Sixty-four columns of a projection -/

theorem queries_0 (r : Fin 256) (d : Fin 64) :
    extractStridedSlice S256x64 ![0, 0] (k0_pay2 (F := Ideal) x wq) slices_S256x512_o0_0_S256x64 (Idealize.ShloMosaic.ix2 r d) = proj x wq r.val (0 + d.val) := by
  pointwise [k0_pay2]
  simp only [pair_eq, proj, Nat.zero_add]
theorem queries_64 (r : Fin 256) (d : Fin 64) :
    extractStridedSlice S256x64 ![0, 64] (k0_pay2 (F := Ideal) x wq) slices_S256x512_o0_64_S256x64 (Idealize.ShloMosaic.ix2 r d) = proj x wq r.val (64 + d.val) := by
  pointwise [k0_pay2]
  simp only [pair_eq, proj, Nat.zero_add]
theorem queries_128 (r : Fin 256) (d : Fin 64) :
    extractStridedSlice S256x64 ![0, 128] (k0_pay2 (F := Ideal) x wq) slices_S256x512_o0_128_S256x64 (Idealize.ShloMosaic.ix2 r d) = proj x wq r.val (128 + d.val) := by
  pointwise [k0_pay2]
  simp only [pair_eq, proj, Nat.zero_add]
theorem queries_192 (r : Fin 256) (d : Fin 64) :
    extractStridedSlice S256x64 ![0, 192] (k0_pay2 (F := Ideal) x wq) slices_S256x512_o0_192_S256x64 (Idealize.ShloMosaic.ix2 r d) = proj x wq r.val (192 + d.val) := by
  pointwise [k0_pay2]
  simp only [pair_eq, proj, Nat.zero_add]
theorem queries_256 (r : Fin 256) (d : Fin 64) :
    extractStridedSlice S256x64 ![0, 256] (k0_pay2 (F := Ideal) x wq) slices_S256x512_o0_256_S256x64 (Idealize.ShloMosaic.ix2 r d) = proj x wq r.val (256 + d.val) := by
  pointwise [k0_pay2]
  simp only [pair_eq, proj, Nat.zero_add]
theorem queries_320 (r : Fin 256) (d : Fin 64) :
    extractStridedSlice S256x64 ![0, 320] (k0_pay2 (F := Ideal) x wq) slices_S256x512_o0_320_S256x64 (Idealize.ShloMosaic.ix2 r d) = proj x wq r.val (320 + d.val) := by
  pointwise [k0_pay2]
  simp only [pair_eq, proj, Nat.zero_add]
theorem queries_384 (r : Fin 256) (d : Fin 64) :
    extractStridedSlice S256x64 ![0, 384] (k0_pay2 (F := Ideal) x wq) slices_S256x512_o0_384_S256x64 (Idealize.ShloMosaic.ix2 r d) = proj x wq r.val (384 + d.val) := by
  pointwise [k0_pay2]
  simp only [pair_eq, proj, Nat.zero_add]
theorem queries_448 (r : Fin 256) (d : Fin 64) :
    extractStridedSlice S256x64 ![0, 448] (k0_pay2 (F := Ideal) x wq) slices_S256x512_o0_448_S256x64 (Idealize.ShloMosaic.ix2 r d) = proj x wq r.val (448 + d.val) := by
  pointwise [k0_pay2]
  simp only [pair_eq, proj, Nat.zero_add]
theorem keys_0 (r : Fin 256) (d : Fin 64) :
    extractStridedSlice S256x64 ![0, 0] (k0_pay3 (F := Ideal) x w) slices_S256x128_o0_0_S256x64 (Idealize.ShloMosaic.ix2 r d) = proj x w r.val (0 + d.val) := by
  pointwise [k0_pay3]
  simp only [pair_eq, proj, Nat.zero_add]
theorem keys_64 (r : Fin 256) (d : Fin 64) :
    extractStridedSlice S256x64 ![0, 64] (k0_pay3 (F := Ideal) x w) slices_S256x128_o0_64_S256x64 (Idealize.ShloMosaic.ix2 r d) = proj x w r.val (64 + d.val) := by
  pointwise [k0_pay3]
  simp only [pair_eq, proj, Nat.zero_add]
theorem values_0 (r : Fin 256) (d : Fin 64) :
    extractStridedSlice S256x64 ![0, 0] (k0_pay4 (F := Ideal) x w) slices_S256x128_o0_0_S256x64 (Idealize.ShloMosaic.ix2 r d) = proj x w r.val (0 + d.val) := by
  pointwise [k0_pay4]
  simp only [pair_eq, proj, Nat.zero_add]
theorem values_64 (r : Fin 256) (d : Fin 64) :
    extractStridedSlice S256x64 ![0, 64] (k0_pay4 (F := Ideal) x w) slices_S256x128_o0_64_S256x64 (Idealize.ShloMosaic.ix2 r d) = proj x w r.val (64 + d.val) := by
  pointwise [k0_pay4]
  simp only [pair_eq, proj, Nat.zero_add]

/-! ## The heads -/

/-- Head `n` of a device, of its rows and its own columns: row `r`, coordinate `l`. -/
def localHead (n r l : ℕ) : EReal :=
  softmean (fun j => (∑ d : Fin 64, proj x wq r (64 * n + d.val) * proj x wk j.val (64 * (n / 4) + d.val)) * Ideal.ofBits .f32 0x3E000000#32)
    (fun j => proj x wv j.val (64 * (n / 4) + l))

theorem head_0 (r : Fin 256) (l : Fin 64) : hd (F := Ideal) 0 x wq wk wv (Idealize.ShloMosaic.ix2 r l) = localHead x wq wk wv 0 r.val l.val := by
  rw [hd_0, headOf_apply]
  simp only [queries_0, keys_0, values_0]
  rfl
theorem head_1 (r : Fin 256) (l : Fin 64) : hd (F := Ideal) 1 x wq wk wv (Idealize.ShloMosaic.ix2 r l) = localHead x wq wk wv 1 r.val l.val := by
  rw [hd_1, headOf_apply]
  simp only [queries_64, keys_0, values_0]
  rfl
theorem head_2 (r : Fin 256) (l : Fin 64) : hd (F := Ideal) 2 x wq wk wv (Idealize.ShloMosaic.ix2 r l) = localHead x wq wk wv 2 r.val l.val := by
  rw [hd_2, headOf_apply]
  simp only [queries_128, keys_0, values_0]
  rfl
theorem head_3 (r : Fin 256) (l : Fin 64) : hd (F := Ideal) 3 x wq wk wv (Idealize.ShloMosaic.ix2 r l) = localHead x wq wk wv 3 r.val l.val := by
  rw [hd_3, headOf_apply]
  simp only [queries_192, keys_0, values_0]
  rfl
theorem head_4 (r : Fin 256) (l : Fin 64) : hd (F := Ideal) 4 x wq wk wv (Idealize.ShloMosaic.ix2 r l) = localHead x wq wk wv 4 r.val l.val := by
  rw [hd_4, headOf_apply]
  simp only [queries_256, keys_64, values_64]
  rfl
theorem head_5 (r : Fin 256) (l : Fin 64) : hd (F := Ideal) 5 x wq wk wv (Idealize.ShloMosaic.ix2 r l) = localHead x wq wk wv 5 r.val l.val := by
  rw [hd_5, headOf_apply]
  simp only [queries_320, keys_64, values_64]
  rfl
theorem head_6 (r : Fin 256) (l : Fin 64) : hd (F := Ideal) 6 x wq wk wv (Idealize.ShloMosaic.ix2 r l) = localHead x wq wk wv 6 r.val l.val := by
  rw [hd_6, headOf_apply]
  simp only [queries_384, keys_64, values_64]
  rfl
theorem head_7 (r : Fin 256) (l : Fin 64) : hd (F := Ideal) 7 x wq wk wv (Idealize.ShloMosaic.ix2 r l) = localHead x wq wk wv 7 r.val l.val := by
  rw [hd_7, headOf_apply]
  simp only [queries_448, keys_64, values_64]
  rfl

/-- The eight of them in one statement. -/
theorem head_apply (n : ℕ) (hn : n < 8) (r l : ℕ) (hr : r < 256) (hl : l < 64) :
    hd (F := Ideal) n x wq wk wv (ix2 r l) = localHead x wq wk wv n r l := by
  rw [← pair_eq (⟨r, hr⟩ : Fin 256) (⟨l, hl⟩ : Fin 64)]
  match n, hn with
  | 0, _ => exact head_0 x wq wk wv _ _
  | 1, _ => exact head_1 x wq wk wv _ _
  | 2, _ => exact head_2 x wq wk wv _ _
  | 3, _ => exact head_3 x wq wk wv _ _
  | 4, _ => exact head_4 x wq wk wv _ _
  | 5, _ => exact head_5 x wq wk wv _ _
  | 6, _ => exact head_6 x wq wk wv _ _
  | 7, _ => exact head_7 x wq wk wv _ _

/-- The product with the output weights, element by element. -/
theorem partial_apply (o : Vec Ideal S256x512 .bf16) (wo : Vec Ideal S512x384 .bf16) (r : Fin 256) (l : Fin 384) :
    k0_pay23 (F := Ideal) o wo (Idealize.ShloMosaic.ix2 r l) = ∑ u : Fin 512, o (Idealize.ShloMosaic.ix2 r u) * wo (Idealize.ShloMosaic.ix2 u l) := by
  pointwise [k0_pay23]
end Heads

end Cert.Proof

end
-- ==== Proof.Device.lean ====
/-
# What a device's part is of the whole

Where the devices hold their blocks of the whole arrays, a device's heads are the layer's heads `8c` to `8c + 7`, its
partial product is the sum over its 512 of the 2048 columns, and what the exchange leaves is the layer's result.
-/
module

public import proofs.«01_k».proof.Proof.Local

@[expose] public section

set_option maxRecDepth 16384

noncomputable section

namespace Cert.Proof

open Cert.KernelIdeal Cert.KernelIdeal.Gen
open Idealize.ShloMosaic Idealize.ShloMosaic.TcCoe

variable (m : (ℓ : Loc nD τ sig) → Buf (Elt Ideal) ℓ)
variable (X : (⟨2, ![512, 768]⟩ : Shape).Idx → EReal) (Wq : (⟨2, ![768, 2048]⟩ : Shape).Idx → EReal)
  (Wk Wv : (⟨2, ![768, 512]⟩ : Shape).Idx → EReal) (Wo : (⟨2, ![2048, 768]⟩ : Shape).Idx → EReal)

/-- Every device holds the tokens and the key and value weights whole, its 512 columns of the query weights and its 512
    rows of the output weights. -/
structure Parts : Prop where
  x : ∀ c a b, xArg m c (ix2 a b) = X (ix2 a b)
  q : ∀ c a b, b < 512 → wqArg m c (ix2 a b) = Wq (ix2 a (512 * c.val + b))
  k : ∀ c a b, wkArg m c (ix2 a b) = Wk (ix2 a b)
  v : ∀ c a b, wvArg m c (ix2 a b) = Wv (ix2 a b)
  o : ∀ c a b, a < 512 → woArg m c (ix2 a b) = Wo (ix2 (512 * c.val + a) b)

variable {m X Wq Wk Wv Wo} (H : Parts m X Wq Wk Wv Wo)
include H

theorem xHalf_apply (h : ℕ) (c : Dev nD) (r e : ℕ) (hr : r < 256) (he : e < 768) : xHalf m h c (ix2 r e) = X (ix2 (256 * h + r) e) := by
  show xArg m c (ix2 (h * 256 + (ix2 (n := 256) (k := 768) r e 0).val) (ix2 (n := 256) (k := 768) r e 1).val) = _
  rw [H.x, ix2_zero _ _ hr, ix2_one _ _ he, Nat.mul_comm h 256]

theorem queries_apply (h : ℕ) (c : Dev nD) (r b : ℕ) (hr : r < 256) (hb : b < 512) :
    proj (xHalf m h c) (wqArg m c) r b = proj X Wq (256 * h + r) (512 * c.val + b) :=
  Finset.sum_congr rfl fun e _ => by rw [xHalf_apply H h c r e.val hr e.isLt, H.q c _ _ hb]

theorem keys_apply (h : ℕ) (c : Dev nD) (r b : ℕ) (hr : r < 256) (hb : b < 128) :
    proj (xHalf m h c) (colsOf c (wkArg m c)) r b = proj X Wk (256 * h + r) (128 * c.val + b) :=
  Finset.sum_congr rfl fun e _ => by
    rw [xHalf_apply H h c r e.val hr e.isLt]
    show _ * wkArg m c (ix2 (ix2 (n := 768) (k := 128) e.val b 0).val (128 * c.val + (ix2 (n := 768) (k := 128) e.val b 1).val)) = _
    rw [H.k, ix2_zero _ _ e.isLt, ix2_one _ _ hb]

theorem values_apply (h : ℕ) (c : Dev nD) (r b : ℕ) (hr : r < 256) (hb : b < 128) :
    proj (xHalf m h c) (colsOf c (wvArg m c)) r b = proj X Wv (256 * h + r) (128 * c.val + b) :=
  Finset.sum_congr rfl fun e _ => by
    rw [xHalf_apply H h c r e.val hr e.isLt]
    show _ * wvArg m c (ix2 (ix2 (n := 768) (k := 128) e.val b 0).val (128 * c.val + (ix2 (n := 768) (k := 128) e.val b 1).val)) = _
    rw [H.v, ix2_zero _ _ e.isLt, ix2_one _ _ hb]

/-- Head `n` of device `c` is head `8c + n` of the layer. -/
theorem headAt_apply (n h : ℕ) (c : Dev nD) (r l : ℕ) (hn : n < 8) (hr : r < 256) (hl : l < 64) :
    headAt m n h c (ix2 r l) = att X Wq Wk Wv h (8 * c.val + n) r l := by
  unfold headAt
  rw [head_apply _ _ _ _ n hn r l hr hl]
  unfold localHead att score
  have hk : (8 * c.val + n) / 4 = 2 * c.val + n / 4 := by omega
  have hn4 : n / 4 < 2 := by omega
  congr 1
  · funext j
    congr 1
    refine Finset.sum_congr rfl fun d _ => ?_
    have hd := d.isLt
    rw [queries_apply H h c r _ hr (by omega), keys_apply H h c j.val _ j.isLt (by omega), hk]
    congr 2 <;> omega
  · funext j
    rw [values_apply H h c j.val _ j.isLt (by omega), hk]
    congr 1; omega

theorem oN_apply (c : Dev nD) (a u : ℕ) (hu : u < 512) :
    oN m c a u = att X Wq Wk Wv (a / 256) (8 * c.val + u / 64) (a % 256) (u % 64) := by
  unfold oN
  exact headAt_apply H _ _ c _ _ (by omega) (Nat.mod_lt _ (by omega)) (Nat.mod_lt _ (by omega))

/-- A device's share of the layer's result: the sum over its own columns. -/
theorem pN_apply (c : Dev nD) (a b : ℕ) (ha : a < 512) (hb : b < 768) :
    pN m c a b = ∑ u : Fin 512, att X Wq Wk Wv (a / 256) ((512 * c.val + u.val) / 64) (a % 256) ((512 * c.val + u.val) % 64) * Wo (ix2 (512 * c.val + u.val) b) := by
  unfold pN pBlk
  have hr : a % 256 < 256 := Nat.mod_lt _ (by omega)
  have hl : b % 384 < 384 := Nat.mod_lt _ (by omega)
  rw [← pair_eq (⟨a % 256, hr⟩ : Fin 256) (⟨b % 384, hl⟩ : Fin 384), partial_apply]
  refine Finset.sum_congr rfl fun u _ => ?_
  have hu := u.isLt
  congr 1
  · show oN m c (a / 256 * 256 + a % 256) u.val = _
    rw [Nat.div_add_mod' a 256, oN_apply H c a u.val hu]
    congr 1 <;> omega
  · show woArg m c (ix2 u.val (384 * (b / 384) + b % 384)) = _
    rw [Nat.div_add_mod, H.o c _ _ hu]

omit H in
/-- A sum over 2048 is the sum of four sums over 512. -/
theorem sum_blocks (f : ℕ → EReal) :
    ∑ u : Fin 2048, f u.val = ∑ c : Fin 4, ∑ u : Fin 512, f (512 * c.val + u.val) := by
  have h := (Fintype.sum_equiv (finProdFinEquiv (m := 4) (n := 512)) (fun p => f (512 * p.1.val + p.2.val)) (fun u => f u.val)
    (fun p => by congr 1; simp [finProdFinEquiv]; omega)).symm
  rw [Fintype.sum_prod_type] at h
  exact h

omit H in
/-- What the two exchange steps leave, wherever they leave it, is the sum of the four devices' partial products. -/
theorem t2N_sum (c : Dev nD) (a b : ℕ) : t2N m c a b = ∑ d : Fin 4, pN m d a b := by
  rw [Fin.sum_univ_four]
  have add : ∀ x y : Elt Ideal .bf16, FloatOps.addf (F := Ideal) (φ := .bf16) x y = (x + y : EReal) := fun _ _ => rfl
  have key : ∀ p : Fin 4 → EReal, ∀ c : Fin 4, (p c + p (par1 c b)) + (p (par2 c b) + p (par1 (par2 c b) b)) = p 0 + p 1 + p 2 + p 3 := by
    intro p c
    have a0 : pa (0 : Fin 4) = (1 : Fin 4) := rfl
    have a1 : pa (1 : Fin 4) = (0 : Fin 4) := rfl
    have a2 : pa (2 : Fin 4) = (3 : Fin 4) := rfl
    have a3 : pa (3 : Fin 4) = (2 : Fin 4) := rfl
    have b0 : pb (0 : Fin 4) = (3 : Fin 4) := rfl
    have b1 : pb (1 : Fin 4) = (2 : Fin 4) := rfl
    have b2 : pb (2 : Fin 4) = (1 : Fin 4) := rfl
    have b3 : pb (3 : Fin 4) = (0 : Fin 4) := rfl
    unfold par1 par2
    by_cases hb : b < 384
    · simp only [if_pos hb]
      match c with
      | 0 => rw [a0, b0, a3]; abel
      | 1 => rw [a1, b1, a2]; abel
      | 2 => rw [a2, b2, a1]; abel
      | 3 => rw [a3, b3, a0]; abel
    · simp only [if_neg hb]
      match c with
      | 0 => rw [a0, b0, b1]; abel
      | 1 => rw [a1, b1, b0]; abel
      | 2 => rw [a2, b2, b3]; abel
      | 3 => rw [a3, b3, b2]; abel
  unfold t2N t1N
  rw [add, add, add]
  exact key (fun d => pN m d a b) c

/-- The array every device ends with is the layer's result. -/
theorem finN_apply (a b : ℕ) (ha : a < 512) (hb : b < 768) : finN m a b = result X Wq Wk Wv Wo a b := by
  unfold finN result
  rw [t2N_sum, sum_blocks fun u => att X Wq Wk Wv (a / 256) (u / 64) (a % 256) (u % 64) * Wo (ix2 u b)]
  exact Finset.sum_congr rfl fun c _ => pN_apply H c a b ha hb

end Cert.Proof

end
-- ==== Proof.Reference.lean ====
/-
# What the reference computes

The reference's arrays one by one, and their elements: its result is the layer's result.
-/
module

public import proofs.«01_k».proof.Proof.Spec
public import proofs.«01_k».proof.Proof.Gen.ReferenceIdeal
public import proofs.«01_k».proof.Proof.Gen.ReferenceIdeal.Run

@[expose] public section

set_option maxRecDepth 16384

noncomputable section

namespace Cert.Proof

open Cert.ReferenceIdeal Cert.ReferenceIdeal.Gen
open Idealize.ShloMosaic Idealize.ShloMosaic.TcCoe

/-! ## The arrays -/

section Arrays
variable (x : FVec Ideal S512x768 .bf16) (wq : FVec Ideal S768x2048 .bf16) (w : FVec Ideal S768x512 .bf16)

/-- The queries, by batch, row, head and coordinate. -/
def refQ : FVec Ideal S2x256x32x64 .bf16 :=
  shapeCast _ (truncf .bf16 (Host.dotGeneral dot_S2x256x768_S768x2048_S2x256x2048_2_0_01_1_n_n none (shapeCast _ x shapeCasts_S512x768_S2x256x768) wq) bitsLt_bf16_f32) shapeCasts_S2x256x2048_S2x256x32x64

/-- The keys (values), each head's repeated for its four query heads. -/
def refK : FVec Ideal S2x256x32x64 .bf16 :=
  shapeCast _ (broadcastInDim S2x256x8x4x64 ![0, 1, 2, 4] bcast_S2x256x8x64_S2x256x8x4x64_0_1_2_4 (shapeCast _ (truncf .bf16 (Host.dotGeneral dot_S2x256x768_S768x512_S2x256x512_2_0_01_1_n_n none (shapeCast _ x shapeCasts_S512x768_S2x256x768) w) bitsLt_bf16_f32) shapeCasts_S2x256x512_S2x256x8x64)) shapeCasts_S2x256x8x4x64_S2x256x32x64
end Arrays

/-- The scaled scores, by batch, head, query row and key row. -/
def refS (q k : FVec Ideal S2x256x32x64 .bf16) : FVec Ideal S2x32x256x256 .f32 :=
  mulf (extf .f32 (truncf .bf16 (Host.dotGeneral dot_S2x256x32x64_S2x256x32x64_S2x32x256x256_3_3_1_1_02_02 none q k) bitsLt_bf16_f32) bitsLt_bf16_f32) (broadcastInDim S2x32x256x256 ![] bcast_S_S2x32x256x256 (constant S_ .f32 0x3E000000#32))

/-- A column of numbers, none below the initial maximum. -/
def refAtLeast (y : FVec Ideal S2x32x256 .f32) : FVec Ideal S2x32x256x1 .f32 :=
  maximumf (broadcastInDim S2x32x256x1 ![] bcast_S_S2x32x256x1 (constant S_ .f32 0xFF800000#32)) (broadcastInDim S2x32x256x1 ![0, 1, 2] bcast_S2x32x256_S2x32x256x1_0_1_2 y)

/-- The running maximum after the one block of keys. -/
def refM (s : FVec Ideal S2x32x256x256 .f32) : FVec Ideal S2x32x256x1 .f32 :=
  refAtLeast (Host.reduce FloatOps.maximumf s (constant S_ .f32 0xFF800000#32) reducesTo_S2x32x256x256_S2x32x256_d3 h_S_)

/-- The factor by which the running sums are rescaled. -/
def refA (mx : FVec Ideal S2x32x256x1 .f32) : FVec Ideal S2x32x256x1 .f32 :=
  Host.exp (subf (broadcastInDim S2x32x256x1 ![] bcast_S_S2x32x256x1 (constant S_ .f32 0xFF800000#32)) mx)

/-- The exponentials. -/
def refP (s : FVec Ideal S2x32x256x256 .f32) (mx : FVec Ideal S2x32x256x1 .f32) : FVec Ideal S2x32x256x256 .f32 :=
  Host.exp (subf s (broadcastInDim S2x32x256x256 ![0, 1, 2, 3] bcast_S2x32x256x1_S2x32x256x256_0_1_2_3 mx))

/-- The running sum of the exponentials. -/
def refL (a : FVec Ideal S2x32x256x1 .f32) (p : FVec Ideal S2x32x256x256 .f32) : FVec Ideal S2x32x256x1 .f32 :=
  addf (mulf (broadcastInDim S2x32x256x1 ![] bcast_S_S2x32x256x1 (constant S_ .f32 0x00000000#32)) a) (broadcastInDim S2x32x256x1 ![0, 1, 2] bcast_S2x32x256_S2x32x256x1_0_1_2 (Host.reduceAdd p (constant S_ .f32 0x00000000#32) reducesTo_S2x32x256x256_S2x32x256_d3 h_S_))

/-- The running weighted sum of the values. -/
def refO (a : FVec Ideal S2x32x256x1 .f32) (p : FVec Ideal S2x32x256x256 .f32) (v : FVec Ideal S2x256x32x64 .bf16) : FVec Ideal S2x256x32x64 .f32 :=
  addf (mulf (broadcastInDim S2x256x32x64 ![] bcast_S_S2x256x32x64 (constant S_ .f32 0x00000000#32)) (broadcastInDim S2x256x32x64 ![0, 1, 2, 3] bcast_S2x256x32x1_S2x256x32x64_0_1_2_3 (transpose S2x256x32x1 [0, 2, 1, 3] a transposes_S2x32x256x1_S2x256x32x1_0_2_1_3)))
    (transpose S2x256x32x64 [0, 3, 1, 2] (Host.dotGeneral dot_S2x256x32x64_S2x32x256x256_S2x32x64x256_1_3_3_2_02_01 none (extf .f32 v bitsLt_bf16_f32) p) transposes_S2x32x64x256_S2x256x32x64_0_3_1_2)

/-- The attention output. -/
def refD (o : FVec Ideal S2x256x32x64 .f32) (l : FVec Ideal S2x32x256x1 .f32) : FVec Ideal S2x256x32x64 .f32 :=
  Host.divf o (broadcastInDim S2x256x32x64 ![0, 1, 2, 3] bcast_S2x256x32x1_S2x256x32x64_0_1_2_3 (transpose S2x256x32x1 [0, 2, 1, 3] l transposes_S2x32x256x1_S2x256x32x1_0_2_1_3))

/-- Its product with the output weights. -/
def refF (d : FVec Ideal S2x256x32x64 .f32) (wo : FVec Ideal S2048x768 .bf16) : FVec Ideal S512x768 .f32 :=
  shapeCast _ (Host.dotGeneral dot_S2x256x2048_S2048x768_S2x256x768_2_0_01_1_n_n none (shapeCast _ d shapeCasts_S2x256x32x64_S2x256x2048) (extf .f32 wo bitsLt_bf16_f32)) shapeCasts_S2x256x768_S512x768

/-- The attention output of the queries, keys and values. -/
def refAtt (q k v : FVec Ideal S2x256x32x64 .bf16) : FVec Ideal S2x256x32x64 .f32 :=
  refD (refO (refA (refM (refS q k))) (refP (refS q k) (refM (refS q k))) v) (refL (refA (refM (refS q k))) (refP (refS q k) (refM (refS q k))))

/-- The reference's result is these arrays, one after the other. -/
theorem ref_stages (m : (ℓ : Loc nD τ sig) → Buf (Elt Ideal) ℓ) (c : Dev nD) :
    Cert.ReferenceIdeal.Value.res_main_v47 m c
      = refF (refAtt (refQ (m ((c.tc : Thread nD τ).loc main_arg0)) (m ((c.tc : Thread nD τ).loc main_arg1)))
          (refK (m ((c.tc : Thread nD τ).loc main_arg0)) (m ((c.tc : Thread nD τ).loc main_arg2)))
          (refK (m ((c.tc : Thread nD τ).loc main_arg0)) (m ((c.tc : Thread nD τ).loc main_arg3))))
        (m ((c.tc : Thread nD τ).loc main_arg4)) := rfl

/-! ## Their elements -/

section Elements

theorem refQ_apply (x : FVec Ideal S512x768 .bf16) (wq : FVec Ideal S768x2048 .bf16) (t : Fin 2) (i : Fin 256) (h : Fin 32) (d : Fin 64) :
    refQ x wq (ix4 t i h d) = proj x wq (256 * t.val + i.val) (64 * h.val + d.val) := by
  pointwise [refQ]
  simp only [pair_eq, proj, Nat.mul_comm]

theorem refK_apply (x : FVec Ideal S512x768 .bf16) (w : FVec Ideal S768x512 .bf16) (t : Fin 2) (i : Fin 256) (h : Fin 32) (d : Fin 64) :
    refK x w (ix4 t i h d) = proj x w (256 * t.val + i.val) (64 * (h.val / 4) + d.val) := by
  pointwise [refK]
  simp only [pair_eq, proj, Nat.mul_comm]

theorem refS_apply (q k : FVec Ideal S2x256x32x64 .bf16) (t : Fin 2) (h : Fin 32) (i j : Fin 256) :
    refS q k (ix4 t h i j) = (∑ d : Fin 64, q (ix4 t i h d) * k (ix4 t j h d)) * Ideal.ofBits .f32 0x3E000000#32 := by
  pointwise [refS]

/-- The greatest score of a row. -/
theorem rowMax (s : FVec Ideal S2x32x256x256 .f32) (z : FVec Ideal S_ .f32) (t : Fin 2) (h : Fin 32) (i : Fin 256) :
    Host.reduce FloatOps.maximumf s z reducesTo_S2x32x256x256_S2x32x256_d3 h_S_ (ix3 t h i)
      = Finset.univ.fold FloatOps.maximumf (z (Shape.Idx.first h_S_)) fun j : Fin 256 => s (ix4 t h i j) := by
  rw [Host.reduce_eq_fold, Shape.ReducesTo.fold_fiber_r4_a3]
  rfl

/-- A maximum that starts at `b` is at least `b`. -/
theorem fold_ge (b : EReal) (f : Fin 256 → EReal) : max b (Finset.univ.fold max b f) = Finset.univ.fold max b f :=
  max_eq_right (Finset.le_fold_max b |>.mpr (Or.inl le_rfl))

theorem refAtLeast_apply (y : FVec Ideal S2x32x256 .f32) (t : Fin 2) (h : Fin 32) (i : Fin 256) (u : Fin 1) :
    refAtLeast y (ix4 t h i u) = max (Ideal.ofBits .f32 0xFF800000#32) (y (ix3 t h i)) := by
  pointwise [refAtLeast]

theorem refM_apply (s : FVec Ideal S2x32x256x256 .f32) (t : Fin 2) (h : Fin 32) (i : Fin 256) (u : Fin 1) :
    refM s (ix4 t h i u) = Finset.univ.fold max (Ideal.ofBits .f32 0xFF800000#32) fun j : Fin 256 => s (ix4 t h i j) := by
  unfold refM
  rw [refAtLeast_apply, rowMax]
  exact fold_ge _ _

theorem refP_apply (s : FVec Ideal S2x32x256x256 .f32) (mx : FVec Ideal S2x32x256x1 .f32) (t : Fin 2) (h : Fin 32) (i j : Fin 256) :
    refP s mx (ix4 t h i j) = Ideal.exp (s (ix4 t h i j) - mx (ix4 t h i 0)) := by
  pointwise [refP]

theorem refL_apply (a : FVec Ideal S2x32x256x1 .f32) (p : FVec Ideal S2x32x256x256 .f32) (t : Fin 2) (h : Fin 32) (i : Fin 256) (u : Fin 1) :
    refL a p (ix4 t h i u) = ∑ j : Fin 256, p (ix4 t h i j) := by
  pointwise [refL]
  rw [zero_mul, zero_add]

theorem refO_apply (a : FVec Ideal S2x32x256x1 .f32) (p : FVec Ideal S2x32x256x256 .f32) (v : FVec Ideal S2x256x32x64 .bf16)
    (t : Fin 2) (i : Fin 256) (h : Fin 32) (d : Fin 64) :
    refO a p v (ix4 t i h d) = ∑ j : Fin 256, p (ix4 t h i j) * v (ix4 t j h d) := by
  pointwise [refO]
  rw [zero_mul, zero_add]
  exact Finset.sum_congr rfl fun j _ => mul_comm _ _

theorem refD_apply (o : FVec Ideal S2x256x32x64 .f32) (l : FVec Ideal S2x32x256x1 .f32) (t : Fin 2) (i : Fin 256) (h : Fin 32) (d : Fin 64) :
    refD o l (ix4 t i h d) = Ideal.div (o (ix4 t i h d)) (l (ix4 t h i 0)) := by
  pointwise [refD]

theorem refF_apply (d : FVec Ideal S2x256x32x64 .f32) (wo : FVec Ideal S2048x768 .bf16) (a : Fin 512) (b : Fin 768) :
    refF d wo (Idealize.ShloMosaic.ix2 a b)
      = ∑ u : Fin 2048, d (ix4 (⟨a.val / 256, by have := a.isLt; omega⟩ : Fin 2) (⟨a.val % 256, Nat.mod_lt _ (by omega)⟩ : Fin 256)
          (⟨u.val / 64, by have := u.isLt; omega⟩ : Fin 32) (⟨u.val % 64, Nat.mod_lt _ (by omega)⟩ : Fin 64)) * wo (Idealize.ShloMosaic.ix2 u b) := by
  pointwise [refF]

variable (x : FVec Ideal S512x768 .bf16) (wq : FVec Ideal S768x2048 .bf16) (wk wv : FVec Ideal S768x512 .bf16) (wo : FVec Ideal S2048x768 .bf16)

/-- The attention output is the layer's. -/
theorem refAtt_apply (t : Fin 2) (i : Fin 256) (h : Fin 32) (d : Fin 64) :
    refAtt (refQ x wq) (refK x wk) (refK x wv) (ix4 t i h d) = att x wq wk wv t.val h.val i.val d.val := by
  unfold refAtt
  rw [refD_apply, refO_apply, refL_apply]
  simp only [refP_apply, refM_apply, refS_apply, refQ_apply, refK_apply]
  rfl

/-- The reference's result is the layer's. -/
theorem refResult_apply (a : Fin 512) (b : Fin 768) :
    refF (refAtt (refQ x wq) (refK x wk) (refK x wv)) wo (Idealize.ShloMosaic.ix2 a b) = result x wq wk wv wo a.val b.val := by
  rw [refF_apply]
  refine Finset.sum_congr rfl fun u _ => ?_
  rw [refAtt_apply, pair_eq u b]

end Elements

end Cert.Proof

end
-- ==== Proof.Equation.lean ====
/-
# The kernel's result is the reference's

Where the devices hold their blocks of the reference's arguments, the array that every device of the kernel ends with is
the array that the reference ends with.
-/
module

public import proofs.«01_k».proof.Proof.Frames
public import proofs.«01_k».proof.Proof.Device
public import proofs.«01_k».proof.Proof.Reference

@[expose] public section

set_option maxRecDepth 16384

noncomputable section

namespace Cert.Proof

open Idealize.ShloMosaic Idealize.ShloMosaic.TcCoe

/-- Column block `c` of the query weights, element by element. -/
theorem block_cols (W : (⟨2, ![768, 2048]⟩ : Shape).Idx → EReal) (c : Fin 4) (a b : ℕ) (hb : b < 512) :
    Layout.block ⟨2, ![768, 512]⟩ ⟨2, ![768, 2048]⟩ 1 4 c W (by decide) (ix2 a b) = W (ix2 a (512 * c.val + b)) := by
  rw [Layout.block_apply]
  refine congrArg W (funext fun q => Fin.ext ?_)
  have hc := c.isLt
  match q with
  | ⟨0, _⟩ => exact rfl
  | ⟨1, _⟩ => show c.val * 512 + b % 512 = (512 * c.val + b) % 2048; omega

/-- Row block `c` of the output weights, element by element. -/
theorem block_rows (W : (⟨2, ![2048, 768]⟩ : Shape).Idx → EReal) (c : Fin 4) (a b : ℕ) (ha : a < 512) :
    Layout.block ⟨2, ![512, 768]⟩ ⟨2, ![2048, 768]⟩ 0 4 c W (by decide) (ix2 a b) = W (ix2 (512 * c.val + a) b) := by
  rw [Layout.block_apply]
  refine congrArg W (funext fun q => Fin.ext ?_)
  have hc := c.isLt
  match q with
  | ⟨0, _⟩ => show c.val * 512 + a % 512 = (512 * c.val + a) % 2048; omega
  | ⟨1, _⟩ => exact rfl

/-- What every device ends with, where the devices hold their parts of `X`, `Wq`, `Wk`, `Wv` and `Wo`, is the reference's
    array of them. -/
theorem outFin_eq (m : (ℓ : Loc Cert.KernelIdeal.nD Cert.KernelIdeal.τ Cert.KernelIdeal.sig) → Buf (Elt Ideal) ℓ)
    (X : (⟨2, ![512, 768]⟩ : Shape).Idx → EReal) (Wq : (⟨2, ![768, 2048]⟩ : Shape).Idx → EReal)
    (Wk Wv : (⟨2, ![768, 512]⟩ : Shape).Idx → EReal) (Wo : (⟨2, ![2048, 768]⟩ : Shape).Idx → EReal) (H : Parts m X Wq Wk Wv Wo) :
    outFin m = refF (refAtt (refQ X Wq) (refK X Wk) (refK X Wv)) Wo := by
  funext i
  have hi : i = Idealize.ShloMosaic.ix2 (n0 := 512) (n1 := 768) (i 0) (i 1) := Idealize.ShloMosaic.eq_ix2 i
  have h1 : outFin m i = result X Wq Wk Wv Wo (i 0).val (i 1).val := finN_apply H _ _ (i 0).isLt (i 1).isLt
  exact h1.trans ((congrArg _ hi).trans (refResult_apply X Wq Wk Wv Wo (i 0) (i 1))).symm

/-- Over the extended reals, the kernel on four devices and the reference on one end with the same array. -/
theorem equation : Cert.algebraic_KernelIdeal_ReferenceIdeal := by
  intro m g m' g' _ hm
  have H : Parts m (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1))
      (m' (((0 : Dev Cert.ReferenceIdeal.nD) : Thread Cert.ReferenceIdeal.nD Cert.ReferenceIdeal.τ).loc Cert.ReferenceIdeal.main_arg2))
      (m' (((0 : Dev Cert.ReferenceIdeal.nD) : Thread Cert.ReferenceIdeal.nD Cert.ReferenceIdeal.τ).loc Cert.ReferenceIdeal.main_arg3))
      (m' (((0 : Dev Cert.ReferenceIdeal.nD) : Thread Cert.ReferenceIdeal.nD Cert.ReferenceIdeal.τ).loc Cert.ReferenceIdeal.main_arg4)) :=
    { x := fun c a b => congrFun (hm c).1 _
      q := fun c a b hb => (congrFun (hm c).2.1 _).trans (block_cols _ c a b hb)
      k := fun c a b => congrFun (hm c).2.2.1 _
      v := fun c a b => congrFun (hm c).2.2.2.1 _
      o := fun c a b ha => (congrFun (hm c).2.2.2.2 _).trans (block_rows _ c a b ha) }
  refine ⟨Cert.ReferenceIdeal.Value.res_main_v47 m' 0, ?_, ?_⟩
  · refine (θ_run Cert.KernelIdeal.defs _ _).mono (fun r h c => ?_) (run_main (F := Ideal) m g)
    exact ⟨((h.1 c).1.trans (outFin_eq m _ _ _ _ _ H)).trans (ref_stages m' 0).symm, (h.1 c).2⟩
  · exact (θ_run Cert.ReferenceIdeal.defs _ _).mono (fun r h => h 0) (Cert.ReferenceIdeal.Value.run (F := Ideal) m' g')

end Cert.Proof

end
-- ==== Proof.lean ====
/-
The proof of `Cert.Claim`, assembled from the modules beside it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The claim. -/
theorem claim : Cert.Claim :=
  ⟨Cert.Kernel.Gen.facts, Cert.KernelIdeal.Gen.facts, Cert.ReferenceIdeal.Gen.facts, frame_kernel, frame_ideal, frame_reference, trivial, equation⟩

end Cert.Proof

end
